-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  IdealRules.named_const.Statement Cert.KernelIdeal.κ "inv_seq" .f32 0x3ACCCCCD#32 ((1 / 640 : ℝ) : EReal)
  ∧ IdealRules.named_const.Statement Cert.KernelIdeal.κ "log2_scale" .f32 0x3DE995B3#32 (((Real.sqrt 160)⁻¹ * (Real.log 2)⁻¹ : ℝ) : EReal)

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)) (v2 : (c : Dev Cert.KernelIdeal.nD) → Buf (Elt Ideal) ((c.tc : Thread Cert.KernelIdeal.nD Cert.KernelIdeal.τ).loc Cert.KernelIdeal.main_v0_2)) (v3 : (c : Dev Cert.KernelIdeal.nD) → Buf (Elt Ideal) ((c.tc : Thread Cert.KernelIdeal.nD Cert.KernelIdeal.τ).loc Cert.KernelIdeal.main_v0_3)) (v4 : (c : Dev Cert.KernelIdeal.nD) → Buf (Elt Ideal) ((c.tc : Thread Cert.KernelIdeal.nD Cert.KernelIdeal.τ).loc Cert.KernelIdeal.main_v0_4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_v0_2) = v2 c
          ∧ r.2.mem ((c.tc : Thread Cert.KernelIdeal.nD Cert.KernelIdeal.τ).loc Cert.KernelIdeal.main_v0_3) = v3 c
          ∧ r.2.mem ((c.tc : Thread Cert.KernelIdeal.nD Cert.KernelIdeal.τ).loc Cert.KernelIdeal.main_v0_4) = v4 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0_0) = v0 c
          ∧ r.2.mem ((c.tc : Thread Cert.ReferenceIdeal.nD Cert.ReferenceIdeal.τ).loc Cert.ReferenceIdeal.main_v0_1) = v1 c
          ∧ r.2.mem ((c.tc : Thread Cert.ReferenceIdeal.nD Cert.ReferenceIdeal.τ).loc Cert.ReferenceIdeal.main_v0_2) = v2 c
          ∧ r.2.mem ((c.tc : Thread Cert.ReferenceIdeal.nD Cert.ReferenceIdeal.τ).loc Cert.ReferenceIdeal.main_v0_3) = v3 c
          ∧ r.2.mem ((c.tc : Thread Cert.ReferenceIdeal.nD Cert.ReferenceIdeal.τ).loc Cert.ReferenceIdeal.main_v0_4) = v4 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S2x640x5120 : Shape := ⟨3, ![2, 640, 5120]⟩
abbrev S2x640x1280 : Shape := ⟨3, ![2, 640, 1280]⟩
abbrev S2x32x160x640 : Shape := ⟨4, ![2, 32, 160, 640]⟩
abbrev S5x2x32 : Shape := ⟨3, ![5, 2, 32]⟩
abbrev S2x8x160x640 : Shape := ⟨4, ![2, 8, 160, 640]⟩
abbrev S2x8x10 : Shape := ⟨3, ![2, 8, 10]⟩
abbrev S1x640x640 : Shape := ⟨3, ![1, 640, 640]⟩
abbrev S1x4x160x640 : Shape := ⟨4, ![1, 4, 160, 640]⟩
abbrev S1x8x10 : Shape := ⟨3, ![1, 8, 10]⟩
abbrev S640x640 : Shape := ⟨2, ![640, 640]⟩
abbrev S4x640x256 : Shape := ⟨3, ![4, 640, 256]⟩
abbrev S4x16x128 : Shape := ⟨3, ![4, 16, 128]⟩
abbrev S5x160x512 : Shape := ⟨3, ![5, 160, 512]⟩
abbrev S2x640x256 : Shape := ⟨3, ![2, 640, 256]⟩
abbrev S4x640x96 : Shape := ⟨3, ![4, 640, 96]⟩
abbrev S1x128 : Shape := ⟨2, ![1, 128]⟩
abbrev S1x640x128 : Shape := ⟨3, ![1, 640, 128]⟩
abbrev S640x128 : Shape := ⟨2, ![640, 128]⟩
abbrev S128x640 : Shape := ⟨2, ![128, 640]⟩
abbrev S160x640 : Shape := ⟨2, ![160, 640]⟩
abbrev S160 : Shape := ⟨1, ![160]⟩
abbrev S160x1 : Shape := ⟨2, ![160, 1]⟩
abbrev S1x10 : Shape := ⟨2, ![1, 10]⟩
abbrev S160x128 : Shape := ⟨2, ![160, 128]⟩
abbrev S128 : Shape := ⟨1, ![128]⟩
abbrev S1 : Shape := ⟨1, ![1]⟩
abbrev S1x1 : Shape := ⟨2, ![1, 1]⟩
abbrev S1x1x160x128 : Shape := ⟨4, ![1, 1, 160, 128]⟩
abbrev S128x160 : Shape := ⟨2, ![128, 160]⟩
abbrev S1x128x160 : Shape := ⟨3, ![1, 128, 160]⟩
abbrev S1x1x128 : Shape := ⟨3, ![1, 1, 128]⟩
abbrev S1x1x10 : Shape := ⟨3, ![1, 1, 10]⟩
abbrev S1x32 : Shape := ⟨2, ![1, 32]⟩
abbrev S128x128 : Shape := ⟨2, ![128, 128]⟩
abbrev S1x128x128 : Shape := ⟨3, ![1, 128, 128]⟩
abbrev S1x1x32 : Shape := ⟨3, ![1, 1, 32]⟩
abbrev S1x160x128 : Shape := ⟨3, ![1, 160, 128]⟩
abbrev S1x1x1 : Shape := ⟨3, ![1, 1, 1]⟩
abbrev S1x160x256 : Shape := ⟨3, ![1, 160, 256]⟩
abbrev S160x256 : Shape := ⟨2, ![160, 256]⟩
abbrev S128x256 : Shape := ⟨2, ![128, 256]⟩
abbrev S64x128 : Shape := ⟨2, ![64, 128]⟩
abbrev S1x64x128 : Shape := ⟨3, ![1, 64, 128]⟩
abbrev S8x8x128 : Shape := ⟨3, ![8, 8, 128]⟩
abbrev S8x128 : Shape := ⟨2, ![8, 128]⟩
abbrev S1x128x256 : Shape := ⟨3, ![1, 128, 256]⟩
abbrev S1x256x160 : Shape := ⟨3, ![1, 256, 160]⟩
abbrev S256x160 : Shape := ⟨2, ![256, 160]⟩
abbrev S256x256 : Shape := ⟨2, ![256, 256]⟩
abbrev S1x256x256 : Shape := ⟨3, ![1, 256, 256]⟩
abbrev S1x384x160 : Shape := ⟨3, ![1, 384, 160]⟩
abbrev S384x160 : Shape := ⟨2, ![384, 160]⟩
abbrev S384x256 : Shape := ⟨2, ![384, 256]⟩
abbrev S160x384 : Shape := ⟨2, ![160, 384]⟩
abbrev S1x384x256 : Shape := ⟨3, ![1, 384, 256]⟩
abbrev S1x512x160 : Shape := ⟨3, ![1, 512, 160]⟩
abbrev S512x160 : Shape := ⟨2, ![512, 160]⟩
abbrev S512x256 : Shape := ⟨2, ![512, 256]⟩
abbrev S160x512 : Shape := ⟨2, ![160, 512]⟩
abbrev S1x512x256 : Shape := ⟨3, ![1, 512, 256]⟩
abbrev S1x640x160 : Shape := ⟨3, ![1, 640, 160]⟩
abbrev S640x160 : Shape := ⟨2, ![640, 160]⟩
abbrev S640x256 : Shape := ⟨2, ![640, 256]⟩
abbrev S1x640x256 : Shape := ⟨3, ![1, 640, 256]⟩

abbrev nBuf : Space → Nat
  | .hbm => 8
  | .vmem => 22
  | .smem => 0
  | _ => 0

abbrev bufTy : (tb : Table) → Fin (tcTables nBuf tb) → BufTy
  | .hbm, ⟨0, _⟩ => ⟨S2x640x5120, .bf16⟩
  | .hbm, ⟨1, _⟩ => ⟨S2x640x1280, .bf16⟩
  | .hbm, ⟨2, _⟩ => ⟨S2x640x1280, .bf16⟩
  | .hbm, ⟨3, _⟩ => ⟨S2x640x5120, .bf16⟩
  | .hbm, ⟨4, _⟩ => ⟨S2x32x160x640, .i8⟩
  | .hbm, ⟨5, _⟩ => ⟨S5x2x32, .f32⟩
  | .hbm, ⟨6, _⟩ => ⟨S2x8x160x640, .i8⟩
  | .hbm, ⟨7, _⟩ => ⟨S2x8x10, .f32⟩
  | .local _ .vmem, ⟨0, _⟩ => ⟨S1x640x640, .bf16⟩
  | .local _ .vmem, ⟨1, _⟩ => ⟨S1x640x640, .bf16⟩
  | .local _ .vmem, ⟨2, _⟩ => ⟨S1x640x640, .bf16⟩
  | .local _ .vmem, ⟨3, _⟩ => ⟨S1x640x640, .bf16⟩
  | .local _ .vmem, ⟨4, _⟩ => ⟨S1x640x640, .bf16⟩
  | .local _ .vmem, ⟨5, _⟩ => ⟨S1x640x640, .bf16⟩
  | .local _ .vmem, ⟨6, _⟩ => ⟨S1x640x640, .bf16⟩
  | .local _ .vmem, ⟨7, _⟩ => ⟨S1x640x640, .bf16⟩
  | .local _ .vmem, ⟨8, _⟩ => ⟨S1x4x160x640, .i8⟩
  | .local _ .vmem, ⟨9, _⟩ => ⟨S1x4x160x640, .i8⟩
  | .local _ .vmem, ⟨10, _⟩ => ⟨S5x2x32, .f32⟩
  | .local _ .vmem, ⟨11, _⟩ => ⟨S1x4x160x640, .i8⟩
  | .local _ .vmem, ⟨12, _⟩ => ⟨S1x4x160x640, .i8⟩
  | .local _ .vmem, ⟨13, _⟩ => ⟨S1x8x10, .f32⟩
  | .local _ .vmem, ⟨14, _⟩ => ⟨S1x8x10, .f32⟩
  | .local _ .vmem, ⟨15, _⟩ => ⟨S640x640, .bf16⟩
  | .local _ .vmem, ⟨16, _⟩ => ⟨S640x640, .bf16⟩
  | .local _ .vmem, ⟨17, _⟩ => ⟨S4x640x256, .bf16⟩
  | .local _ .vmem, ⟨18, _⟩ => ⟨S4x16x128, .f32⟩
  | .local _ .vmem, ⟨19, _⟩ => ⟨S5x160x512, .bf16⟩
  | .local _ .vmem, ⟨20, _⟩ => ⟨S2x640x256, .f32⟩
  | .local _ .vmem, ⟨21, _⟩ => ⟨S2x640x256, .bf16⟩
  | _, _ => ⟨S2x640x5120, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v0_2 : Ref sig .tc := ⟨.hbm, 5, rfl⟩
abbrev main_v0_3 : Ref sig .tc := ⟨.hbm, 6, rfl⟩
abbrev main_v0_4 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_scratch0 : Ref sig .tc := ⟨.vmem, 15, rfl⟩
abbrev cc0_scratch1 : Ref sig .tc := ⟨.vmem, 16, rfl⟩
abbrev cc0_scratch2 : Ref sig .tc := ⟨.vmem, 17, rfl⟩
abbrev cc0_scratch3 : Ref sig .tc := ⟨.vmem, 18, rfl⟩
abbrev cc0_scratch4 : Ref sig .tc := ⟨.vmem, 19, rfl⟩
abbrev cc0_scratch5 : Ref sig .tc := ⟨.vmem, 20, rfl⟩
abbrev cc0_scratch6 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem6_1 : DmaSem sig := 12
abbrev cc0_sem7_0 : DmaSem sig := 13
abbrev cc0_sem7_1 : DmaSem sig := 14

abbrev nD : Nat := 1
abbrev τ : Topo := Topo.v7x

variable {F : FTy → Type} [FloatOps F]

abbrev grid0 : Pipeline.Grid := ⟨2, ![2, 8], ![false, false]⟩

def k0_cond2 (i : grid0.Coords) : BitVec 1 :=
  let arg1 : BitVec 32 := BitVec.ofNat 32 (i 1).val
  let c4_i32 : BitVec 32 := 4#32
  let c0_i32 : BitVec 32 := 0#32
  let v0 : BitVec 1 := Scalar.cmpi .eq c4_i32 c0_i32
  let c1_i32 : BitVec 32 := 1#32
  let v1 : BitVec 32 := Scalar.select v0 c1_i32 c4_i32
  let v2 : BitVec 32 := Scalar.remsi arg1 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c0_i32_5 : BitVec 32 := 0#32
  let v13 : BitVec 1 := Scalar.cmpi .eq v9 c0_i32_5
  let v14 : BitVec 32 := Scalar.extui v13
  let c0_i32_6 : BitVec 32 := 0#32
  let v15 : BitVec 1 := Scalar.cmpi .ne v14 c0_i32_6
  v15

def k0_off1 (i : grid0.Coords) (c0_i32_2459 : BitVec 32) : Fin 3 → Nat :=
  let c0_2460 : Index := 0#32
  let arg1 : BitVec 32 := BitVec.ofNat 32 (i 1).val
  let v4991 : BitVec 32 := Scalar.addi arg1 c0_i32_2459
  let v4992 : Index := Scalar.indexCast v4991
  let c0_2461 : Index := 0#32
  ![0, v4992.toNat, 0]
def k0_mult1 (i : grid0.Coords) : BitVec 32 :=
  let arg1 : BitVec 32 := BitVec.ofNat 32 (i 1).val
  let c4_i32 : BitVec 32 := 4#32
  let c0_i32 : BitVec 32 := 0#32
  let v0 : BitVec 1 := Scalar.cmpi .eq c4_i32 c0_i32
  let c1_i32 : BitVec 32 := 1#32
  let v1 : BitVec 32 := Scalar.select v0 c1_i32 c4_i32
  let v2 : BitVec 32 := Scalar.remsi arg1 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c160_i32 : BitVec 32 := 160#32
  let v20 : BitVec 32 := Scalar.muli v9 c160_i32
  v20
def k0_off2 (i : grid0.Coords) : Fin 3 → Nat :=
  let c0_18 : Index := 0#32
  let arg0 : BitVec 32 := BitVec.ofNat 32 (i 0).val
  let v40 : Index := Scalar.indexCast arg0
  let c0_19 : Index := 0#32
  ![0, v40.toNat, 0]
def k0_off3 (i : grid0.Coords) : Fin 3 → Nat :=
  let arg1 : BitVec 32 := BitVec.ofNat 32 (i 1).val
  let c4_i32 : BitVec 32 := 4#32
  let c0_i32 : BitVec 32 := 0#32
  let v0 : BitVec 1 := Scalar.cmpi .eq c4_i32 c0_i32
  let c1_i32 : BitVec 32 := 1#32
  let v1 : BitVec 32 := Scalar.select v0 c1_i32 c4_i32
  let v2 : BitVec 32 := Scalar.remsi arg1 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v196 : Index := Scalar.indexCast v9
  let c0_77 : Index := 0#32
  let c0_78 : Index := 0#32
  ![v196.toNat, 0, 0]
def k0_off4 (i : grid0.Coords) : Fin 3 → Nat :=
  let arg1 : BitVec 32 := BitVec.ofNat 32 (i 1).val
  let c4_i32 : BitVec 32 := 4#32
  let c0_i32 : BitVec 32 := 0#32
  let v0 : BitVec 1 := Scalar.cmpi .eq c4_i32 c0_i32
  let c1_i32 : BitVec 32 := 1#32
  let v1 : BitVec 32 := Scalar.select v0 c1_i32 c4_i32
  let v2 : BitVec 32 := Scalar.remsi arg1 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v203 : Index := Scalar.indexCast v9
  let c0_83 : Index := 0#32
  let c0_84 : Index := 0#32
  ![v203.toNat, 0, 0]
def k0_off5 (i : grid0.Coords) : Fin 3 → Nat :=
  let arg1 : BitVec 32 := BitVec.ofNat 32 (i 1).val
  let c4_i32 : BitVec 32 := 4#32
  let c0_i32 : BitVec 32 := 0#32
  let v0 : BitVec 1 := Scalar.cmpi .eq c4_i32 c0_i32
  let c1_i32 : BitVec 32 := 1#32
  let v1 : BitVec 32 := Scalar.select v0 c1_i32 c4_i32
  let v2 : BitVec 32 := Scalar.remsi arg1 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v219 : Index := Scalar.indexCast v9
  let c1_90 : Index := 1#32
  let c0_91 : Index := 0#32
  ![v219.toNat, 1, 0]
def k0_off6 (i : grid0.Coords) : Fin 2 → Nat :=
  let arg1 : BitVec 32 := BitVec.ofNat 32 (i 1).val
  let c4_i32 : BitVec 32 := 4#32
  let c0_i32 : BitVec 32 := 0#32
  let v0 : BitVec 1 := Scalar.cmpi .eq c4_i32 c0_i32
  let c1_i32 : BitVec 32 := 1#32
  let v1 : BitVec 32 := Scalar.select v0 c1_i32 c4_i32
  let v2 : BitVec 32 := Scalar.remsi arg1 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c160_i32 : BitVec 32 := 160#32
  let v20 : BitVec 32 := Scalar.muli v9 c160_i32
  let v21 : BitVec 32 := v20
  let v326 : Index := Scalar.indexCast v21
  let c0_144 : Index := 0#32
  ![v326.toNat, 0]
def k0_off7 (i : grid0.Coords) : Fin 3 → Nat :=
  let c1_254 : Index := 1#32
  let arg0 : BitVec 32 := BitVec.ofNat 32 (i 0).val
  let v526 : Index := Scalar.indexCast arg0
  let c0_255 : Index := 0#32
  ![1, v526.toNat, 0]
def k0_off8 (i : grid0.Coords) : Fin 3 → Nat :=
  let arg1 : BitVec 32 := BitVec.ofNat 32 (i 1).val
  let c4_i32 : BitVec 32 := 4#32
  let c0_i32 : BitVec 32 := 0#32
  let v0 : BitVec 1 := Scalar.cmpi .eq c4_i32 c0_i32
  let c1_i32 : BitVec 32 := 1#32
  let v1 : BitVec 32 := Scalar.select v0 c1_i32 c4_i32
  let v2 : BitVec 32 := Scalar.remsi arg1 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v682 : Index := Scalar.indexCast v9
  let c0_318 : Index := 0#32
  let c0_319 : Index := 0#32
  ![v682.toNat, 0, 0]
def k0_off9 (i : grid0.Coords) : Fin 3 → Nat :=
  let arg1 : BitVec 32 := BitVec.ofNat 32 (i 1).val
  let c4_i32 : BitVec 32 := 4#32
  let c0_i32 : BitVec 32 := 0#32
  let v0 : BitVec 1 := Scalar.cmpi .eq c4_i32 c0_i32
  let c1_i32 : BitVec 32 := 1#32
  let v1 : BitVec 32 := Scalar.select v0 c1_i32 c4_i32
  let v2 : BitVec 32 := Scalar.remsi arg1 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v716 : Index := Scalar.indexCast v9
  let c2_336 : Index := 2#32
  let c0_337 : Index := 0#32
  ![v716.toNat, 2, 0]
def k0_off10 (i : grid0.Coords) : Fin 3 → Nat :=
  let arg1 : BitVec 32 := BitVec.ofNat 32 (i 1).val
  let c4_i32 : BitVec 32 := 4#32
  let c0_i32 : BitVec 32 := 0#32
  let v0 : BitVec 1 := Scalar.cmpi .eq c4_i32 c0_i32
  let c1_i32 : BitVec 32 := 1#32
  let v1 : BitVec 32 := Scalar.select v0 c1_i32 c4_i32
  let v2 : BitVec 32 := Scalar.remsi arg1 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v733 : Index := Scalar.indexCast v9
  let c3_343 : Index := 3#32
  let c0_344 : Index := 0#32
  ![v733.toNat, 3, 0]
def k0_off11 (i : grid0.Coords) : Fin 2 → Nat :=
  let arg1 : BitVec 32 := BitVec.ofNat 32 (i 1).val
  let c4_i32 : BitVec 32 := 4#32
  let c0_i32 : BitVec 32 := 0#32
  let v0 : BitVec 1 := Scalar.cmpi .eq c4_i32 c0_i32
  let c1_i32 : BitVec 32 := 1#32
  let v1 : BitVec 32 := Scalar.select v0 c1_i32 c4_i32
  let v2 : BitVec 32 := Scalar.remsi arg1 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c160_i32 : BitVec 32 := 160#32
  let v20 : BitVec 32 := Scalar.muli v9 c160_i32
  let v21 : BitVec 32 := v20
  let v916 : Index := Scalar.indexCast v21
  let c0_437 : Index := 0#32
  ![v916.toNat, 0]
def k0_off12 (i : grid0.Coords) : Fin 3 → Nat :=
  let c2_599 : Index := 2#32
  let arg0 : BitVec 32 := BitVec.ofNat 32 (i 0).val
  let v1220 : Index := Scalar.indexCast arg0
  let c0_600 : Index := 0#32
  ![2, v1220.toNat, 0]
def k0_off13 (i : grid0.Coords) : Fin 3 → Nat :=
  let arg1 : BitVec 32 := BitVec.ofNat 32 (i 1).val
  let c4_i32 : BitVec 32 := 4#32
  let c0_i32 : BitVec 32 := 0#32
  let v0 : BitVec 1 := Scalar.cmpi .eq c4_i32 c0_i32
  let c1_i32 : BitVec 32 := 1#32
  let v1 : BitVec 32 := Scalar.select v0 c1_i32 c4_i32
  let v2 : BitVec 32 := Scalar.remsi arg1 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v1376 : Index := Scalar.indexCast v9
  let c0_663 : Index := 0#32
  let c0_664 : Index := 0#32
  ![v1376.toNat, 0, 0]
def k0_off14 (i : grid0.Coords) : Fin 3 → Nat :=
  let arg1 : BitVec 32 := BitVec.ofNat 32 (i 1).val
  let c4_i32 : BitVec 32 := 4#32
  let c0_i32 : BitVec 32 := 0#32
  let v0 : BitVec 1 := Scalar.cmpi .eq c4_i32 c0_i32
  let c1_i32 : BitVec 32 := 1#32
  let v1 : BitVec 32 := Scalar.select v0 c1_i32 c4_i32
  let v2 : BitVec 32 := Scalar.remsi arg1 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v1438 : Index := Scalar.indexCast v9
  let c4 : Index := 4#32
  let c0_693 : Index := 0#32
  ![v1438.toNat, 4, 0]
def k0_off15 (i : grid0.Coords) : Fin 3 → Nat :=
  let arg1 : BitVec 32 := BitVec.ofNat 32 (i 1).val
  let c4_i32 : BitVec 32 := 4#32
  let c0_i32 : BitVec 32 := 0#32
  let v0 : BitVec 1 := Scalar.cmpi .eq c4_i32 c0_i32
  let c1_i32 : BitVec 32 := 1#32
  let v1 : BitVec 32 := Scalar.select v0 c1_i32 c4_i32
  let v2 : BitVec 32 := Scalar.remsi arg1 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v1455 : Index := Scalar.indexCast v9
  let c5 : Index := 5#32
  let c0_699 : Index := 0#32
  ![v1455.toNat, 5, 0]
def k0_off16 (i : grid0.Coords) : Fin 2 → Nat :=
  let arg1 : BitVec 32 := BitVec.ofNat 32 (i 1).val
  let c4_i32 : BitVec 32 := 4#32
  let c0_i32 : BitVec 32 := 0#32
  let v0 : BitVec 1 := Scalar.cmpi .eq c4_i32 c0_i32
  let c1_i32 : BitVec 32 := 1#32
  let v1 : BitVec 32 := Scalar.select v0 c1_i32 c4_i32
  let v2 : BitVec 32 := Scalar.remsi arg1 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c160_i32 : BitVec 32 := 160#32
  let v20 : BitVec 32 := Scalar.muli v9 c160_i32
  let v21 : BitVec 32 := v20
  let v1714 : Index := Scalar.indexCast v21
  let c0_832 : Index := 0#32
  ![v1714.toNat, 0]
def k0_off17 (i : grid0.Coords) : Fin 3 → Nat :=
  let c3_1046 : Index := 3#32
  let arg0 : BitVec 32 := BitVec.ofNat 32 (i 0).val
  let v2122 : Index := Scalar.indexCast arg0
  let c0_1047 : Index := 0#32
  ![3, v2122.toNat, 0]
def k0_off18 (i : grid0.Coords) : Fin 3 → Nat :=
  let arg1 : BitVec 32 := BitVec.ofNat 32 (i 1).val
  let c4_i32 : BitVec 32 := 4#32
  let c0_i32 : BitVec 32 := 0#32
  let v0 : BitVec 1 := Scalar.cmpi .eq c4_i32 c0_i32
  let c1_i32 : BitVec 32 := 1#32
  let v1 : BitVec 32 := Scalar.select v0 c1_i32 c4_i32
  let v2 : BitVec 32 := Scalar.remsi arg1 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v2278 : Index := Scalar.indexCast v9
  let c0_1110 : Index := 0#32
  let c0_1111 : Index := 0#32
  ![v2278.toNat, 0, 0]
def k0_off19 (i : grid0.Coords) : Fin 3 → Nat :=
  let arg1 : BitVec 32 := BitVec.ofNat 32 (i 1).val
  let c4_i32 : BitVec 32 := 4#32
  let c0_i32 : BitVec 32 := 0#32
  let v0 : BitVec 1 := Scalar.cmpi .eq c4_i32 c0_i32
  let c1_i32 : BitVec 32 := 1#32
  let v1 : BitVec 32 := Scalar.select v0 c1_i32 c4_i32
  let v2 : BitVec 32 := Scalar.remsi arg1 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v2368 : Index := Scalar.indexCast v9
  let c6 : Index := 6#32
  let c0_1152 : Index := 0#32
  ![v2368.toNat, 6, 0]
def k0_off20 (i : grid0.Coords) : Fin 3 → Nat :=
  let arg1 : BitVec 32 := BitVec.ofNat 32 (i 1).val
  let c4_i32 : BitVec 32 := 4#32
  let c0_i32 : BitVec 32 := 0#32
  let v0 : BitVec 1 := Scalar.cmpi .eq c4_i32 c0_i32
  let c1_i32 : BitVec 32 := 1#32
  let v1 : BitVec 32 := Scalar.select v0 c1_i32 c4_i32
  let v2 : BitVec 32 := Scalar.remsi arg1 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v2385 : Index := Scalar.indexCast v9
  let c7 : Index := 7#32
  let c0_1158 : Index := 0#32
  ![v2385.toNat, 7, 0]
def k0_off21 (i : grid0.Coords) : Fin 2 → Nat :=
  let arg1 : BitVec 32 := BitVec.ofNat 32 (i 1).val
  let c4_i32 : BitVec 32 := 4#32
  let c0_i32 : BitVec 32 := 0#32
  let v0 : BitVec 1 := Scalar.cmpi .eq c4_i32 c0_i32
  let c1_i32 : BitVec 32 := 1#32
  let v1 : BitVec 32 := Scalar.select v0 c1_i32 c4_i32
  let v2 : BitVec 32 := Scalar.remsi arg1 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c160_i32 : BitVec 32 := 160#32
  let v20 : BitVec 32 := Scalar.muli v9 c160_i32
  let v21 : BitVec 32 := v20
  let v2720 : Index := Scalar.indexCast v21
  let c0_1331 : Index := 0#32
  ![v2720.toNat, 0]
def k0_off22 (i : grid0.Coords) : Fin 3 → Nat :=
  let c4_1597 : Index := 4#32
  let arg0 : BitVec 32 := BitVec.ofNat 32 (i 0).val
  let v3232 : Index := Scalar.indexCast arg0
  let c0_1598 : Index := 0#32
  ![4, v3232.toNat, 0]
def k0_off23 (i : grid0.Coords) : Fin 3 → Nat :=
  let arg1 : BitVec 32 := BitVec.ofNat 32 (i 1).val
  let c4_i32 : BitVec 32 := 4#32
  let c0_i32 : BitVec 32 := 0#32
  let v0 : BitVec 1 := Scalar.cmpi .eq c4_i32 c0_i32
  let c1_i32 : BitVec 32 := 1#32
  let v1 : BitVec 32 := Scalar.select v0 c1_i32 c4_i32
  let v2 : BitVec 32 := Scalar.remsi arg1 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v3388 : Index := Scalar.indexCast v9
  let c0_1661 : Index := 0#32
  let c0_1662 : Index := 0#32
  ![v3388.toNat, 0, 0]
def k0_off24 (i : grid0.Coords) : Fin 3 → Nat :=
  let arg1 : BitVec 32 := BitVec.ofNat 32 (i 1).val
  let c4_i32 : BitVec 32 := 4#32
  let c0_i32 : BitVec 32 := 0#32
  let v0 : BitVec 1 := Scalar.cmpi .eq c4_i32 c0_i32
  let c1_i32 : BitVec 32 := 1#32
  let v1 : BitVec 32 := Scalar.select v0 c1_i32 c4_i32
  let v2 : BitVec 32 := Scalar.remsi arg1 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v3506 : Index := Scalar.indexCast v9
  let c8 : Index := 8#32
  let c0_1715 : Index := 0#32
  ![v3506.toNat, 8, 0]
def k0_off25 (i : grid0.Coords) : Fin 3 → Nat :=
  let arg1 : BitVec 32 := BitVec.ofNat 32 (i 1).val
  let c4_i32 : BitVec 32 := 4#32
  let c0_i32 : BitVec 32 := 0#32
  let v0 : BitVec 1 := Scalar.cmpi .eq c4_i32 c0_i32
  let c1_i32 : BitVec 32 := 1#32
  let v1 : BitVec 32 := Scalar.select v0 c1_i32 c4_i32
  let v2 : BitVec 32 := Scalar.remsi arg1 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v3523 : Index := Scalar.indexCast v9
  let c9 : Index := 9#32
  let c0_1721 : Index := 0#32
  ![v3523.toNat, 9, 0]
def k0_off26 (i : grid0.Coords) : Fin 2 → Nat :=
  let arg1 : BitVec 32 := BitVec.ofNat 32 (i 1).val
  let c4_i32 : BitVec 32 := 4#32
  let c0_i32 : BitVec 32 := 0#32
  let v0 : BitVec 1 := Scalar.cmpi .eq c4_i32 c0_i32
  let c1_i32 : BitVec 32 := 1#32
  let v1 : BitVec 32 := Scalar.select v0 c1_i32 c4_i32
  let v2 : BitVec 32 := Scalar.remsi arg1 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c160_i32 : BitVec 32 := 160#32
  let v20 : BitVec 32 := Scalar.muli v9 c160_i32
  let v21 : BitVec 32 := v20
  let v3934 : Index := Scalar.indexCast v21
  let c0_1934 : Index := 0#32
  ![v3934.toNat, 0]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_1 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.divsi arg1 c4_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg1 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  ![arg0.toNat, c0_i32_4.toNat, v16.toNat]

def cc0_transform_2 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.divsi arg1 c4_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg1 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  ![arg0.toNat, c0_i32_4.toNat, v16.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_4 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 4 → Nat :=
  let arg0 : BitVec 32 := BitVec.ofNat 32 (i 0).val
  let arg1 : BitVec 32 := BitVec.ofNat 32 (i 1).val
  let c4_i32 : BitVec 32 := 4#32
  let v0 : BitVec 32 := Scalar.divsi arg1 c4_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg1 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![arg0.toNat, v16.toNat, c0_i32_4.toNat, c0_i32_5.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x640x640 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x640x640 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x640x640 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x640x640 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x4x160x640 .i8 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 1 → Memref sig .tc .vmem S5x2x32 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1x4x160x640 .i8 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x8x10 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]
-- ==== KernelIdeal.lean ====
variable {F : FTy → Type} [FloatOps F] [Named F]
def κ : String → Option EReal := fun
  | "inv_seq" => some ((1 / 640 : ℝ) : EReal)
  | "log2_scale" => some (((Real.sqrt 160)⁻¹ * (Real.log 2)⁻¹ : ℝ) : EReal)
  | _ => none
-- ==== ReferenceIdeal.lean ====
abbrev S2x640x5120 : Shape := ⟨3, ![2, 640, 5120]⟩
abbrev S2x640x1280 : Shape := ⟨3, ![2, 640, 1280]⟩
abbrev S2x32x160x640 : Shape := ⟨4, ![2, 32, 160, 640]⟩
abbrev S5x2x32 : Shape := ⟨3, ![5, 2, 32]⟩
abbrev S2x8x160x640 : Shape := ⟨4, ![2, 8, 160, 640]⟩
abbrev S2x8x10 : Shape := ⟨3, ![2, 8, 10]⟩
abbrev S2x640x32x160 : Shape := ⟨4, ![2, 640, 32, 160]⟩
abbrev S2x640x8x160 : Shape := ⟨4, ![2, 640, 8, 160]⟩
abbrev S2x8x160 : Shape := ⟨3, ![2, 8, 160]⟩
abbrev S2x1x8x160 : Shape := ⟨4, ![2, 1, 8, 160]⟩
abbrev S2x5x128x32x160 : Shape := ⟨5, ![2, 5, 128, 32, 160]⟩
abbrev S2x5x32 : Shape := ⟨3, ![2, 5, 32]⟩
abbrev S2x5x1x32x1 : Shape := ⟨5, ![2, 5, 1, 32, 1]⟩
abbrev S2x10x64x8x160 : Shape := ⟨5, ![2, 10, 64, 8, 160]⟩
abbrev S2x10x8 : Shape := ⟨3, ![2, 10, 8]⟩
abbrev S2x10x1x8x1 : Shape := ⟨5, ![2, 10, 1, 8, 1]⟩
abbrev S2x640x8x4x160 : Shape := ⟨5, ![2, 640, 8, 4, 160]⟩
abbrev S2x8x4x640x160 : Shape := ⟨5, ![2, 8, 4, 640, 160]⟩
abbrev S2x8x640x160 : Shape := ⟨4, ![2, 8, 640, 160]⟩
abbrev S2x5x1x32 : Shape := ⟨4, ![2, 5, 1, 32]⟩
abbrev S2x5x128x32 : Shape := ⟨4, ![2, 5, 128, 32]⟩
abbrev S2x640x32 : Shape := ⟨3, ![2, 640, 32]⟩
abbrev S2x640x8x4 : Shape := ⟨4, ![2, 640, 8, 4]⟩
abbrev S2x8x4x640 : Shape := ⟨4, ![2, 8, 4, 640]⟩
abbrev S2x10x1x8 : Shape := ⟨4, ![2, 10, 1, 8]⟩
abbrev S2x10x64x8 : Shape := ⟨4, ![2, 10, 64, 8]⟩
abbrev S2x640x8 : Shape := ⟨3, ![2, 640, 8]⟩
abbrev S2x8x640 : Shape := ⟨3, ![2, 8, 640]⟩
abbrev S2x8x4x640x640 : Shape := ⟨5, ![2, 8, 4, 640, 640]⟩
abbrev S2x8x4x640x1 : Shape := ⟨5, ![2, 8, 4, 640, 1]⟩
abbrev S2x8x1x1x640 : Shape := ⟨5, ![2, 8, 1, 1, 640]⟩
abbrev S640x640 : Shape := ⟨2, ![640, 640]⟩
abbrev S1x1x1x640x640 : Shape := ⟨5, ![1, 1, 1, 640, 640]⟩

abbrev nBuf : Space → Nat
  | .hbm => 8
  | .vmem => 8
  | .smem => 0
  | _ => 0

abbrev bufTy : (tb : Table) → Fin (tcTables nBuf tb) → BufTy
  | .hbm, ⟨0, _⟩ => ⟨S2x640x5120, .bf16⟩
  | .hbm, ⟨1, _⟩ => ⟨S2x640x1280, .bf16⟩
  | .hbm, ⟨2, _⟩ => ⟨S2x640x1280, .bf16⟩
  | .hbm, ⟨3, _⟩ => ⟨S2x640x5120, .bf16⟩
  | .hbm, ⟨4, _⟩ => ⟨S2x32x160x640, .i8⟩
  | .hbm, ⟨5, _⟩ => ⟨S5x2x32, .f32⟩
  | .hbm, ⟨6, _⟩ => ⟨S2x8x160x640, .i8⟩
  | .hbm, ⟨7, _⟩ => ⟨S2x8x10, .f32⟩
  | .local _ .vmem, ⟨0, _⟩ => ⟨S2x640x5120, .bf16⟩
  | .local _ .vmem, ⟨1, _⟩ => ⟨S2x640x1280, .bf16⟩
  | .local _ .vmem, ⟨2, _⟩ => ⟨S2x640x1280, .bf16⟩
  | .local _ .vmem, ⟨3, _⟩ => ⟨S2x640x5120, .bf16⟩
  | .local _ .vmem, ⟨4, _⟩ => ⟨S2x32x160x640, .i8⟩
  | .local _ .vmem, ⟨5, _⟩ => ⟨S5x2x32, .f32⟩
  | .local _ .vmem, ⟨6, _⟩ => ⟨S2x8x160x640, .i8⟩
  | .local _ .vmem, ⟨7, _⟩ => ⟨S2x8x10, .f32⟩
  | _, _ => ⟨S2x640x5120, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v0_2 : Ref sig .tc := ⟨.hbm, 5, rfl⟩
abbrev main_v0_3 : Ref sig .tc := ⟨.hbm, 6, rfl⟩
abbrev main_v0_4 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F] [Named F]

def κ : String → Option EReal := fun
  | "score_scale" => some (((Real.sqrt 160)⁻¹ : ℝ) : EReal)
  | _ => none

abbrev grid0 : Pipeline.Grid := .none

abbrev stage0_0 : Fin 1 → Memref sig .tc .vmem S2x640x5120 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2x640x1280 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2x640x1280 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2x640x5120 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S2x32x160x640 .i8 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S5x2x32 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S2x8x160x640 .i8 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S2x8x10 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
-- ==== Proof.MainRun.lean ====
module

public import proofs.«01_k».proof.Proof.Gen.KernelIdeal.Skeleton
public import proofs.«01_k».proof.Proof.Gen.KernelIdeal.Frame
public import Idealize.ShloMosaic.Lib.Tactic

@[expose] public section

set_option maxRecDepth 65536

noncomputable section

namespace Cert.KernelIdeal.Body

open Cert.KernelIdeal Cert.KernelIdeal.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ (UR sig nD τ) ℕ

/-- Memref `M`'s buffer on core `c`: its contents type, and it held whole at `f`. -/
abbrev Bf (c : Dev nD) {sp : Space} {S : Shape} {e : EltTy} (M : Memref sig .tc sp S e) : Type := Buf (Elt F) (M.view.loc (c : Thread nD τ))
abbrev pt (c : Dev nD) {sp : Space} {S : Shape} {e : EltTy} (M : Memref sig .tc sp S e) (f : Bf (F := F) c M) : sProp 𝕄 :=
  M.view.loc (c : Thread nD τ) ↦{fullShare} f

/-- The word `g mod 4` as the body computes it from the grid's second coordinate. -/
def wj (i : grid0.Coords) : BitVec 32 :=
  let arg1 : BitVec 32 := BitVec.ofNat 32 (i 1).val
  let v0 : BitVec 1 := Scalar.cmpi .eq 4#32 0#32
  let v1 : BitVec 32 := Scalar.select v0 1#32 4#32
  let v2 : BitVec 32 := Scalar.remsi arg1 v1
  let v3 : BitVec 1 := Scalar.cmpi .ne v2 0#32
  let v4 : BitVec 1 := Scalar.cmpi .slt v2 0#32
  let v5 : BitVec 1 := Scalar.cmpi .slt v1 0#32
  let v6 : BitVec 1 := Scalar.xori v4 v5
  let v7 : BitVec 1 := Scalar.andi v6 v3
  let v8 : BitVec 32 := Scalar.addi v2 v1
  Scalar.select v7 v8 v2

/-- A load of 128 tokens of the query block at token block 0, head `h` (lane offset `128·c`). -/
abbrev ldx (c : Dev nD) (M0 : Memref sig .tc .vmem S1x640x640 .bf16) (f0 : Bf (F := F) c M0) (r : Rect S1x640x640) : Vec F r.shape .bf16 :=
  M0.view.readAt (Elt F) r.toLoadRect f0

def mainRun (c : Dev nD) (i : grid0.Coords) (E : Set ℕ)
    (M0 : Memref sig .tc .vmem S1x640x640 .bf16) (h0 : M0.IsWhole) (M1 : Memref sig .tc .vmem S1x640x640 .bf16) (h1 : M1.IsWhole)
    (M2 : Memref sig .tc .vmem S1x640x640 .bf16) (h2 : M2.IsWhole) (M3 : Memref sig .tc .vmem S1x640x640 .bf16) (h3 : M3.IsWhole)
    (M4 : Memref sig .tc .vmem S1x4x160x640 .i8) (h4 : M4.IsWhole) (M5 : Memref sig .tc .vmem S5x2x32 .f32) (h5 : M5.IsWhole)
    (M6 : Memref sig .tc .vmem S1x4x160x640 .i8) (h6 : M6.IsWhole) (M7 : Memref sig .tc .vmem S1x8x10 .f32) (h7 : M7.IsWhole)
    (M8 : Memref sig .tc .vmem S640x640 .bf16) (h8 : M8.IsWhole) (M9 : Memref sig .tc .vmem S640x640 .bf16) (h9 : M9.IsWhole)
    (M10 : Memref sig .tc .vmem S4x640x256 .bf16) (h10 : M10.IsWhole) (M11 : Memref sig .tc .vmem S4x16x128 .f32) (h11 : M11.IsWhole)
    (M12 : Memref sig .tc .vmem S5x160x512 .bf16) (h12 : M12.IsWhole) (M13 : Memref sig .tc .vmem S2x640x256 .f32) (h13 : M13.IsWhole)
    (M14 : Memref sig .tc .vmem S2x640x256 .bf16) (h14 : M14.IsWhole)
    (f0 : Bf (F := F) c M0) (f1 : Bf (F := F) c M1) (f2 : Bf (F := F) c M2)
    (f5 : Bf (F := F) c M5)
    (f6 g6 : Bf (F := F) c M6) (f7 g7 : Bf (F := F) c M7) (f8 g8 : Bf (F := F) c M8) (f9 g9 : Bf (F := F) c M9)
    (f10 g10 : Bf (F := F) c M10) (f11 g11 : Bf (F := F) c M11)
    (hcut : iprop(pt c M0 f0 ∗ pt c M1 f1 ∗ pt c M2 f2 ∗ pt c M6 f6 ∗ pt c M7 f7 ∗ pt c M8 f8 ∗ pt c M9 f9 ∗ pt c M10 f10 ∗ pt c M11 f11)
      ⊢ wp frame (wpE (defs₀ (F := F)) Variants.none c none) E
          (k0_part44 i M0 h0 M1 h1 M2 h2 M3 h3 M4 h4 M5 h5 M6 h6 M7 h7 M8 h8 M9 h9 M10 h10 M11 h11 M12 h12 M13 h13 M14 h14)
          (fun r => iprop(⌜r.1 = BitVec.ofNat 32 (i 0).val⌝ ∗ ⌜r.2.1 = BitVec.ofNat 32 (i 1).val⌝ ∗ ⌜r.2.2.1 = wj i⌝
            ∗ ⌜r.2.2.2.1 = iota .tc S1x32 32 [1] iota_S1x32_d1_w32⌝ ∗ ⌜r.2.2.2.2.1 = k0_pay278⌝ ∗ ⌜r.2.2.2.2.2.1 = Scalar.muli (wj i) 160#32⌝
            ∗ ⌜r.2.2.2.2.2.2.1 = k0_pay279 (ldx c M0 f0 (Rect.unit (s := S1x640x640) ![0, 0, 0] S1x128x128.size inb_S1x640x640_S1x128x128_0_0_0))⌝
            ∗ ⌜r.2.2.2.2.2.2.2.1 = k0_pay280 (ldx c M0 f0 (Rect.unit (s := S1x640x640) ![0, 0, 128] S1x128x128.size inb_S1x640x640_S1x128x128_0_0_128))⌝
            ∗ ⌜r.2.2.2.2.2.2.2.2.1 = k0_pay281 (ldx c M0 f0 (Rect.unit (s := S1x640x640) ![0, 0, 256] S1x128x128.size inb_S1x640x640_S1x128x128_0_0_256))⌝
            ∗ ⌜r.2.2.2.2.2.2.2.2.2 = k0_pay282 (ldx c M0 f0 (Rect.unit (s := S1x640x640) ![0, 0, 384] S1x128x128.size inb_S1x640x640_S1x128x128_0_0_384))⌝
            ∗ pt c M0 f0 ∗ pt c M1 f1 ∗ pt c M2 f2 ∗ pt c M6 g6 ∗ pt c M7 g7 ∗ pt c M8 g8 ∗ pt c M9 g9 ∗ pt c M10 g10 ∗ pt c M11 g11))) :
    { W : Bf (F := F) c M3 × Bf (F := F) c M4 × Bf (F := F) c M5 //
      ∀ (f3 : Bf (F := F) c M3) (f4 : Bf (F := F) c M4) (f12 : Bf (F := F) c M12) (f13 : Bf (F := F) c M13) (f14 : Bf (F := F) c M14)
        (Q : PUnit → sProp 𝕄),
        iprop(pt c M0 f0 ∗ pt c M1 f1 ∗ pt c M2 f2 ∗ pt c M3 f3 ∗ pt c M4 f4 ∗ pt c M5 f5 ∗ pt c M6 f6 ∗ pt c M7 f7
          ∗ pt c M8 f8 ∗ pt c M9 f9 ∗ pt c M10 f10 ∗ pt c M11 f11 ∗ pt c M12 f12 ∗ pt c M13 f13 ∗ pt c M14 f14
          ∗ (iprop(pt c M0 f0 ∗ pt c M1 f1 ∗ pt c M2 f2 ∗ pt c M3 W.1 ∗ pt c M4 W.2.1 ∗ pt c M5 W.2.2 ∗ pt c M6 g6 ∗ pt c M7 g7
                ∗ pt c M8 g8 ∗ pt c M9 g9 ∗ pt c M10 g10 ∗ pt c M11 g11
                ∗ (∃ f, pt c M12 f) ∗ (∃ f, pt c M13 f) ∗ (∃ f, pt c M14 f)) -∗ Q ⟨⟩))
        ⊢ wp frame (wpE (defs₀ (F := F)) Variants.none c none) E
            (cc0_sage_attention i M0 h0 M1 h1 M2 h2 M3 h3 M4 h4 M5 h5 M6 h6 M7 h7 M8 h8 M9 h9 M10 h10 M11 h11 M12 h12 M13 h13 M14 h14) Q } := by
  refine ⟨⟨?_, ?_, ?_⟩, fun f3 f4 f12 f13 f14 Q => ?run⟩
  case run =>
    iintro ⟨H0, H1, H2, H3, H4, H5, H6, H7, H8, H9, H10, H11, H12, H13, H14, Hk⟩
    set_option sl_exec.resultNames true in
    sl_exec_parts!
    sl_step
    subst hk0_part44_0 hk0_part44_1 hk0_part44_2 hk0_part44_3 hk0_part44_4 hk0_part44_5 hk0_part44_6 hk0_part44_7 hk0_part44_8 hk0_part44_9

    iapply Hk
    isplitl [Hk0_part44_10]; · iexact Hk0_part44_10
    isplitl [Hk0_part44_11]; · iexact Hk0_part44_11
    isplitl [Hk0_part44_12]; · iexact Hk0_part44_12
    isplitl [H3]; · iexact H3
    isplitl [H4]; · iexact H4
    isplitl [H5]; · iexact H5
    isplitl [Hk0_part44_13]; · iexact Hk0_part44_13
    isplitl [Hk0_part44_14]; · iexact Hk0_part44_14
    isplitl [Hk0_part44_15]; · iexact Hk0_part44_15
    isplitl [Hk0_part44_16]; · iexact Hk0_part44_16
    isplitl [Hk0_part44_17]; · iexact Hk0_part44_17
    isplitl [Hk0_part44_18]; · iexact Hk0_part44_18
    isplitl [H12]; · iexists _; iexact H12
    isplitl [H13]; · iexists _; iexact H13
    iexists _; iexact H14

end Cert.KernelIdeal.Body

end
-- ==== Proof.HeadRun.lean ====
module

public import proofs.«01_k».proof.Proof.Gen.KernelIdeal.Skeleton
public import proofs.«01_k».proof.Proof.Gen.KernelIdeal.Frame
public import Idealize.ShloMosaic.Lib.Tactic
public import proofs.«01_k».proof.Proof.MainRun

@[expose] public section

set_option maxRecDepth 65536

noncomputable section

namespace Cert.KernelIdeal.Body

open Cert.KernelIdeal Cert.KernelIdeal.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ (UR sig nD τ) ℕ

def skipRun (c : Dev nD) (i : grid0.Coords) (E : Set ℕ)
    (M0 : Memref sig .tc .vmem S1x640x640 .bf16) (h0 : M0.IsWhole)
    (M1 : Memref sig .tc .vmem S1x640x640 .bf16) (h1 : M1.IsWhole)
    (M2 : Memref sig .tc .vmem S1x640x640 .bf16) (h2 : M2.IsWhole)
    (M3 : Memref sig .tc .vmem S1x640x640 .bf16) (h3 : M3.IsWhole)
    (M4 : Memref sig .tc .vmem S1x4x160x640 .i8) (h4 : M4.IsWhole)
    (M5 : Memref sig .tc .vmem S5x2x32 .f32) (h5 : M5.IsWhole)
    (M6 : Memref sig .tc .vmem S1x4x160x640 .i8) (h6 : M6.IsWhole)
    (M7 : Memref sig .tc .vmem S1x8x10 .f32) (h7 : M7.IsWhole)
    (M8 : Memref sig .tc .vmem S640x640 .bf16) (h8 : M8.IsWhole)
    (M9 : Memref sig .tc .vmem S640x640 .bf16) (h9 : M9.IsWhole)
    (M10 : Memref sig .tc .vmem S4x640x256 .bf16) (h10 : M10.IsWhole)
    (M11 : Memref sig .tc .vmem S4x16x128 .f32) (h11 : M11.IsWhole)
    (M12 : Memref sig .tc .vmem S5x160x512 .bf16) (h12 : M12.IsWhole)
    (M13 : Memref sig .tc .vmem S2x640x256 .f32) (h13 : M13.IsWhole)
    (M14 : Memref sig .tc .vmem S2x640x256 .bf16) (h14 : M14.IsWhole)
    (f0 : Bf (F := F) c M0) (f1 : Bf (F := F) c M1) (f2 : Bf (F := F) c M2) (f6 : Bf (F := F) c M6) (f7 : Bf (F := F) c M7)
    (f8 : Bf (F := F) c M8) (f9 : Bf (F := F) c M9) (f10 : Bf (F := F) c M10) (f11 : Bf (F := F) c M11)
    (hc1 : ¬ Scalar.cmpi .ne (Scalar.extui (Scalar.cmpi .eq (BitVec.ofNat 32 (i 1).val) 0#32) : BitVec 32) 0#32 = 1#1)
    (hc2 : ¬ k0_cond2 i = 1#1) :
    { W : Bf (F := F) c M6 × Bf (F := F) c M7 × Bf (F := F) c M8 × Bf (F := F) c M9 × Bf (F := F) c M10 × Bf (F := F) c M11 //
      iprop(pt c M0 f0 ∗ pt c M1 f1 ∗ pt c M2 f2 ∗ pt c M6 f6 ∗ pt c M7 f7 ∗ pt c M8 f8 ∗ pt c M9 f9 ∗ pt c M10 f10 ∗ pt c M11 f11)
      ⊢ wp frame (wpE (defs₀ (F := F)) Variants.none c none) E
          (k0_part44 i M0 h0 M1 h1 M2 h2 M3 h3 M4 h4 M5 h5 M6 h6 M7 h7 M8 h8 M9 h9 M10 h10 M11 h11 M12 h12 M13 h13 M14 h14)
          (fun r => iprop(⌜r.1 = BitVec.ofNat 32 (i 0).val⌝ ∗ ⌜r.2.1 = BitVec.ofNat 32 (i 1).val⌝ ∗ ⌜r.2.2.1 = wj i⌝
            ∗ ⌜r.2.2.2.1 = iota .tc S1x32 32 [1] iota_S1x32_d1_w32⌝ ∗ ⌜r.2.2.2.2.1 = k0_pay278⌝ ∗ ⌜r.2.2.2.2.2.1 = Scalar.muli (wj i) 160#32⌝
            ∗ ⌜r.2.2.2.2.2.2.1 = k0_pay279 (ldx c M0 f0 (Rect.unit (s := S1x640x640) ![0, 0, 0] S1x128x128.size inb_S1x640x640_S1x128x128_0_0_0))⌝
            ∗ ⌜r.2.2.2.2.2.2.2.1 = k0_pay280 (ldx c M0 f0 (Rect.unit (s := S1x640x640) ![0, 0, 128] S1x128x128.size inb_S1x640x640_S1x128x128_0_0_128))⌝
            ∗ ⌜r.2.2.2.2.2.2.2.2.1 = k0_pay281 (ldx c M0 f0 (Rect.unit (s := S1x640x640) ![0, 0, 256] S1x128x128.size inb_S1x640x640_S1x128x128_0_0_256))⌝
            ∗ ⌜r.2.2.2.2.2.2.2.2.2 = k0_pay282 (ldx c M0 f0 (Rect.unit (s := S1x640x640) ![0, 0, 384] S1x128x128.size inb_S1x640x640_S1x128x128_0_0_384))⌝
            ∗ pt c M0 f0 ∗ pt c M1 f1 ∗ pt c M2 f2 ∗ pt c M6 W.1 ∗ pt c M7 W.2.1 ∗ pt c M8 W.2.2.1 ∗ pt c M9 W.2.2.2.1
            ∗ pt c M10 W.2.2.2.2.1 ∗ pt c M11 W.2.2.2.2.2)) } := by
  refine ⟨⟨?_, ?_, ?_, ?_, ?_, ?_⟩, ?run⟩
  case run =>
    iintro ⟨H0, H1, H2, H6, H7, H8, H9, H10, H11⟩
    rw [k0_part44_eq_skeleton]; unfold k0_part44_skel
    set_option sl_exec.resultNames true in
    sl_exec_parts
    sl_step
    isplitr; · ipureintro; rfl
    isplitr; · ipureintro; rfl
    isplitr; · ipureintro; rfl
    isplitr; · ipureintro; rfl
    isplitr; · ipureintro; rfl
    isplitr; · ipureintro; rfl
    isplitr; · ipureintro; rfl
    isplitr; · ipureintro; rfl
    isplitr; · ipureintro; rfl
    isplitr; · ipureintro; rfl
    isplitl [H0]; · iexact H0
    isplitl [H1]; · iexact H1
    isplitl [H2]; · iexact H2
    isplitl [H6]; · iexact H6
    isplitl [H7]; · iexact H7
    isplitl [H8]; · iexact H8
    isplitl [H9]; · iexact H9
    isplitl [H10]; · iexact H10
    iexact H11

def prepRun (c : Dev nD) (i : grid0.Coords) (E : Set ℕ)
    (M0 : Memref sig .tc .vmem S1x640x640 .bf16) (h0 : M0.IsWhole)
    (M1 : Memref sig .tc .vmem S1x640x640 .bf16) (h1 : M1.IsWhole)
    (M2 : Memref sig .tc .vmem S1x640x640 .bf16) (h2 : M2.IsWhole)
    (M3 : Memref sig .tc .vmem S1x640x640 .bf16) (h3 : M3.IsWhole)
    (M4 : Memref sig .tc .vmem S1x4x160x640 .i8) (h4 : M4.IsWhole)
    (M5 : Memref sig .tc .vmem S5x2x32 .f32) (h5 : M5.IsWhole)
    (M6 : Memref sig .tc .vmem S1x4x160x640 .i8) (h6 : M6.IsWhole)
    (M7 : Memref sig .tc .vmem S1x8x10 .f32) (h7 : M7.IsWhole)
    (M8 : Memref sig .tc .vmem S640x640 .bf16) (h8 : M8.IsWhole)
    (M9 : Memref sig .tc .vmem S640x640 .bf16) (h9 : M9.IsWhole)
    (M10 : Memref sig .tc .vmem S4x640x256 .bf16) (h10 : M10.IsWhole)
    (M11 : Memref sig .tc .vmem S4x16x128 .f32) (h11 : M11.IsWhole)
    (M12 : Memref sig .tc .vmem S5x160x512 .bf16) (h12 : M12.IsWhole)
    (M13 : Memref sig .tc .vmem S2x640x256 .f32) (h13 : M13.IsWhole)
    (M14 : Memref sig .tc .vmem S2x640x256 .bf16) (h14 : M14.IsWhole)
    (f0 : Bf (F := F) c M0) (f1 : Bf (F := F) c M1) (f2 : Bf (F := F) c M2) (f6 : Bf (F := F) c M6) (f7 : Bf (F := F) c M7)
    (f8 : Bf (F := F) c M8) (f9 : Bf (F := F) c M9) (f10 : Bf (F := F) c M10) (f11 : Bf (F := F) c M11)
    (hc2 : k0_cond2 i = 1#1) :
    { W : Bf (F := F) c M6 × Bf (F := F) c M7 × Bf (F := F) c M8 × Bf (F := F) c M9 × Bf (F := F) c M10 × Bf (F := F) c M11 //
      iprop(pt c M0 f0 ∗ pt c M1 f1 ∗ pt c M2 f2 ∗ pt c M6 f6 ∗ pt c M7 f7 ∗ pt c M8 f8 ∗ pt c M9 f9 ∗ pt c M10 f10 ∗ pt c M11 f11)
      ⊢ wp frame (wpE (defs₀ (F := F)) Variants.none c none) E
          (k0_part44 i M0 h0 M1 h1 M2 h2 M3 h3 M4 h4 M5 h5 M6 h6 M7 h7 M8 h8 M9 h9 M10 h10 M11 h11 M12 h12 M13 h13 M14 h14)
          (fun r => iprop(⌜r.1 = BitVec.ofNat 32 (i 0).val⌝ ∗ ⌜r.2.1 = BitVec.ofNat 32 (i 1).val⌝ ∗ ⌜r.2.2.1 = wj i⌝
            ∗ ⌜r.2.2.2.1 = iota .tc S1x32 32 [1] iota_S1x32_d1_w32⌝ ∗ ⌜r.2.2.2.2.1 = k0_pay278⌝ ∗ ⌜r.2.2.2.2.2.1 = Scalar.muli (wj i) 160#32⌝
            ∗ ⌜r.2.2.2.2.2.2.1 = k0_pay279 (ldx c M0 f0 (Rect.unit (s := S1x640x640) ![0, 0, 0] S1x128x128.size inb_S1x640x640_S1x128x128_0_0_0))⌝
            ∗ ⌜r.2.2.2.2.2.2.2.1 = k0_pay280 (ldx c M0 f0 (Rect.unit (s := S1x640x640) ![0, 0, 128] S1x128x128.size inb_S1x640x640_S1x128x128_0_0_128))⌝
            ∗ ⌜r.2.2.2.2.2.2.2.2.1 = k0_pay281 (ldx c M0 f0 (Rect.unit (s := S1x640x640) ![0, 0, 256] S1x128x128.size inb_S1x640x640_S1x128x128_0_0_256))⌝
            ∗ ⌜r.2.2.2.2.2.2.2.2.2 = k0_pay282 (ldx c M0 f0 (Rect.unit (s := S1x640x640) ![0, 0, 384] S1x128x128.size inb_S1x640x640_S1x128x128_0_0_384))⌝
            ∗ pt c M0 f0 ∗ pt c M1 f1 ∗ pt c M2 f2 ∗ pt c M6 W.1 ∗ pt c M7 W.2.1 ∗ pt c M8 W.2.2.1 ∗ pt c M9 W.2.2.2.1
            ∗ pt c M10 W.2.2.2.2.1 ∗ pt c M11 W.2.2.2.2.2)) } := by
  refine ⟨⟨?_, ?_, ?_, ?_, ?_, ?_⟩, ?run⟩
  case run =>
    iintro ⟨H0, H1, H2, H6, H7, H8, H9, H10, H11⟩
    rw [k0_part44_eq_skeleton]; unfold k0_part44_skel
    set_option sl_exec.resultNames true in
    sl_exec_parts
    sl_step
    isplitr; · ipureintro; rfl
    isplitr; · ipureintro; rfl
    isplitr; · ipureintro; rfl
    isplitr; · ipureintro; rfl
    isplitr; · ipureintro; rfl
    isplitr; · ipureintro; rfl
    isplitr; · ipureintro; rfl
    isplitr; · ipureintro; rfl
    isplitr; · ipureintro; rfl
    isplitr; · ipureintro; rfl
    isplitl [H0]; · iexact H0
    isplitl [H1]; · iexact H1
    isplitl [H2]; · iexact H2
    isplitl [H6]; · iexact H6
    isplitl [H7]; · iexact H7
    isplitl [H8]; · iexact H8
    isplitl [H9]; · iexact H9
    isplitl [H10]; · iexact H10
    iexact H11

end Cert.KernelIdeal.Body

end
-- ==== Proof.Body.lean ====
module

public import proofs.«01_k».proof.Proof.HeadRun
public import Idealize.ShloMosaic.Lib.Pipeline.DatRel
public import Idealize.ShloMosaic.Lib.Pipeline.ArrRel

/-! One run of the kernel's body at a grid point, and the whole program's run from what one point does.

`fullRun` joins the run of the body's head (which prepares the keys and values at the first of four query groups and otherwise
leaves the scratch buffers alone) with the run of the rest. `runAt` is that run on the staging and scratch buffers of grid point
`t`. `run_of_step` takes a predicate `I` on the three scratch buffers that are carried from point to point and a
predicate `Rl` on the contents of each result's staging buffer, kept by every point (`Step`), and concludes that every execution ends with
the result arrays assembled from contents that meet `Rl`. -/

@[expose] public section

set_option maxRecDepth 65536

noncomputable section

namespace Cert.KernelIdeal.Body

open Cert.KernelIdeal Cert.KernelIdeal.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window ΦA BodyObligationRel)

variable {F : FTy → Type} [FloatOps F] [Named F]

local notation "𝕄" => MT nD τ sig Unit (Elt F) ℕ (UR sig nD τ) ℕ

section Run

variable (c : Dev nD) (i : grid0.Coords) (E : Set ℕ)
  (M0 : Memref sig .tc .vmem S1x640x640 .bf16) (h0 : M0.IsWhole)
  (M1 : Memref sig .tc .vmem S1x640x640 .bf16) (h1 : M1.IsWhole)
  (M2 : Memref sig .tc .vmem S1x640x640 .bf16) (h2 : M2.IsWhole)
  (M3 : Memref sig .tc .vmem S1x640x640 .bf16) (h3 : M3.IsWhole)
  (M4 : Memref sig .tc .vmem S1x4x160x640 .i8) (h4 : M4.IsWhole)
  (M5 : Memref sig .tc .vmem S5x2x32 .f32) (h5 : M5.IsWhole)
  (M6 : Memref sig .tc .vmem S1x4x160x640 .i8) (h6 : M6.IsWhole)
  (M7 : Memref sig .tc .vmem S1x8x10 .f32) (h7 : M7.IsWhole)
  (M8 : Memref sig .tc .vmem S640x640 .bf16) (h8 : M8.IsWhole)
  (M9 : Memref sig .tc .vmem S640x640 .bf16) (h9 : M9.IsWhole)
  (M10 : Memref sig .tc .vmem S4x640x256 .bf16) (h10 : M10.IsWhole)
  (M11 : Memref sig .tc .vmem S4x16x128 .f32) (h11 : M11.IsWhole)
  (M12 : Memref sig .tc .vmem S5x160x512 .bf16) (h12 : M12.IsWhole)
  (M13 : Memref sig .tc .vmem S2x640x256 .f32) (h13 : M13.IsWhole)
  (M14 : Memref sig .tc .vmem S2x640x256 .bf16) (h14 : M14.IsWhole)
    (f0 : Bf (F := F) c M0) (f1 : Bf (F := F) c M1) (f2 : Bf (F := F) c M2)
    (f5 : Bf (F := F) c M5) (f6 : Bf (F := F) c M6) (f7 : Bf (F := F) c M7)
    (f8 : Bf (F := F) c M8) (f9 : Bf (F := F) c M9) (f10 : Bf (F := F) c M10) (f11 : Bf (F := F) c M11)

/-- The run of the body's head: with the preparation of keys and values (`k0_cond2`) or without. -/
def headRun
    (hcc : ¬ k0_cond2 i = 1#1 → ¬ Scalar.cmpi .ne (Scalar.extui (Scalar.cmpi .eq (BitVec.ofNat 32 (i 1).val) 0#32) : BitVec 32) 0#32 = 1#1) :
    { W : Bf (F := F) c M6 × Bf (F := F) c M7 × Bf (F := F) c M8 × Bf (F := F) c M9 × Bf (F := F) c M10 × Bf (F := F) c M11 //
      iprop(pt c M0 f0 ∗ pt c M1 f1 ∗ pt c M2 f2 ∗ pt c M6 f6 ∗ pt c M7 f7 ∗ pt c M8 f8 ∗ pt c M9 f9 ∗ pt c M10 f10 ∗ pt c M11 f11)
      ⊢ wp frame (wpE (defs₀ (F := F)) Variants.none c none) E
          (k0_part44 i M0 h0 M1 h1 M2 h2 M3 h3 M4 h4 M5 h5 M6 h6 M7 h7 M8 h8 M9 h9 M10 h10 M11 h11 M12 h12 M13 h13 M14 h14)
          (fun r => iprop(⌜r.1 = BitVec.ofNat 32 (i 0).val⌝ ∗ ⌜r.2.1 = BitVec.ofNat 32 (i 1).val⌝ ∗ ⌜r.2.2.1 = wj i⌝
            ∗ ⌜r.2.2.2.1 = iota .tc S1x32 32 [1] iota_S1x32_d1_w32⌝ ∗ ⌜r.2.2.2.2.1 = k0_pay278⌝ ∗ ⌜r.2.2.2.2.2.1 = Scalar.muli (wj i) 160#32⌝
            ∗ ⌜r.2.2.2.2.2.2.1 = k0_pay279 (ldx c M0 f0 (Rect.unit (s := S1x640x640) ![0, 0, 0] S1x128x128.size inb_S1x640x640_S1x128x128_0_0_0))⌝
            ∗ ⌜r.2.2.2.2.2.2.2.1 = k0_pay280 (ldx c M0 f0 (Rect.unit (s := S1x640x640) ![0, 0, 128] S1x128x128.size inb_S1x640x640_S1x128x128_0_0_128))⌝
            ∗ ⌜r.2.2.2.2.2.2.2.2.1 = k0_pay281 (ldx c M0 f0 (Rect.unit (s := S1x640x640) ![0, 0, 256] S1x128x128.size inb_S1x640x640_S1x128x128_0_0_256))⌝
            ∗ ⌜r.2.2.2.2.2.2.2.2.2 = k0_pay282 (ldx c M0 f0 (Rect.unit (s := S1x640x640) ![0, 0, 384] S1x128x128.size inb_S1x640x640_S1x128x128_0_0_384))⌝
            ∗ pt c M0 f0 ∗ pt c M1 f1 ∗ pt c M2 f2 ∗ pt c M6 W.1 ∗ pt c M7 W.2.1 ∗ pt c M8 W.2.2.1 ∗ pt c M9 W.2.2.2.1
            ∗ pt c M10 W.2.2.2.2.1 ∗ pt c M11 W.2.2.2.2.2)) } :=
  if h : k0_cond2 i = 1#1 then prepRun c i E M0 h0 M1 h1 M2 h2 M3 h3 M4 h4 M5 h5 M6 h6 M7 h7 M8 h8 M9 h9 M10 h10 M11 h11 M12 h12 M13 h13 M14 h14 f0 f1 f2 f6 f7 f8 f9 f10 f11 h
  else skipRun c i E M0 h0 M1 h1 M2 h2 M3 h3 M4 h4 M5 h5 M6 h6 M7 h7 M8 h8 M9 h9 M10 h10 M11 h11 M12 h12 M13 h13 M14 h14 f0 f1 f2 f6 f7 f8 f9 f10 f11 (hcc h) h

/-- The run of the whole body at one grid point: what it leaves in the five results' buffers and in the scratch buffers 0 to 3. -/
def fullRun
    (hcc : ¬ k0_cond2 i = 1#1 → ¬ Scalar.cmpi .ne (Scalar.extui (Scalar.cmpi .eq (BitVec.ofNat 32 (i 1).val) 0#32) : BitVec 32) 0#32 = 1#1) :
    { W : (Bf (F := F) c M3 × Bf (F := F) c M4 × Bf (F := F) c M5)
        × (Bf (F := F) c M6 × Bf (F := F) c M7 × Bf (F := F) c M8 × Bf (F := F) c M9 × Bf (F := F) c M10 × Bf (F := F) c M11) //
      ∀ (f3 : Bf (F := F) c M3) (f4 : Bf (F := F) c M4) (f12 : Bf (F := F) c M12) (f13 : Bf (F := F) c M13) (f14 : Bf (F := F) c M14)
        (Q : PUnit → sProp 𝕄),
        iprop(pt c M0 f0 ∗ pt c M1 f1 ∗ pt c M2 f2 ∗ pt c M3 f3 ∗ pt c M4 f4 ∗ pt c M5 f5 ∗ pt c M6 f6 ∗ pt c M7 f7
          ∗ pt c M8 f8 ∗ pt c M9 f9 ∗ pt c M10 f10 ∗ pt c M11 f11 ∗ pt c M12 f12 ∗ pt c M13 f13 ∗ pt c M14 f14
          ∗ (iprop(pt c M0 f0 ∗ pt c M1 f1 ∗ pt c M2 f2 ∗ pt c M3 W.1.1 ∗ pt c M4 W.1.2.1 ∗ pt c M5 W.1.2.2 ∗ pt c M6 W.2.1 ∗ pt c M7 W.2.2.1
                ∗ pt c M8 W.2.2.2.1 ∗ pt c M9 W.2.2.2.2.1 ∗ pt c M10 W.2.2.2.2.2.1 ∗ pt c M11 W.2.2.2.2.2.2
                ∗ (∃ f, pt c M12 f) ∗ (∃ f, pt c M13 f) ∗ (∃ f, pt c M14 f)) -∗ Q ⟨⟩))
        ⊢ wp frame (wpE (defs₀ (F := F)) Variants.none c none) E
            (cc0_sage_attention i M0 h0 M1 h1 M2 h2 M3 h3 M4 h4 M5 h5 M6 h6 M7 h7 M8 h8 M9 h9 M10 h10 M11 h11 M12 h12 M13 h13 M14 h14) Q } :=
  let H := headRun c i E M0 h0 M1 h1 M2 h2 M3 h3 M4 h4 M5 h5 M6 h6 M7 h7 M8 h8 M9 h9 M10 h10 M11 h11 M12 h12 M13 h13 M14 h14 f0 f1 f2 f6 f7 f8 f9 f10 f11 hcc
  let R := mainRun c i E M0 h0 M1 h1 M2 h2 M3 h3 M4 h4 M5 h5 M6 h6 M7 h7 M8 h8 M9 h9 M10 h10 M11 h11 M12 h12 M13 h13 M14 h14 f0 f1 f2 f5 f6 H.1.1 f7 H.1.2.1 f8 H.1.2.2.1 f9 H.1.2.2.2.1 f10 H.1.2.2.2.2.1 f11 H.1.2.2.2.2.2 H.2
  ⟨(R.1, H.1), R.2⟩

end Run

/-- The first query group of all is the first of its four. -/
theorem cond1_of_cond2 : ∀ t : Fin grid0.N, ¬ k0_cond2 (grid0.coords t) = 1#1 →
    ¬ Scalar.cmpi .ne (Scalar.extui (Scalar.cmpi .eq (BitVec.ofNat 32 (grid0.coords t 1).val) 0#32) : BitVec 32) 0#32 = 1#1 := by
  decide +kernel

section Point

variable (c : Dev nD) (t : Fin cfg0.N)
    (f0 : Bf (F := F) c (win0_0.stage (cfg0.slots t 0))) (f1 : Bf (F := F) c (win0_1.stage (cfg0.slots t 1))) (f2 : Bf (F := F) c (win0_2.stage (cfg0.slots t 2)))
    (f5 : Bf (F := F) c (win0_5.stage (cfg0.slots t 5))) (f6 : Bf (F := F) c (win0_6.stage (cfg0.slots t 6))) (f7 : Bf (F := F) c (win0_7.stage (cfg0.slots t 7)))
    (f8 : Bf (F := F) c (Memref.whole cc0_scratch0)) (f9 : Bf (F := F) c (Memref.whole cc0_scratch1)) (f10 : Bf (F := F) c (Memref.whole cc0_scratch2)) (f11 : Bf (F := F) c (Memref.whole cc0_scratch3))

/-- The body's run on the buffers of grid point `t`. -/
def runAt := fullRun (F := F) c (grid0.coords t) Set.univ (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) f0 f1 f2 f5 f6 f7 f8 f9 f10 f11 (cond1_of_cond2 t)

end Point

section Whole

variable (m : (ℓ : Loc nD τ sig) → Buf (Elt F) ℓ) (ρ : Dev nD → PrngReg)
  (I : (c : Dev nD) → Fin (cfg0.N + 1) → Bf (F := F) c (Memref.whole cc0_scratch1) → Bf (F := F) c (Memref.whole cc0_scratch2)
    → Bf (F := F) c (Memref.whole cc0_scratch3) → Prop)
  (Rl : (c : Dev nD) → (w : Fin cfg0.W) → Fin cfg0.N → ((cfg0.win w).block.Idx → Elt F (cfg0.win w).elt) → Prop)

/-- The five results' windows. -/
abbrev isRes : Fin cfg0.W → Bool := fun w => decide (3 ≤ w.val)

/-- The scratch buffers between two grid points: each held whole, the carried three at contents that meet `I`. -/
def Φs (c : Dev nD) (t : Fin (cfg0.N + 1)) : sProp 𝕄 :=
  iprop((∃ f, pt (F := F) c (Memref.whole cc0_scratch0) f)
    ∗ (∃ f9 f10 f11, ⌜I c t f9 f10 f11⌝ ∗ pt (F := F) c (Memref.whole cc0_scratch1) f9 ∗ pt c (Memref.whole cc0_scratch2) f10 ∗ pt c (Memref.whole cc0_scratch3) f11)
    ∗ (∃ f, pt (F := F) c (Memref.whole cc0_scratch4) f) ∗ (∃ f, pt (F := F) c (Memref.whole cc0_scratch5) f) ∗ (∃ f, pt (F := F) c (Memref.whole cc0_scratch6) f)
    ∗ ∃ r, prngReg c r)

/-- The proof data: the arrays as launched, each input's block left as it is, the scratch invariant `Φs`. What is left in a result's
    window is stated by `Rl` (the contents named here for those windows are not used). -/
def dats (p : Fin 1) (c : Dev nD) : Dat τ (Elt F) Unit ℕ (UR sig nD τ) ℕ (cfgs p) c where
  A := fun w => V m c (Pipeline.arrRef spec0 w)
  after := fun w t => match w with
    | 0 => iblk m c 0 t
    | 1 => iblk m c 1 t
    | 2 => iblk m c 2 t
    | 3 => fun _ => Classical.arbitrary _
    | 4 => fun _ => Classical.arbitrary _
    | 5 => fun _ => Classical.arbitrary _
    | 6 => fun _ => Classical.arbitrary _
    | 7 => fun _ => Classical.arbitrary _
    | ⟨_ + 8, h⟩ => absurd h (Nat.not_lt.2 (Nat.le_add_left _ _))
  Φ := Φs I c
  q := fun _ => fullShare
  owed := fun _ => 0

/-- The relational data: the results' windows held to `Rl`. -/
abbrev rdats (c : Dev nD) := (dats m I 0 c).toRRel isRes (Rl c)

/-- ONE POINT KEEPS THE PREDICATES: from the input blocks of point `t`, scratch contents that meet `I` and staging contents that the
    point may find, the run leaves results that meet `Rl` and scratch contents that meet `I`. -/
def Step (c : Dev nD) (t : Fin cfg0.N) : Prop :=
  ∀
    (f0 : Bf (F := F) c (win0_0.stage (cfg0.slots t 0))) (f1 : Bf (F := F) c (win0_1.stage (cfg0.slots t 1))) (f2 : Bf (F := F) c (win0_2.stage (cfg0.slots t 2)))
    (f5 : Bf (F := F) c (win0_5.stage (cfg0.slots t 5))) (f6 : Bf (F := F) c (win0_6.stage (cfg0.slots t 6))) (f7 : Bf (F := F) c (win0_7.stage (cfg0.slots t 7)))
    (f8 : Bf (F := F) c (Memref.whole cc0_scratch0)) (f9 : Bf (F := F) c (Memref.whole cc0_scratch1)) (f10 : Bf (F := F) c (Memref.whole cc0_scratch2)) (f11 : Bf (F := F) c (Memref.whole cc0_scratch3)),
    (win0_0.stage (cfg0.slots t 0)).view.read (Elt F) f0 = iblk m c 0 t →
    (win0_1.stage (cfg0.slots t 1)).view.read (Elt F) f1 = iblk m c 1 t →
    (win0_2.stage (cfg0.slots t 2)).view.read (Elt F) f2 = iblk m c 2 t →
    I c t.castSucc f9 f10 f11 →
    (rdats m I Rl c).Finds 5 t ((win0_5.stage (cfg0.slots t 5)).view.read (Elt F) f5) →
    (rdats m I Rl c).Finds 6 t ((win0_6.stage (cfg0.slots t 6)).view.read (Elt F) f6) →
    (rdats m I Rl c).Finds 7 t ((win0_7.stage (cfg0.slots t 7)).view.read (Elt F) f7) →
    Rl c 3 t ((win0_3.stage (cfg0.slots t 3)).view.read (Elt F) (runAt c t f0 f1 f2 f5 f6 f7 f8 f9 f10 f11).1.1.1)
    ∧ Rl c 4 t ((win0_4.stage (cfg0.slots t 4)).view.read (Elt F) (runAt c t f0 f1 f2 f5 f6 f7 f8 f9 f10 f11).1.1.2.1)
    ∧ Rl c 5 t ((win0_5.stage (cfg0.slots t 5)).view.read (Elt F) (runAt c t f0 f1 f2 f5 f6 f7 f8 f9 f10 f11).1.1.2.2)
    ∧ Rl c 6 t ((win0_6.stage (cfg0.slots t 6)).view.read (Elt F) (runAt c t f0 f1 f2 f5 f6 f7 f8 f9 f10 f11).1.2.1)
    ∧ Rl c 7 t ((win0_7.stage (cfg0.slots t 7)).view.read (Elt F) (runAt c t f0 f1 f2 f5 f6 f7 f8 f9 f10 f11).1.2.2.1)
    ∧ I c t.succ (runAt c t f0 f1 f2 f5 f6 f7 f8 f9 f10 f11).1.2.2.2.2.1 (runAt c t f0 f1 f2 f5 f6 f7 f8 f9 f10 f11).1.2.2.2.2.2.1 (runAt c t f0 f1 f2 f5 f6 f7 f8 f9 f10 f11).1.2.2.2.2.2.2

theorem before0_0 (c t d) : (dats m I 0 c).before 0 t d = iblk m c 0 t := before0_0_of m _ rfl (fun _ => rfl) t d
theorem before0_1 (c t d) : (dats m I 0 c).before 1 t d = iblk m c 1 t := before0_1_of m _ rfl (fun _ => rfl) t d
theorem before0_2 (c t d) : (dats m I 0 c).before 2 t d = iblk m c 2 t := before0_2_of m _ rfl (fun _ => rfl) t d

/-- What the body is called with at point `t`. -/
def bodyPre (c : Dev nD) (t : Fin cfg0.N) : sProp 𝕄 :=
  iprop((dats m I 0 c).Φ t.castSucc ∗ (dats m I 0 c).owesAt () t.castSucc
    ∗ (∃ d, owns (c : Thread nD τ) (win0_0.stage (cfg0.slots t 0)) fullShare ((dats m I 0 c).before 0 t d))
    ∗ (∃ d, owns (c : Thread nD τ) (win0_1.stage (cfg0.slots t 1)) fullShare ((dats m I 0 c).before 1 t d))
    ∗ (∃ d, owns (c : Thread nD τ) (win0_2.stage (cfg0.slots t 2)) fullShare ((dats m I 0 c).before 2 t d))
    ∗ (∃ Y, ⌜(rdats m I Rl c).Finds 3 t Y⌝ ∗ owns (c : Thread nD τ) (win0_3.stage (cfg0.slots t 3)) fullShare Y)
    ∗ (∃ Y, ⌜(rdats m I Rl c).Finds 4 t Y⌝ ∗ owns (c : Thread nD τ) (win0_4.stage (cfg0.slots t 4)) fullShare Y)
    ∗ (∃ Y, ⌜(rdats m I Rl c).Finds 5 t Y⌝ ∗ owns (c : Thread nD τ) (win0_5.stage (cfg0.slots t 5)) fullShare Y)
    ∗ (∃ Y, ⌜(rdats m I Rl c).Finds 6 t Y⌝ ∗ owns (c : Thread nD τ) (win0_6.stage (cfg0.slots t 6)) fullShare Y)
    ∗ (∃ Y, ⌜(rdats m I Rl c).Finds 7 t Y⌝ ∗ owns (c : Thread nD τ) (win0_7.stage (cfg0.slots t 7)) fullShare Y))

/-- What the body leaves at point `t`. -/
def bodyPost (c : Dev nD) (t : Fin cfg0.N) : sProp 𝕄 :=
  iprop((dats m I 0 c).Φ t.succ ∗ (dats m I 0 c).owesAt () t.succ
    ∗ owns (c : Thread nD τ) (win0_0.stage (cfg0.slots t 0)) fullShare (iblk m c 0 t)
    ∗ owns (c : Thread nD τ) (win0_1.stage (cfg0.slots t 1)) fullShare (iblk m c 1 t)
    ∗ owns (c : Thread nD τ) (win0_2.stage (cfg0.slots t 2)) fullShare (iblk m c 2 t)
    ∗ (∃ X, ⌜Rl c 3 t X⌝ ∗ owns (c : Thread nD τ) (win0_3.stage (cfg0.slots t 3)) fullShare X)
    ∗ (∃ X, ⌜Rl c 4 t X⌝ ∗ owns (c : Thread nD τ) (win0_4.stage (cfg0.slots t 4)) fullShare X)
    ∗ (∃ X, ⌜Rl c 5 t X⌝ ∗ owns (c : Thread nD τ) (win0_5.stage (cfg0.slots t 5)) fullShare X)
    ∗ (∃ X, ⌜Rl c 6 t X⌝ ∗ owns (c : Thread nD τ) (win0_6.stage (cfg0.slots t 6)) fullShare X)
    ∗ (∃ X, ⌜Rl c 7 t X⌝ ∗ owns (c : Thread nD τ) (win0_7.stage (cfg0.slots t 7)) fullShare X))

theorem own_whole (c : Dev nD) {s : Shape} {e : EltTy} (M : Memref sig .tc .vmem s e) (h : M.IsWhole) (X : s.Idx → Elt F e) :
    (owns (c : Thread nD τ) M fullShare X : sProp 𝕄) = iprop(∃ f : Bf (F := F) c M, ⌜M.view.read (Elt F) f = X⌝ ∗ pt c M f) := by
  unfold owns; rw [Memref.IsWhole.set_eq_univ h]

set_option maxHeartbeats 1000000 in
/-- The body at any point, from `Step`. -/
theorem sound_body (c : Dev nD) (t : Fin cfg0.N) (hs : Step m I Rl c t) :
    bodyPre m I Rl c t ⊢ wp frame (wpE (defs₀ (F := F)) Variants.none c none) Set.univ (bodyAt0 t) (fun _ => bodyPost m I Rl c t) := by
  unfold bodyPre bodyPost
  simp only [before0_0, before0_1, before0_2]
  rw [show (dats m I 0 c).Φ t.castSucc = Φs I c t.castSucc from rfl, show (dats m I 0 c).Φ t.succ = Φs I c t.succ from rfl,
    show (dats m I 0 c).owesAt () t.succ = (dats m I 0 c).owesAt () t.castSucc from rfl]
  unfold Φs
  simp only [own_whole c (win0_0.stage (cfg0.slots t 0)) (hstage0_0 ((cfg0.slots t 0).cast nbuf0_0))]
  simp only [own_whole c (win0_1.stage (cfg0.slots t 1)) (hstage0_1 ((cfg0.slots t 1).cast nbuf0_1))]
  simp only [own_whole c (win0_2.stage (cfg0.slots t 2)) (hstage0_2 ((cfg0.slots t 2).cast nbuf0_2))]
  simp only [own_whole c (win0_3.stage (cfg0.slots t 3)) (hstage0_3 ((cfg0.slots t 3).cast nbuf0_3))]
  simp only [own_whole c (win0_4.stage (cfg0.slots t 4)) (hstage0_4 ((cfg0.slots t 4).cast nbuf0_4))]
  simp only [own_whole c (win0_5.stage (cfg0.slots t 5)) (hstage0_5 ((cfg0.slots t 5).cast nbuf0_5))]
  simp only [own_whole c (win0_6.stage (cfg0.slots t 6)) (hstage0_6 ((cfg0.slots t 6).cast nbuf0_6))]
  simp only [own_whole c (win0_7.stage (cfg0.slots t 7)) (hstage0_7 ((cfg0.slots t 7).cast nbuf0_7))]
  iintro ⟨⟨⟨%f8, S0⟩, ⟨%f9, %f10, %f11, %hI, S1, S2, S3⟩, ⟨%f12, S4⟩, ⟨%f13, S5⟩, ⟨%f14, S6⟩, Hr⟩, Ho, ⟨%d0, %f0, %hf0, H0⟩, ⟨%d1, %f1, %hf1, H1⟩, ⟨%d2, %f2, %hf2, H2⟩, ⟨%Y3, %hY3, %f3, %hf3, H3⟩, ⟨%Y4, %hY4, %f4, %hf4, H4⟩, ⟨%Y5, %hY5, %f5, %hf5, H5⟩, ⟨%Y6, %hY6, %f6, %hf6, H6⟩, ⟨%Y7, %hY7, %f7, %hf7, H7⟩⟩
  subst hf3 hf4 hf5 hf6 hf7
  obtain ⟨q3, q4, q5, q6, q7, qI⟩ := hs f0 f1 f2 f5 f6 f7 f8 f9 f10 f11 hf0 hf1 hf2 hI hY5 hY6 hY7
  iapply ((runAt c t f0 f1 f2 f5 f6 f7 f8 f9 f10 f11).2 f3 f4 f12 f13 f14 _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [S0]; · iexact S0
  isplitl [S1]; · iexact S1
  isplitl [S2]; · iexact S2
  isplitl [S3]; · iexact S3
  isplitl [S4]; · iexact S4
  isplitl [S5]; · iexact S5
  isplitl [S6]; · iexact S6
  iintro ⟨H0, H1, H2, H3, H4, H5, H6, H7, S0, S1, S2, S3, S4, S5, S6⟩
  isplitl [S0 S1 S2 S3 S4 S5 S6 Hr]
  · isplitl [S0]; · iexists _; iexact S0
    isplitl [S1 S2 S3]
    · iexists _; iexists _; iexists _
      isplitr; · ipureintro; exact qI
      isplitl [S1]; · iexact S1
      isplitl [S2]; · iexact S2
      iexact S3
    isplitl [S4]; · iexact S4
    isplitl [S5]; · iexact S5
    isplitl [S6]; · iexact S6
    iexact Hr
  isplitl [Ho]; · iexact Ho
  isplitl [H0]
  · iexists f0; isplitr; · ipureintro; exact hf0
    iexact H0
  isplitl [H1]
  · iexists f1; isplitr; · ipureintro; exact hf1
    iexact H1
  isplitl [H2]
  · iexists f2; isplitr; · ipureintro; exact hf2
    iexact H2
  isplitl [H3]
  · iexists _; isplitr; · ipureintro; exact q3
    iexists _; isplitr; · ipureintro; rfl
    iexact H3
  isplitl [H4]
  · iexists _; isplitr; · ipureintro; exact q4
    iexists _; isplitr; · ipureintro; rfl
    iexact H4
  isplitl [H5]
  · iexists _; isplitr; · ipureintro; exact q5
    iexists _; isplitr; · ipureintro; rfl
    iexact H5
  isplitl [H6]
  · iexists _; isplitr; · ipureintro; exact q6
    iexists _; isplitr; · ipureintro; rfl
    iexact H6
  iexists _; isplitr; · ipureintro; exact q7
  iexists _; isplitr; · ipureintro; rfl
  iexact H7

theorem defs₀_row (t : Fin cfg0.N) :
    defs₀ (F := F) .tc cfg0.body (cfg0.bodyArgs t (cfg0.slots t)) = bodyAt0 t := by
  unfold defs₀; rw [Defs.onTc_tc]

/-- The body obligation of the pipeline, at every point. -/
theorem body_obligation (hs : ∀ c t, Step m I Rl c t) (c : Dev nD) :
    BodyObligationRel (dats m I 0 c) (defs₀ (F := F)) Variants.none () Set.univ isRes (Rl c) := fun t => by
  rw [bigSep_W0, bigSep_W0, defs₀_row]
  exact triple_restated (sound_body m I Rl c t (hs c t)) rfl .rfl fun _ => .rfl

set_option backward.isDefEq.respectTransparency.types false in
set_option maxHeartbeats 1600000 in
/-- THE RUN: if every point keeps the predicates and `I` holds of anything before the first point, every execution ends, with every
    semaphore counter at zero, and with the arrays assembled from contents that meet `Rl`. -/
theorem run_of_step (hs : ∀ c t, Step m I Rl c t) (hI : ∀ c f9 f10 f11, I c 0 f9 f10 f11) :
    θ_run defs (onTc (τ := τ) (main (F := F))) (s₀ m ρ)
      (fun r => RDat.FramePost cfg0 (rdats m I Rl) (V m) r ∧ r.2.sem = fun _ => 0) :=
  RDat.θ_run_frame_track (Q' := _) cfgs (0 : Fin 1) launch0 defs₀ Variants.none (rdats m I Rl) m ρ main
    (hbody := fun c => (body_obligation m I Rl hs c).toRRel)
    (hshare := fun c => (dats m I 0 c).share_full fun _ => rfl)
    (howed := fun _ _ => rfl) (V := V m) (hmain := hmain m Variants.none) (hA := fun _ _ => rfl)
    (hin := fun c => by
      show ΦA spec0 c ⊢ Φs I c 0
      unfold ΦA Φs; rw [scopedRest0_eq]
      iintro ⟨⟨S0, ⟨%f9, S1⟩, ⟨%f10, S2⟩, ⟨%f11, S3⟩, S4, S5, S6⟩, Hr⟩
      isplitl [S0]; · iexact S0
      isplitl [S1 S2 S3]
      · iexists f9; iexists f10; iexists f11
        isplitr; · ipureintro; exact hI c f9 f10 f11
        isplitl [S1]; · iexact S1
        isplitl [S2]; · iexact S2
        iexact S3
      isplitl [S4]; · iexact S4
      isplitl [S5]; · iexact S5
      isplitl [S6]; · iexact S6
      iexact Hr)
    (hout := fun c => by
      show Φs I c (Fin.last cfg0.N) ⊢ ΦA spec0 c
      unfold ΦA Φs; rw [scopedRest0_eq]
      iintro ⟨S0, ⟨%f9, %f10, %f11, %hI, S1, S2, S3⟩, S4, S5, S6, Hr⟩
      isplitr [Hr]
      · isplitl [S0]; · iexact S0
        isplitl [S1]; · iexists _; iexact S1
        isplitl [S2]; · iexists _; iexact S2
        isplitl [S3]; · iexists _; iexact S3
        isplitl [S4]; · iexact S4
        isplitl [S5]; · iexact S5
        iexact S6
      iexact Hr)

/-- THE FRAME: the argument arrays end as they were, and every semaphore counter at zero. -/
theorem quiet : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) ∧ r.2.sem = fun _ => 0) :=
  (θ_run defs _ _).mono (fun r h => ⟨fun c => ⟨h.1.arr_in c 0 rfl, h.1.arr_in c 1 rfl, h.1.arr_in c 2 rfl⟩, h.2⟩)
    (run_of_step m ρ (fun _ _ _ _ _ => True) (fun _ _ _ _ => True) (fun _ _ _ _ _ _ _ _ _ _ _ _ _ _ _ _ _ _ _ => ⟨trivial, trivial, trivial, trivial, trivial, trivial⟩)
      fun _ _ _ _ => trivial)

end Whole

end Cert.KernelIdeal.Body

end
-- ==== Proof.BitsMainRun.lean ====
module

public import proofs.«01_k».proof.Proof.Gen.Kernel.Skeleton
public import proofs.«01_k».proof.Proof.Gen.Kernel.Frame
public import Idealize.ShloMosaic.Lib.Tactic

@[expose] public section

set_option maxRecDepth 65536

noncomputable section

namespace Cert.Kernel.Body

open Cert.Kernel Cert.Kernel.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

/-- Memref `M`'s buffer on core `c`: its contents type, and it held whole at `f`. -/
abbrev Bf (c : Dev nD) {sp : Space} {S : Shape} {e : EltTy} (M : Memref sig .tc sp S e) : Type := Buf (Elt F) (M.view.loc (c : Thread nD τ))
abbrev pt (c : Dev nD) {sp : Space} {S : Shape} {e : EltTy} (M : Memref sig .tc sp S e) (f : Bf (F := F) c M) : sProp 𝕄 :=
  M.view.loc (c : Thread nD τ) ↦{fullShare} f

/-- The word `g mod 4` as the body computes it from the grid's second coordinate. -/
def wj (i : grid0.Coords) : BitVec 32 :=
  let arg1 : BitVec 32 := BitVec.ofNat 32 (i 1).val
  let v0 : BitVec 1 := Scalar.cmpi .eq 4#32 0#32
  let v1 : BitVec 32 := Scalar.select v0 1#32 4#32
  let v2 : BitVec 32 := Scalar.remsi arg1 v1
  let v3 : BitVec 1 := Scalar.cmpi .ne v2 0#32
  let v4 : BitVec 1 := Scalar.cmpi .slt v2 0#32
  let v5 : BitVec 1 := Scalar.cmpi .slt v1 0#32
  let v6 : BitVec 1 := Scalar.xori v4 v5
  let v7 : BitVec 1 := Scalar.andi v6 v3
  let v8 : BitVec 32 := Scalar.addi v2 v1
  Scalar.select v7 v8 v2

/-- A load of 128 tokens of the query block at token block 0, head `h` (lane offset `128·c`). -/
abbrev ldx (c : Dev nD) (M0 : Memref sig .tc .vmem S1x640x640 .bf16) (f0 : Bf (F := F) c M0) (r : Rect S1x640x640) : Vec F r.shape .bf16 :=
  M0.view.readAt (Elt F) r.toLoadRect f0

def mainRun (c : Dev nD) (i : grid0.Coords) (E : Set ℕ)
    (M0 : Memref sig .tc .vmem S1x640x640 .bf16) (h0 : M0.IsWhole) (M1 : Memref sig .tc .vmem S1x640x640 .bf16) (h1 : M1.IsWhole)
    (M2 : Memref sig .tc .vmem S1x640x640 .bf16) (h2 : M2.IsWhole) (M3 : Memref sig .tc .vmem S1x640x640 .bf16) (h3 : M3.IsWhole)
    (M4 : Memref sig .tc .vmem S1x4x160x640 .i8) (h4 : M4.IsWhole) (M5 : Memref sig .tc .vmem S5x2x32 .f32) (h5 : M5.IsWhole)
    (M6 : Memref sig .tc .vmem S1x4x160x640 .i8) (h6 : M6.IsWhole) (M7 : Memref sig .tc .vmem S1x8x10 .f32) (h7 : M7.IsWhole)
    (M8 : Memref sig .tc .vmem S640x640 .bf16) (h8 : M8.IsWhole) (M9 : Memref sig .tc .vmem S640x640 .bf16) (h9 : M9.IsWhole)
    (M10 : Memref sig .tc .vmem S4x640x256 .bf16) (h10 : M10.IsWhole) (M11 : Memref sig .tc .vmem S4x16x128 .f32) (h11 : M11.IsWhole)
    (M12 : Memref sig .tc .vmem S5x160x512 .bf16) (h12 : M12.IsWhole) (M13 : Memref sig .tc .vmem S2x640x256 .f32) (h13 : M13.IsWhole)
    (M14 : Memref sig .tc .vmem S2x640x256 .bf16) (h14 : M14.IsWhole)
    (f0 : Bf (F := F) c M0) (f1 : Bf (F := F) c M1) (f2 : Bf (F := F) c M2)
    (f5 : Bf (F := F) c M5)
    (f6 g6 : Bf (F := F) c M6) (f7 g7 : Bf (F := F) c M7) (f8 g8 : Bf (F := F) c M8) (f9 g9 : Bf (F := F) c M9)
    (f10 g10 : Bf (F := F) c M10) (f11 g11 : Bf (F := F) c M11)
    (hcut : iprop(pt c M0 f0 ∗ pt c M1 f1 ∗ pt c M2 f2 ∗ pt c M6 f6 ∗ pt c M7 f7 ∗ pt c M8 f8 ∗ pt c M9 f9 ∗ pt c M10 f10 ∗ pt c M11 f11)
      ⊢ wp frame (wpE (defs₀ (F := F)) Variants.none c none) E
          (k0_part44 i M0 h0 M1 h1 M2 h2 M3 h3 M4 h4 M5 h5 M6 h6 M7 h7 M8 h8 M9 h9 M10 h10 M11 h11 M12 h12 M13 h13 M14 h14)
          (fun r => iprop(⌜r.1 = BitVec.ofNat 32 (i 0).val⌝ ∗ ⌜r.2.1 = BitVec.ofNat 32 (i 1).val⌝ ∗ ⌜r.2.2.1 = wj i⌝
            ∗ ⌜r.2.2.2.1 = iota .tc S1x32 32 [1] iota_S1x32_d1_w32⌝ ∗ ⌜r.2.2.2.2.1 = k0_pay278⌝ ∗ ⌜r.2.2.2.2.2.1 = Scalar.muli (wj i) 160#32⌝
            ∗ ⌜r.2.2.2.2.2.2.1 = k0_pay279 (ldx c M0 f0 (Rect.unit (s := S1x640x640) ![0, 0, 0] S1x128x128.size inb_S1x640x640_S1x128x128_0_0_0))⌝
            ∗ ⌜r.2.2.2.2.2.2.2.1 = k0_pay280 (ldx c M0 f0 (Rect.unit (s := S1x640x640) ![0, 0, 128] S1x128x128.size inb_S1x640x640_S1x128x128_0_0_128))⌝
            ∗ ⌜r.2.2.2.2.2.2.2.2.1 = k0_pay281 (ldx c M0 f0 (Rect.unit (s := S1x640x640) ![0, 0, 256] S1x128x128.size inb_S1x640x640_S1x128x128_0_0_256))⌝
            ∗ ⌜r.2.2.2.2.2.2.2.2.2 = k0_pay282 (ldx c M0 f0 (Rect.unit (s := S1x640x640) ![0, 0, 384] S1x128x128.size inb_S1x640x640_S1x128x128_0_0_384))⌝
            ∗ pt c M0 f0 ∗ pt c M1 f1 ∗ pt c M2 f2 ∗ pt c M6 g6 ∗ pt c M7 g7 ∗ pt c M8 g8 ∗ pt c M9 g9 ∗ pt c M10 g10 ∗ pt c M11 g11))) :
    { W : Bf (F := F) c M3 × Bf (F := F) c M4 × Bf (F := F) c M5 //
      ∀ (f3 : Bf (F := F) c M3) (f4 : Bf (F := F) c M4) (f12 : Bf (F := F) c M12) (f13 : Bf (F := F) c M13) (f14 : Bf (F := F) c M14)
        (Q : PUnit → sProp 𝕄),
        iprop(pt c M0 f0 ∗ pt c M1 f1 ∗ pt c M2 f2 ∗ pt c M3 f3 ∗ pt c M4 f4 ∗ pt c M5 f5 ∗ pt c M6 f6 ∗ pt c M7 f7
          ∗ pt c M8 f8 ∗ pt c M9 f9 ∗ pt c M10 f10 ∗ pt c M11 f11 ∗ pt c M12 f12 ∗ pt c M13 f13 ∗ pt c M14 f14
          ∗ (iprop(pt c M0 f0 ∗ pt c M1 f1 ∗ pt c M2 f2 ∗ pt c M3 W.1 ∗ pt c M4 W.2.1 ∗ pt c M5 W.2.2 ∗ pt c M6 g6 ∗ pt c M7 g7
                ∗ pt c M8 g8 ∗ pt c M9 g9 ∗ pt c M10 g10 ∗ pt c M11 g11
                ∗ (∃ f, pt c M12 f) ∗ (∃ f, pt c M13 f) ∗ (∃ f, pt c M14 f)) -∗ Q ⟨⟩))
        ⊢ wp frame (wpE (defs₀ (F := F)) Variants.none c none) E
            (cc0_sage_attention i M0 h0 M1 h1 M2 h2 M3 h3 M4 h4 M5 h5 M6 h6 M7 h7 M8 h8 M9 h9 M10 h10 M11 h11 M12 h12 M13 h13 M14 h14) Q } := by
  refine ⟨⟨?_, ?_, ?_⟩, fun f3 f4 f12 f13 f14 Q => ?run⟩
  case run =>
    iintro ⟨H0, H1, H2, H3, H4, H5, H6, H7, H8, H9, H10, H11, H12, H13, H14, Hk⟩
    set_option sl_exec.resultNames true in
    sl_exec_parts!
    sl_step
    subst hk0_part44_0 hk0_part44_1 hk0_part44_2 hk0_part44_3 hk0_part44_4 hk0_part44_5 hk0_part44_6 hk0_part44_7 hk0_part44_8 hk0_part44_9

    iapply Hk
    isplitl [Hk0_part44_10]; · iexact Hk0_part44_10
    isplitl [Hk0_part44_11]; · iexact Hk0_part44_11
    isplitl [Hk0_part44_12]; · iexact Hk0_part44_12
    isplitl [H3]; · iexact H3
    isplitl [H4]; · iexact H4
    isplitl [H5]; · iexact H5
    isplitl [Hk0_part44_13]; · iexact Hk0_part44_13
    isplitl [Hk0_part44_14]; · iexact Hk0_part44_14
    isplitl [Hk0_part44_15]; · iexact Hk0_part44_15
    isplitl [Hk0_part44_16]; · iexact Hk0_part44_16
    isplitl [Hk0_part44_17]; · iexact Hk0_part44_17
    isplitl [Hk0_part44_18]; · iexact Hk0_part44_18
    isplitl [H12]; · iexists _; iexact H12
    isplitl [H13]; · iexists _; iexact H13
    iexists _; iexact H14

end Cert.Kernel.Body

end
-- ==== Proof.BitsHeadRun.lean ====
module

public import proofs.«01_k».proof.Proof.Gen.Kernel.Skeleton
public import proofs.«01_k».proof.Proof.Gen.Kernel.Frame
public import Idealize.ShloMosaic.Lib.Tactic
public import proofs.«01_k».proof.Proof.BitsMainRun

@[expose] public section

set_option maxRecDepth 65536

noncomputable section

namespace Cert.Kernel.Body

open Cert.Kernel Cert.Kernel.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

def skipRun (c : Dev nD) (i : grid0.Coords) (E : Set ℕ)
    (M0 : Memref sig .tc .vmem S1x640x640 .bf16) (h0 : M0.IsWhole)
    (M1 : Memref sig .tc .vmem S1x640x640 .bf16) (h1 : M1.IsWhole)
    (M2 : Memref sig .tc .vmem S1x640x640 .bf16) (h2 : M2.IsWhole)
    (M3 : Memref sig .tc .vmem S1x640x640 .bf16) (h3 : M3.IsWhole)
    (M4 : Memref sig .tc .vmem S1x4x160x640 .i8) (h4 : M4.IsWhole)
    (M5 : Memref sig .tc .vmem S5x2x32 .f32) (h5 : M5.IsWhole)
    (M6 : Memref sig .tc .vmem S1x4x160x640 .i8) (h6 : M6.IsWhole)
    (M7 : Memref sig .tc .vmem S1x8x10 .f32) (h7 : M7.IsWhole)
    (M8 : Memref sig .tc .vmem S640x640 .bf16) (h8 : M8.IsWhole)
    (M9 : Memref sig .tc .vmem S640x640 .bf16) (h9 : M9.IsWhole)
    (M10 : Memref sig .tc .vmem S4x640x256 .bf16) (h10 : M10.IsWhole)
    (M11 : Memref sig .tc .vmem S4x16x128 .f32) (h11 : M11.IsWhole)
    (M12 : Memref sig .tc .vmem S5x160x512 .bf16) (h12 : M12.IsWhole)
    (M13 : Memref sig .tc .vmem S2x640x256 .f32) (h13 : M13.IsWhole)
    (M14 : Memref sig .tc .vmem S2x640x256 .bf16) (h14 : M14.IsWhole)
    (f0 : Bf (F := F) c M0) (f1 : Bf (F := F) c M1) (f2 : Bf (F := F) c M2) (f6 : Bf (F := F) c M6) (f7 : Bf (F := F) c M7)
    (f8 : Bf (F := F) c M8) (f9 : Bf (F := F) c M9) (f10 : Bf (F := F) c M10) (f11 : Bf (F := F) c M11)
    (hc1 : ¬ Scalar.cmpi .ne (Scalar.extui (Scalar.cmpi .eq (BitVec.ofNat 32 (i 1).val) 0#32) : BitVec 32) 0#32 = 1#1)
    (hc2 : ¬ k0_cond2 i = 1#1) :
    { W : Bf (F := F) c M6 × Bf (F := F) c M7 × Bf (F := F) c M8 × Bf (F := F) c M9 × Bf (F := F) c M10 × Bf (F := F) c M11 //
      iprop(pt c M0 f0 ∗ pt c M1 f1 ∗ pt c M2 f2 ∗ pt c M6 f6 ∗ pt c M7 f7 ∗ pt c M8 f8 ∗ pt c M9 f9 ∗ pt c M10 f10 ∗ pt c M11 f11)
      ⊢ wp frame (wpE (defs₀ (F := F)) Variants.none c none) E
          (k0_part44 i M0 h0 M1 h1 M2 h2 M3 h3 M4 h4 M5 h5 M6 h6 M7 h7 M8 h8 M9 h9 M10 h10 M11 h11 M12 h12 M13 h13 M14 h14)
          (fun r => iprop(⌜r.1 = BitVec.ofNat 32 (i 0).val⌝ ∗ ⌜r.2.1 = BitVec.ofNat 32 (i 1).val⌝ ∗ ⌜r.2.2.1 = wj i⌝
            ∗ ⌜r.2.2.2.1 = iota .tc S1x32 32 [1] iota_S1x32_d1_w32⌝ ∗ ⌜r.2.2.2.2.1 = k0_pay278⌝ ∗ ⌜r.2.2.2.2.2.1 = Scalar.muli (wj i) 160#32⌝
            ∗ ⌜r.2.2.2.2.2.2.1 = k0_pay279 (ldx c M0 f0 (Rect.unit (s := S1x640x640) ![0, 0, 0] S1x128x128.size inb_S1x640x640_S1x128x128_0_0_0))⌝
            ∗ ⌜r.2.2.2.2.2.2.2.1 = k0_pay280 (ldx c M0 f0 (Rect.unit (s := S1x640x640) ![0, 0, 128] S1x128x128.size inb_S1x640x640_S1x128x128_0_0_128))⌝
            ∗ ⌜r.2.2.2.2.2.2.2.2.1 = k0_pay281 (ldx c M0 f0 (Rect.unit (s := S1x640x640) ![0, 0, 256] S1x128x128.size inb_S1x640x640_S1x128x128_0_0_256))⌝
            ∗ ⌜r.2.2.2.2.2.2.2.2.2 = k0_pay282 (ldx c M0 f0 (Rect.unit (s := S1x640x640) ![0, 0, 384] S1x128x128.size inb_S1x640x640_S1x128x128_0_0_384))⌝
            ∗ pt c M0 f0 ∗ pt c M1 f1 ∗ pt c M2 f2 ∗ pt c M6 W.1 ∗ pt c M7 W.2.1 ∗ pt c M8 W.2.2.1 ∗ pt c M9 W.2.2.2.1
            ∗ pt c M10 W.2.2.2.2.1 ∗ pt c M11 W.2.2.2.2.2)) } := by
  refine ⟨⟨?_, ?_, ?_, ?_, ?_, ?_⟩, ?run⟩
  case run =>
    iintro ⟨H0, H1, H2, H6, H7, H8, H9, H10, H11⟩
    rw [k0_part44_eq_skeleton]; unfold k0_part44_skel
    set_option sl_exec.resultNames true in
    sl_exec_parts
    sl_step
    isplitr; · ipureintro; rfl
    isplitr; · ipureintro; rfl
    isplitr; · ipureintro; rfl
    isplitr; · ipureintro; rfl
    isplitr; · ipureintro; rfl
    isplitr; · ipureintro; rfl
    isplitr; · ipureintro; rfl
    isplitr; · ipureintro; rfl
    isplitr; · ipureintro; rfl
    isplitr; · ipureintro; rfl
    isplitl [H0]; · iexact H0
    isplitl [H1]; · iexact H1
    isplitl [H2]; · iexact H2
    isplitl [H6]; · iexact H6
    isplitl [H7]; · iexact H7
    isplitl [H8]; · iexact H8
    isplitl [H9]; · iexact H9
    isplitl [H10]; · iexact H10
    iexact H11

def prepRun (c : Dev nD) (i : grid0.Coords) (E : Set ℕ)
    (M0 : Memref sig .tc .vmem S1x640x640 .bf16) (h0 : M0.IsWhole)
    (M1 : Memref sig .tc .vmem S1x640x640 .bf16) (h1 : M1.IsWhole)
    (M2 : Memref sig .tc .vmem S1x640x640 .bf16) (h2 : M2.IsWhole)
    (M3 : Memref sig .tc .vmem S1x640x640 .bf16) (h3 : M3.IsWhole)
    (M4 : Memref sig .tc .vmem S1x4x160x640 .i8) (h4 : M4.IsWhole)
    (M5 : Memref sig .tc .vmem S5x2x32 .f32) (h5 : M5.IsWhole)
    (M6 : Memref sig .tc .vmem S1x4x160x640 .i8) (h6 : M6.IsWhole)
    (M7 : Memref sig .tc .vmem S1x8x10 .f32) (h7 : M7.IsWhole)
    (M8 : Memref sig .tc .vmem S640x640 .bf16) (h8 : M8.IsWhole)
    (M9 : Memref sig .tc .vmem S640x640 .bf16) (h9 : M9.IsWhole)
    (M10 : Memref sig .tc .vmem S4x640x256 .bf16) (h10 : M10.IsWhole)
    (M11 : Memref sig .tc .vmem S4x16x128 .f32) (h11 : M11.IsWhole)
    (M12 : Memref sig .tc .vmem S5x160x512 .bf16) (h12 : M12.IsWhole)
    (M13 : Memref sig .tc .vmem S2x640x256 .f32) (h13 : M13.IsWhole)
    (M14 : Memref sig .tc .vmem S2x640x256 .bf16) (h14 : M14.IsWhole)
    (f0 : Bf (F := F) c M0) (f1 : Bf (F := F) c M1) (f2 : Bf (F := F) c M2) (f6 : Bf (F := F) c M6) (f7 : Bf (F := F) c M7)
    (f8 : Bf (F := F) c M8) (f9 : Bf (F := F) c M9) (f10 : Bf (F := F) c M10) (f11 : Bf (F := F) c M11)
    (hc2 : k0_cond2 i = 1#1) :
    { W : Bf (F := F) c M6 × Bf (F := F) c M7 × Bf (F := F) c M8 × Bf (F := F) c M9 × Bf (F := F) c M10 × Bf (F := F) c M11 //
      iprop(pt c M0 f0 ∗ pt c M1 f1 ∗ pt c M2 f2 ∗ pt c M6 f6 ∗ pt c M7 f7 ∗ pt c M8 f8 ∗ pt c M9 f9 ∗ pt c M10 f10 ∗ pt c M11 f11)
      ⊢ wp frame (wpE (defs₀ (F := F)) Variants.none c none) E
          (k0_part44 i M0 h0 M1 h1 M2 h2 M3 h3 M4 h4 M5 h5 M6 h6 M7 h7 M8 h8 M9 h9 M10 h10 M11 h11 M12 h12 M13 h13 M14 h14)
          (fun r => iprop(⌜r.1 = BitVec.ofNat 32 (i 0).val⌝ ∗ ⌜r.2.1 = BitVec.ofNat 32 (i 1).val⌝ ∗ ⌜r.2.2.1 = wj i⌝
            ∗ ⌜r.2.2.2.1 = iota .tc S1x32 32 [1] iota_S1x32_d1_w32⌝ ∗ ⌜r.2.2.2.2.1 = k0_pay278⌝ ∗ ⌜r.2.2.2.2.2.1 = Scalar.muli (wj i) 160#32⌝
            ∗ ⌜r.2.2.2.2.2.2.1 = k0_pay279 (ldx c M0 f0 (Rect.unit (s := S1x640x640) ![0, 0, 0] S1x128x128.size inb_S1x640x640_S1x128x128_0_0_0))⌝
            ∗ ⌜r.2.2.2.2.2.2.2.1 = k0_pay280 (ldx c M0 f0 (Rect.unit (s := S1x640x640) ![0, 0, 128] S1x128x128.size inb_S1x640x640_S1x128x128_0_0_128))⌝
            ∗ ⌜r.2.2.2.2.2.2.2.2.1 = k0_pay281 (ldx c M0 f0 (Rect.unit (s := S1x640x640) ![0, 0, 256] S1x128x128.size inb_S1x640x640_S1x128x128_0_0_256))⌝
            ∗ ⌜r.2.2.2.2.2.2.2.2.2 = k0_pay282 (ldx c M0 f0 (Rect.unit (s := S1x640x640) ![0, 0, 384] S1x128x128.size inb_S1x640x640_S1x128x128_0_0_384))⌝
            ∗ pt c M0 f0 ∗ pt c M1 f1 ∗ pt c M2 f2 ∗ pt c M6 W.1 ∗ pt c M7 W.2.1 ∗ pt c M8 W.2.2.1 ∗ pt c M9 W.2.2.2.1
            ∗ pt c M10 W.2.2.2.2.1 ∗ pt c M11 W.2.2.2.2.2)) } := by
  refine ⟨⟨?_, ?_, ?_, ?_, ?_, ?_⟩, ?run⟩
  case run =>
    iintro ⟨H0, H1, H2, H6, H7, H8, H9, H10, H11⟩
    rw [k0_part44_eq_skeleton]; unfold k0_part44_skel
    set_option sl_exec.resultNames true in
    sl_exec_parts
    sl_step
    isplitr; · ipureintro; rfl
    isplitr; · ipureintro; rfl
    isplitr; · ipureintro; rfl
    isplitr; · ipureintro; rfl
    isplitr; · ipureintro; rfl
    isplitr; · ipureintro; rfl
    isplitr; · ipureintro; rfl
    isplitr; · ipureintro; rfl
    isplitr; · ipureintro; rfl
    isplitr; · ipureintro; rfl
    isplitl [H0]; · iexact H0
    isplitl [H1]; · iexact H1
    isplitl [H2]; · iexact H2
    isplitl [H6]; · iexact H6
    isplitl [H7]; · iexact H7
    isplitl [H8]; · iexact H8
    isplitl [H9]; · iexact H9
    isplitl [H10]; · iexact H10
    iexact H11

end Cert.Kernel.Body

end
-- ==== Proof.BitsBody.lean ====
module

public import proofs.«01_k».proof.Proof.BitsHeadRun
public import Idealize.ShloMosaic.Lib.Pipeline.DatRel
public import Idealize.ShloMosaic.Lib.Pipeline.ArrRel

/-! One run of the kernel's body at a grid point, and the whole program's run from what one point does.

`fullRun` joins the run of the body's head (which prepares the keys and values at the first of four query groups and otherwise
leaves the scratch buffers alone) with the run of the rest. `runAt` is that run on the staging and scratch buffers of grid point
`t`. `run_of_step` takes a predicate `I` on the three scratch buffers that are carried from point to point and a
predicate `Rl` on the contents of each result's staging buffer, kept by every point (`Step`), and concludes that every execution ends with
the result arrays assembled from contents that meet `Rl`. -/

@[expose] public section

set_option maxRecDepth 65536

noncomputable section

namespace Cert.Kernel.Body

open Cert.Kernel Cert.Kernel.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window ΦA BodyObligationRel)

variable {F : FTy → Type} [FloatOps F]

local notation "𝕄" => MT nD τ sig Unit (Elt F) ℕ (UR sig nD τ) ℕ

section Run

variable (c : Dev nD) (i : grid0.Coords) (E : Set ℕ)
  (M0 : Memref sig .tc .vmem S1x640x640 .bf16) (h0 : M0.IsWhole)
  (M1 : Memref sig .tc .vmem S1x640x640 .bf16) (h1 : M1.IsWhole)
  (M2 : Memref sig .tc .vmem S1x640x640 .bf16) (h2 : M2.IsWhole)
  (M3 : Memref sig .tc .vmem S1x640x640 .bf16) (h3 : M3.IsWhole)
  (M4 : Memref sig .tc .vmem S1x4x160x640 .i8) (h4 : M4.IsWhole)
  (M5 : Memref sig .tc .vmem S5x2x32 .f32) (h5 : M5.IsWhole)
  (M6 : Memref sig .tc .vmem S1x4x160x640 .i8) (h6 : M6.IsWhole)
  (M7 : Memref sig .tc .vmem S1x8x10 .f32) (h7 : M7.IsWhole)
  (M8 : Memref sig .tc .vmem S640x640 .bf16) (h8 : M8.IsWhole)
  (M9 : Memref sig .tc .vmem S640x640 .bf16) (h9 : M9.IsWhole)
  (M10 : Memref sig .tc .vmem S4x640x256 .bf16) (h10 : M10.IsWhole)
  (M11 : Memref sig .tc .vmem S4x16x128 .f32) (h11 : M11.IsWhole)
  (M12 : Memref sig .tc .vmem S5x160x512 .bf16) (h12 : M12.IsWhole)
  (M13 : Memref sig .tc .vmem S2x640x256 .f32) (h13 : M13.IsWhole)
  (M14 : Memref sig .tc .vmem S2x640x256 .bf16) (h14 : M14.IsWhole)
    (f0 : Bf (F := F) c M0) (f1 : Bf (F := F) c M1) (f2 : Bf (F := F) c M2)
    (f5 : Bf (F := F) c M5) (f6 : Bf (F := F) c M6) (f7 : Bf (F := F) c M7)
    (f8 : Bf (F := F) c M8) (f9 : Bf (F := F) c M9) (f10 : Bf (F := F) c M10) (f11 : Bf (F := F) c M11)

/-- The run of the body's head: with the preparation of keys and values (`k0_cond2`) or without. -/
def headRun
    (hcc : ¬ k0_cond2 i = 1#1 → ¬ Scalar.cmpi .ne (Scalar.extui (Scalar.cmpi .eq (BitVec.ofNat 32 (i 1).val) 0#32) : BitVec 32) 0#32 = 1#1) :
    { W : Bf (F := F) c M6 × Bf (F := F) c M7 × Bf (F := F) c M8 × Bf (F := F) c M9 × Bf (F := F) c M10 × Bf (F := F) c M11 //
      iprop(pt c M0 f0 ∗ pt c M1 f1 ∗ pt c M2 f2 ∗ pt c M6 f6 ∗ pt c M7 f7 ∗ pt c M8 f8 ∗ pt c M9 f9 ∗ pt c M10 f10 ∗ pt c M11 f11)
      ⊢ wp frame (wpE (defs₀ (F := F)) Variants.none c none) E
          (k0_part44 i M0 h0 M1 h1 M2 h2 M3 h3 M4 h4 M5 h5 M6 h6 M7 h7 M8 h8 M9 h9 M10 h10 M11 h11 M12 h12 M13 h13 M14 h14)
          (fun r => iprop(⌜r.1 = BitVec.ofNat 32 (i 0).val⌝ ∗ ⌜r.2.1 = BitVec.ofNat 32 (i 1).val⌝ ∗ ⌜r.2.2.1 = wj i⌝
            ∗ ⌜r.2.2.2.1 = iota .tc S1x32 32 [1] iota_S1x32_d1_w32⌝ ∗ ⌜r.2.2.2.2.1 = k0_pay278⌝ ∗ ⌜r.2.2.2.2.2.1 = Scalar.muli (wj i) 160#32⌝
            ∗ ⌜r.2.2.2.2.2.2.1 = k0_pay279 (ldx c M0 f0 (Rect.unit (s := S1x640x640) ![0, 0, 0] S1x128x128.size inb_S1x640x640_S1x128x128_0_0_0))⌝
            ∗ ⌜r.2.2.2.2.2.2.2.1 = k0_pay280 (ldx c M0 f0 (Rect.unit (s := S1x640x640) ![0, 0, 128] S1x128x128.size inb_S1x640x640_S1x128x128_0_0_128))⌝
            ∗ ⌜r.2.2.2.2.2.2.2.2.1 = k0_pay281 (ldx c M0 f0 (Rect.unit (s := S1x640x640) ![0, 0, 256] S1x128x128.size inb_S1x640x640_S1x128x128_0_0_256))⌝
            ∗ ⌜r.2.2.2.2.2.2.2.2.2 = k0_pay282 (ldx c M0 f0 (Rect.unit (s := S1x640x640) ![0, 0, 384] S1x128x128.size inb_S1x640x640_S1x128x128_0_0_384))⌝
            ∗ pt c M0 f0 ∗ pt c M1 f1 ∗ pt c M2 f2 ∗ pt c M6 W.1 ∗ pt c M7 W.2.1 ∗ pt c M8 W.2.2.1 ∗ pt c M9 W.2.2.2.1
            ∗ pt c M10 W.2.2.2.2.1 ∗ pt c M11 W.2.2.2.2.2)) } :=
  if h : k0_cond2 i = 1#1 then prepRun c i E M0 h0 M1 h1 M2 h2 M3 h3 M4 h4 M5 h5 M6 h6 M7 h7 M8 h8 M9 h9 M10 h10 M11 h11 M12 h12 M13 h13 M14 h14 f0 f1 f2 f6 f7 f8 f9 f10 f11 h
  else skipRun c i E M0 h0 M1 h1 M2 h2 M3 h3 M4 h4 M5 h5 M6 h6 M7 h7 M8 h8 M9 h9 M10 h10 M11 h11 M12 h12 M13 h13 M14 h14 f0 f1 f2 f6 f7 f8 f9 f10 f11 (hcc h) h

/-- The run of the whole body at one grid point: what it leaves in the five results' buffers and in the scratch buffers 0 to 3. -/
def fullRun
    (hcc : ¬ k0_cond2 i = 1#1 → ¬ Scalar.cmpi .ne (Scalar.extui (Scalar.cmpi .eq (BitVec.ofNat 32 (i 1).val) 0#32) : BitVec 32) 0#32 = 1#1) :
    { W : (Bf (F := F) c M3 × Bf (F := F) c M4 × Bf (F := F) c M5)
        × (Bf (F := F) c M6 × Bf (F := F) c M7 × Bf (F := F) c M8 × Bf (F := F) c M9 × Bf (F := F) c M10 × Bf (F := F) c M11) //
      ∀ (f3 : Bf (F := F) c M3) (f4 : Bf (F := F) c M4) (f12 : Bf (F := F) c M12) (f13 : Bf (F := F) c M13) (f14 : Bf (F := F) c M14)
        (Q : PUnit → sProp 𝕄),
        iprop(pt c M0 f0 ∗ pt c M1 f1 ∗ pt c M2 f2 ∗ pt c M3 f3 ∗ pt c M4 f4 ∗ pt c M5 f5 ∗ pt c M6 f6 ∗ pt c M7 f7
          ∗ pt c M8 f8 ∗ pt c M9 f9 ∗ pt c M10 f10 ∗ pt c M11 f11 ∗ pt c M12 f12 ∗ pt c M13 f13 ∗ pt c M14 f14
          ∗ (iprop(pt c M0 f0 ∗ pt c M1 f1 ∗ pt c M2 f2 ∗ pt c M3 W.1.1 ∗ pt c M4 W.1.2.1 ∗ pt c M5 W.1.2.2 ∗ pt c M6 W.2.1 ∗ pt c M7 W.2.2.1
                ∗ pt c M8 W.2.2.2.1 ∗ pt c M9 W.2.2.2.2.1 ∗ pt c M10 W.2.2.2.2.2.1 ∗ pt c M11 W.2.2.2.2.2.2
                ∗ (∃ f, pt c M12 f) ∗ (∃ f, pt c M13 f) ∗ (∃ f, pt c M14 f)) -∗ Q ⟨⟩))
        ⊢ wp frame (wpE (defs₀ (F := F)) Variants.none c none) E
            (cc0_sage_attention i M0 h0 M1 h1 M2 h2 M3 h3 M4 h4 M5 h5 M6 h6 M7 h7 M8 h8 M9 h9 M10 h10 M11 h11 M12 h12 M13 h13 M14 h14) Q } :=
  let H := headRun c i E M0 h0 M1 h1 M2 h2 M3 h3 M4 h4 M5 h5 M6 h6 M7 h7 M8 h8 M9 h9 M10 h10 M11 h11 M12 h12 M13 h13 M14 h14 f0 f1 f2 f6 f7 f8 f9 f10 f11 hcc
  let R := mainRun c i E M0 h0 M1 h1 M2 h2 M3 h3 M4 h4 M5 h5 M6 h6 M7 h7 M8 h8 M9 h9 M10 h10 M11 h11 M12 h12 M13 h13 M14 h14 f0 f1 f2 f5 f6 H.1.1 f7 H.1.2.1 f8 H.1.2.2.1 f9 H.1.2.2.2.1 f10 H.1.2.2.2.2.1 f11 H.1.2.2.2.2.2 H.2
  ⟨(R.1, H.1), R.2⟩

end Run

/-- The first query group of all is the first of its four. -/
theorem cond1_of_cond2 : ∀ t : Fin grid0.N, ¬ k0_cond2 (grid0.coords t) = 1#1 →
    ¬ Scalar.cmpi .ne (Scalar.extui (Scalar.cmpi .eq (BitVec.ofNat 32 (grid0.coords t 1).val) 0#32) : BitVec 32) 0#32 = 1#1 := by
  decide +kernel

section Point

variable (c : Dev nD) (t : Fin cfg0.N)
    (f0 : Bf (F := F) c (win0_0.stage (cfg0.slots t 0))) (f1 : Bf (F := F) c (win0_1.stage (cfg0.slots t 1))) (f2 : Bf (F := F) c (win0_2.stage (cfg0.slots t 2)))
    (f5 : Bf (F := F) c (win0_5.stage (cfg0.slots t 5))) (f6 : Bf (F := F) c (win0_6.stage (cfg0.slots t 6))) (f7 : Bf (F := F) c (win0_7.stage (cfg0.slots t 7)))
    (f8 : Bf (F := F) c (Memref.whole cc0_scratch0)) (f9 : Bf (F := F) c (Memref.whole cc0_scratch1)) (f10 : Bf (F := F) c (Memref.whole cc0_scratch2)) (f11 : Bf (F := F) c (Memref.whole cc0_scratch3))

/-- The body's run on the buffers of grid point `t`. -/
def runAt := fullRun (F := F) c (grid0.coords t) Set.univ (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) f0 f1 f2 f5 f6 f7 f8 f9 f10 f11 (cond1_of_cond2 t)

end Point

section Whole

variable (m : (ℓ : Loc nD τ sig) → Buf (Elt F) ℓ) (ρ : Dev nD → PrngReg)
  (I : (c : Dev nD) → Fin (cfg0.N + 1) → Bf (F := F) c (Memref.whole cc0_scratch1) → Bf (F := F) c (Memref.whole cc0_scratch2)
    → Bf (F := F) c (Memref.whole cc0_scratch3) → Prop)
  (Rl : (c : Dev nD) → (w : Fin cfg0.W) → Fin cfg0.N → ((cfg0.win w).block.Idx → Elt F (cfg0.win w).elt) → Prop)

/-- The five results' windows. -/
abbrev isRes : Fin cfg0.W → Bool := fun w => decide (3 ≤ w.val)

/-- The scratch buffers between two grid points: each held whole, the carried three at contents that meet `I`. -/
def Φs (c : Dev nD) (t : Fin (cfg0.N + 1)) : sProp 𝕄 :=
  iprop((∃ f, pt (F := F) c (Memref.whole cc0_scratch0) f)
    ∗ (∃ f9 f10 f11, ⌜I c t f9 f10 f11⌝ ∗ pt (F := F) c (Memref.whole cc0_scratch1) f9 ∗ pt c (Memref.whole cc0_scratch2) f10 ∗ pt c (Memref.whole cc0_scratch3) f11)
    ∗ (∃ f, pt (F := F) c (Memref.whole cc0_scratch4) f) ∗ (∃ f, pt (F := F) c (Memref.whole cc0_scratch5) f) ∗ (∃ f, pt (F := F) c (Memref.whole cc0_scratch6) f)
    ∗ ∃ r, prngReg c r)

/-- The proof data: the arrays as launched, each input's block left as it is, the scratch invariant `Φs`. What is left in a result's
    window is stated by `Rl` (the contents named here for those windows are not used). -/
def dats (p : Fin 1) (c : Dev nD) : Dat τ (Elt F) Unit ℕ (UR sig nD τ) ℕ (cfgs p) c where
  A := fun w => V m c (Pipeline.arrRef spec0 w)
  after := fun w t => match w with
    | 0 => iblk m c 0 t
    | 1 => iblk m c 1 t
    | 2 => iblk m c 2 t
    | 3 => fun _ => Classical.arbitrary _
    | 4 => fun _ => Classical.arbitrary _
    | 5 => fun _ => Classical.arbitrary _
    | 6 => fun _ => Classical.arbitrary _
    | 7 => fun _ => Classical.arbitrary _
    | ⟨_ + 8, h⟩ => absurd h (Nat.not_lt.2 (Nat.le_add_left _ _))
  Φ := Φs I c
  q := fun _ => fullShare
  owed := fun _ => 0

/-- The relational data: the results' windows held to `Rl`. -/
abbrev rdats (c : Dev nD) := (dats m I 0 c).toRRel isRes (Rl c)

/-- ONE POINT KEEPS THE PREDICATES: from the input blocks of point `t`, scratch contents that meet `I` and staging contents that the
    point may find, the run leaves results that meet `Rl` and scratch contents that meet `I`. -/
def Step (c : Dev nD) (t : Fin cfg0.N) : Prop :=
  ∀
    (f0 : Bf (F := F) c (win0_0.stage (cfg0.slots t 0))) (f1 : Bf (F := F) c (win0_1.stage (cfg0.slots t 1))) (f2 : Bf (F := F) c (win0_2.stage (cfg0.slots t 2)))
    (f5 : Bf (F := F) c (win0_5.stage (cfg0.slots t 5))) (f6 : Bf (F := F) c (win0_6.stage (cfg0.slots t 6))) (f7 : Bf (F := F) c (win0_7.stage (cfg0.slots t 7)))
    (f8 : Bf (F := F) c (Memref.whole cc0_scratch0)) (f9 : Bf (F := F) c (Memref.whole cc0_scratch1)) (f10 : Bf (F := F) c (Memref.whole cc0_scratch2)) (f11 : Bf (F := F) c (Memref.whole cc0_scratch3)),
    (win0_0.stage (cfg0.slots t 0)).view.read (Elt F) f0 = iblk m c 0 t →
    (win0_1.stage (cfg0.slots t 1)).view.read (Elt F) f1 = iblk m c 1 t →
    (win0_2.stage (cfg0.slots t 2)).view.read (Elt F) f2 = iblk m c 2 t →
    I c t.castSucc f9 f10 f11 →
    (rdats m I Rl c).Finds 5 t ((win0_5.stage (cfg0.slots t 5)).view.read (Elt F) f5) →
    (rdats m I Rl c).Finds 6 t ((win0_6.stage (cfg0.slots t 6)).view.read (Elt F) f6) →
    (rdats m I Rl c).Finds 7 t ((win0_7.stage (cfg0.slots t 7)).view.read (Elt F) f7) →
    Rl c 3 t ((win0_3.stage (cfg0.slots t 3)).view.read (Elt F) (runAt c t f0 f1 f2 f5 f6 f7 f8 f9 f10 f11).1.1.1)
    ∧ Rl c 4 t ((win0_4.stage (cfg0.slots t 4)).view.read (Elt F) (runAt c t f0 f1 f2 f5 f6 f7 f8 f9 f10 f11).1.1.2.1)
    ∧ Rl c 5 t ((win0_5.stage (cfg0.slots t 5)).view.read (Elt F) (runAt c t f0 f1 f2 f5 f6 f7 f8 f9 f10 f11).1.1.2.2)
    ∧ Rl c 6 t ((win0_6.stage (cfg0.slots t 6)).view.read (Elt F) (runAt c t f0 f1 f2 f5 f6 f7 f8 f9 f10 f11).1.2.1)
    ∧ Rl c 7 t ((win0_7.stage (cfg0.slots t 7)).view.read (Elt F) (runAt c t f0 f1 f2 f5 f6 f7 f8 f9 f10 f11).1.2.2.1)
    ∧ I c t.succ (runAt c t f0 f1 f2 f5 f6 f7 f8 f9 f10 f11).1.2.2.2.2.1 (runAt c t f0 f1 f2 f5 f6 f7 f8 f9 f10 f11).1.2.2.2.2.2.1 (runAt c t f0 f1 f2 f5 f6 f7 f8 f9 f10 f11).1.2.2.2.2.2.2

theorem before0_0 (c t d) : (dats m I 0 c).before 0 t d = iblk m c 0 t := before0_0_of m _ rfl (fun _ => rfl) t d
theorem before0_1 (c t d) : (dats m I 0 c).before 1 t d = iblk m c 1 t := before0_1_of m _ rfl (fun _ => rfl) t d
theorem before0_2 (c t d) : (dats m I 0 c).before 2 t d = iblk m c 2 t := before0_2_of m _ rfl (fun _ => rfl) t d

/-- What the body is called with at point `t`. -/
def bodyPre (c : Dev nD) (t : Fin cfg0.N) : sProp 𝕄 :=
  iprop((dats m I 0 c).Φ t.castSucc ∗ (dats m I 0 c).owesAt () t.castSucc
    ∗ (∃ d, owns (c : Thread nD τ) (win0_0.stage (cfg0.slots t 0)) fullShare ((dats m I 0 c).before 0 t d))
    ∗ (∃ d, owns (c : Thread nD τ) (win0_1.stage (cfg0.slots t 1)) fullShare ((dats m I 0 c).before 1 t d))
    ∗ (∃ d, owns (c : Thread nD τ) (win0_2.stage (cfg0.slots t 2)) fullShare ((dats m I 0 c).before 2 t d))
    ∗ (∃ Y, ⌜(rdats m I Rl c).Finds 3 t Y⌝ ∗ owns (c : Thread nD τ) (win0_3.stage (cfg0.slots t 3)) fullShare Y)
    ∗ (∃ Y, ⌜(rdats m I Rl c).Finds 4 t Y⌝ ∗ owns (c : Thread nD τ) (win0_4.stage (cfg0.slots t 4)) fullShare Y)
    ∗ (∃ Y, ⌜(rdats m I Rl c).Finds 5 t Y⌝ ∗ owns (c : Thread nD τ) (win0_5.stage (cfg0.slots t 5)) fullShare Y)
    ∗ (∃ Y, ⌜(rdats m I Rl c).Finds 6 t Y⌝ ∗ owns (c : Thread nD τ) (win0_6.stage (cfg0.slots t 6)) fullShare Y)
    ∗ (∃ Y, ⌜(rdats m I Rl c).Finds 7 t Y⌝ ∗ owns (c : Thread nD τ) (win0_7.stage (cfg0.slots t 7)) fullShare Y))

/-- What the body leaves at point `t`. -/
def bodyPost (c : Dev nD) (t : Fin cfg0.N) : sProp 𝕄 :=
  iprop((dats m I 0 c).Φ t.succ ∗ (dats m I 0 c).owesAt () t.succ
    ∗ owns (c : Thread nD τ) (win0_0.stage (cfg0.slots t 0)) fullShare (iblk m c 0 t)
    ∗ owns (c : Thread nD τ) (win0_1.stage (cfg0.slots t 1)) fullShare (iblk m c 1 t)
    ∗ owns (c : Thread nD τ) (win0_2.stage (cfg0.slots t 2)) fullShare (iblk m c 2 t)
    ∗ (∃ X, ⌜Rl c 3 t X⌝ ∗ owns (c : Thread nD τ) (win0_3.stage (cfg0.slots t 3)) fullShare X)
    ∗ (∃ X, ⌜Rl c 4 t X⌝ ∗ owns (c : Thread nD τ) (win0_4.stage (cfg0.slots t 4)) fullShare X)
    ∗ (∃ X, ⌜Rl c 5 t X⌝ ∗ owns (c : Thread nD τ) (win0_5.stage (cfg0.slots t 5)) fullShare X)
    ∗ (∃ X, ⌜Rl c 6 t X⌝ ∗ owns (c : Thread nD τ) (win0_6.stage (cfg0.slots t 6)) fullShare X)
    ∗ (∃ X, ⌜Rl c 7 t X⌝ ∗ owns (c : Thread nD τ) (win0_7.stage (cfg0.slots t 7)) fullShare X))

theorem own_whole (c : Dev nD) {s : Shape} {e : EltTy} (M : Memref sig .tc .vmem s e) (h : M.IsWhole) (X : s.Idx → Elt F e) :
    (owns (c : Thread nD τ) M fullShare X : sProp 𝕄) = iprop(∃ f : Bf (F := F) c M, ⌜M.view.read (Elt F) f = X⌝ ∗ pt c M f) := by
  unfold owns; rw [Memref.IsWhole.set_eq_univ h]

set_option maxHeartbeats 1000000 in
/-- The body at any point, from `Step`. -/
theorem sound_body (c : Dev nD) (t : Fin cfg0.N) (hs : Step m I Rl c t) :
    bodyPre m I Rl c t ⊢ wp frame (wpE (defs₀ (F := F)) Variants.none c none) Set.univ (bodyAt0 t) (fun _ => bodyPost m I Rl c t) := by
  unfold bodyPre bodyPost
  simp only [before0_0, before0_1, before0_2]
  rw [show (dats m I 0 c).Φ t.castSucc = Φs I c t.castSucc from rfl, show (dats m I 0 c).Φ t.succ = Φs I c t.succ from rfl,
    show (dats m I 0 c).owesAt () t.succ = (dats m I 0 c).owesAt () t.castSucc from rfl]
  unfold Φs
  simp only [own_whole c (win0_0.stage (cfg0.slots t 0)) (hstage0_0 ((cfg0.slots t 0).cast nbuf0_0))]
  simp only [own_whole c (win0_1.stage (cfg0.slots t 1)) (hstage0_1 ((cfg0.slots t 1).cast nbuf0_1))]
  simp only [own_whole c (win0_2.stage (cfg0.slots t 2)) (hstage0_2 ((cfg0.slots t 2).cast nbuf0_2))]
  simp only [own_whole c (win0_3.stage (cfg0.slots t 3)) (hstage0_3 ((cfg0.slots t 3).cast nbuf0_3))]
  simp only [own_whole c (win0_4.stage (cfg0.slots t 4)) (hstage0_4 ((cfg0.slots t 4).cast nbuf0_4))]
  simp only [own_whole c (win0_5.stage (cfg0.slots t 5)) (hstage0_5 ((cfg0.slots t 5).cast nbuf0_5))]
  simp only [own_whole c (win0_6.stage (cfg0.slots t 6)) (hstage0_6 ((cfg0.slots t 6).cast nbuf0_6))]
  simp only [own_whole c (win0_7.stage (cfg0.slots t 7)) (hstage0_7 ((cfg0.slots t 7).cast nbuf0_7))]
  iintro ⟨⟨⟨%f8, S0⟩, ⟨%f9, %f10, %f11, %hI, S1, S2, S3⟩, ⟨%f12, S4⟩, ⟨%f13, S5⟩, ⟨%f14, S6⟩, Hr⟩, Ho, ⟨%d0, %f0, %hf0, H0⟩, ⟨%d1, %f1, %hf1, H1⟩, ⟨%d2, %f2, %hf2, H2⟩, ⟨%Y3, %hY3, %f3, %hf3, H3⟩, ⟨%Y4, %hY4, %f4, %hf4, H4⟩, ⟨%Y5, %hY5, %f5, %hf5, H5⟩, ⟨%Y6, %hY6, %f6, %hf6, H6⟩, ⟨%Y7, %hY7, %f7, %hf7, H7⟩⟩
  subst hf3 hf4 hf5 hf6 hf7
  obtain ⟨q3, q4, q5, q6, q7, qI⟩ := hs f0 f1 f2 f5 f6 f7 f8 f9 f10 f11 hf0 hf1 hf2 hI hY5 hY6 hY7
  iapply ((runAt c t f0 f1 f2 f5 f6 f7 f8 f9 f10 f11).2 f3 f4 f12 f13 f14 _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [S0]; · iexact S0
  isplitl [S1]; · iexact S1
  isplitl [S2]; · iexact S2
  isplitl [S3]; · iexact S3
  isplitl [S4]; · iexact S4
  isplitl [S5]; · iexact S5
  isplitl [S6]; · iexact S6
  iintro ⟨H0, H1, H2, H3, H4, H5, H6, H7, S0, S1, S2, S3, S4, S5, S6⟩
  isplitl [S0 S1 S2 S3 S4 S5 S6 Hr]
  · isplitl [S0]; · iexists _; iexact S0
    isplitl [S1 S2 S3]
    · iexists _; iexists _; iexists _
      isplitr; · ipureintro; exact qI
      isplitl [S1]; · iexact S1
      isplitl [S2]; · iexact S2
      iexact S3
    isplitl [S4]; · iexact S4
    isplitl [S5]; · iexact S5
    isplitl [S6]; · iexact S6
    iexact Hr
  isplitl [Ho]; · iexact Ho
  isplitl [H0]
  · iexists f0; isplitr; · ipureintro; exact hf0
    iexact H0
  isplitl [H1]
  · iexists f1; isplitr; · ipureintro; exact hf1
    iexact H1
  isplitl [H2]
  · iexists f2; isplitr; · ipureintro; exact hf2
    iexact H2
  isplitl [H3]
  · iexists _; isplitr; · ipureintro; exact q3
    iexists _; isplitr; · ipureintro; rfl
    iexact H3
  isplitl [H4]
  · iexists _; isplitr; · ipureintro; exact q4
    iexists _; isplitr; · ipureintro; rfl
    iexact H4
  isplitl [H5]
  · iexists _; isplitr; · ipureintro; exact q5
    iexists _; isplitr; · ipureintro; rfl
    iexact H5
  isplitl [H6]
  · iexists _; isplitr; · ipureintro; exact q6
    iexists _; isplitr; · ipureintro; rfl
    iexact H6
  iexists _; isplitr; · ipureintro; exact q7
  iexists _; isplitr; · ipureintro; rfl
  iexact H7

theorem defs₀_row (t : Fin cfg0.N) :
    defs₀ (F := F) .tc cfg0.body (cfg0.bodyArgs t (cfg0.slots t)) = bodyAt0 t := by
  unfold defs₀; rw [Defs.onTc_tc]

/-- The body obligation of the pipeline, at every point. -/
theorem body_obligation (hs : ∀ c t, Step m I Rl c t) (c : Dev nD) :
    BodyObligationRel (dats m I 0 c) (defs₀ (F := F)) Variants.none () Set.univ isRes (Rl c) := fun t => by
  rw [bigSep_W0, bigSep_W0, defs₀_row]
  exact triple_restated (sound_body m I Rl c t (hs c t)) rfl .rfl fun _ => .rfl

set_option backward.isDefEq.respectTransparency.types false in
set_option maxHeartbeats 1600000 in
/-- THE RUN: if every point keeps the predicates and `I` holds of anything before the first point, every execution ends, with every
    semaphore counter at zero, and with the arrays assembled from contents that meet `Rl`. -/
theorem run_of_step (hs : ∀ c t, Step m I Rl c t) (hI : ∀ c f9 f10 f11, I c 0 f9 f10 f11) :
    θ_run defs (onTc (τ := τ) (main (F := F))) (s₀ m ρ)
      (fun r => RDat.FramePost cfg0 (rdats m I Rl) (V m) r ∧ r.2.sem = fun _ => 0) :=
  RDat.θ_run_frame_track (Q' := _) cfgs (0 : Fin 1) launch0 defs₀ Variants.none (rdats m I Rl) m ρ main
    (hbody := fun c => (body_obligation m I Rl hs c).toRRel)
    (hshare := fun c => (dats m I 0 c).share_full fun _ => rfl)
    (howed := fun _ _ => rfl) (V := V m) (hmain := hmain m Variants.none) (hA := fun _ _ => rfl)
    (hin := fun c => by
      show ΦA spec0 c ⊢ Φs I c 0
      unfold ΦA Φs; rw [scopedRest0_eq]
      iintro ⟨⟨S0, ⟨%f9, S1⟩, ⟨%f10, S2⟩, ⟨%f11, S3⟩, S4, S5, S6⟩, Hr⟩
      isplitl [S0]; · iexact S0
      isplitl [S1 S2 S3]
      · iexists f9; iexists f10; iexists f11
        isplitr; · ipureintro; exact hI c f9 f10 f11
        isplitl [S1]; · iexact S1
        isplitl [S2]; · iexact S2
        iexact S3
      isplitl [S4]; · iexact S4
      isplitl [S5]; · iexact S5
      isplitl [S6]; · iexact S6
      iexact Hr)
    (hout := fun c => by
      show Φs I c (Fin.last cfg0.N) ⊢ ΦA spec0 c
      unfold ΦA Φs; rw [scopedRest0_eq]
      iintro ⟨S0, ⟨%f9, %f10, %f11, %hI, S1, S2, S3⟩, S4, S5, S6, Hr⟩
      isplitr [Hr]
      · isplitl [S0]; · iexact S0
        isplitl [S1]; · iexists _; iexact S1
        isplitl [S2]; · iexists _; iexact S2
        isplitl [S3]; · iexists _; iexact S3
        isplitl [S4]; · iexact S4
        isplitl [S5]; · iexact S5
        iexact S6
      iexact Hr)

/-- THE FRAME: the argument arrays end as they were, and every semaphore counter at zero. -/
theorem quiet : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) ∧ r.2.sem = fun _ => 0) :=
  (θ_run defs _ _).mono (fun r h => ⟨fun c => ⟨h.1.arr_in c 0 rfl, h.1.arr_in c 1 rfl, h.1.arr_in c 2 rfl⟩, h.2⟩)
    (run_of_step m ρ (fun _ _ _ _ _ => True) (fun _ _ _ _ => True) (fun _ _ _ _ _ _ _ _ _ _ _ _ _ _ _ _ _ _ _ => ⟨trivial, trivial, trivial, trivial, trivial, trivial⟩)
      fun _ _ _ _ => trivial)

end Whole

end Cert.Kernel.Body

end
-- ==== Proof.Frames.lean ====
/- The frame claims of the kernel at both instances and of the reference, and the idealization's ledger. -/
module

public import proofs.«01_k».proof.Defs
public import proofs.«01_k».proof.Proof.Body
public import proofs.«01_k».proof.Proof.BitsBody
public import proofs.«01_k».proof.Proof.Gen.ReferenceIdeal.Frame

@[expose] public section

noncomputable section

open Idealize.ShloMosaic Idealize.ShloMosaic.TcCoe Idealize.SL.Sem

namespace Cert.Proof

/-- The kernel as printed runs, leaves its arguments unchanged, and ends with every semaphore counter at zero. -/
theorem quiescent_Kernel : Cert.quiescent_Kernel (hKernel := Cert.Kernel.Gen.facts) :=
  fun m g _ => Cert.Kernel.Body.quiet m g

/-- So does the kernel over the extended reals. -/
theorem quiescent_KernelIdeal : Cert.quiescent_KernelIdeal (hKernelIdeal := Cert.KernelIdeal.Gen.facts) :=
  fun m g _ => Cert.KernelIdeal.Body.quiet m g

/-- So does the reference over the extended reals. -/
theorem quiescent_ReferenceIdeal : Cert.quiescent_ReferenceIdeal (hReferenceIdeal := Cert.ReferenceIdeal.Gen.facts) :=
  fun m g _ => Cert.ReferenceIdeal.Gen.frame m g

/-- The two named constants of the idealization have the values that the table gives them. -/
theorem preserves : Cert.preserves_Kernel_KernelIdeal :=
  ⟨IdealRules.named_const.statement Cert.KernelIdeal.κ "inv_seq" .f32 0x3ACCCCCD#32 ((1 / 640 : ℝ) : EReal) rfl,
    IdealRules.named_const.statement Cert.KernelIdeal.κ "log2_scale" .f32 0x3DE995B3#32
      (((Real.sqrt 160)⁻¹ * (Real.log 2)⁻¹ : ℝ) : EReal) rfl⟩

end Cert.Proof

end
-- ==== Proof.Spec.lean ====
/- The quantiser and the softmax row as mathematics over the extended reals, in the words both programs share:
   the scale and the codes of one block, and what one row of attention is. -/
module

public import Idealize.ShloMosaic.Lib.Pointwise
public import Idealize.ShloMosaic.Lib.Pipeline.FrameBody

@[expose] public section

noncomputable section

namespace Cert.Spec

open Idealize.ShloMosaic Idealize.ShloMosaic.TcCoe Idealize.SL.Sem

/-- The greatest magnitude in a block of `n` rows of 160 numbers. -/
def amax {n : Nat} (f : Fin n → Fin 160 → EReal) : EReal := ⨆ r, ⨆ d, max (f r d) (-(f r d))

/-- The scale of a block whose greatest magnitude is `a`: `a / 127`, and 1 for a block of zeros. -/
def scl (a : EReal) : EReal := if 0 < a then Ideal.div a (Ideal.ofBits .f32 0x42FE0000#32) else 1

/-- The code of the number `v` at the scale `s`: `v / s` rounded to the nearest integer (ties to even), held in
    `[-127, 127]`, as a signed byte. -/
def code (v s : EReal) : BitVec 8 :=
  Ideal.fptosi 8 (min (max (Ideal.liftRound Ideal.roundHalfEven (Ideal.div v s)) (Ideal.ofBits .f32 0xC2FE0000#32))
    (Ideal.ofBits .f32 0x42FE0000#32))

/-- A code as the number it stands for. -/
def num (c : BitVec 8) : EReal := ((c.toInt : ℝ) : EReal)

/-- One entry of softmax attention: the scores `sc` against the keys, exponentiated after their maximum is taken off,
    weigh the values `v` and the sum is divided by the sum of the weights. -/
def soft {n : Nat} (sc v : Fin n → EReal) : EReal :=
  Ideal.div (∑ s, Ideal.exp (sc s - ⨆ i, sc i) * v s) (∑ s, Ideal.exp (sc s - ⨆ i, sc i))

/-- Folding `max` from `-∞` over a finite type is the supremum. -/
theorem fold_max_eq {ι : Type} [Fintype ι] (f : ι → EReal) : Finset.univ.fold max ⊥ f = ⨆ i, f i := by
  rw [← Finset.sup_univ_eq_iSup]; rfl

/-- The f32 pattern of `-∞` is the least extended real. -/
theorem ofBits_neg_inf : Ideal.ofBits .f32 0xFF800000#32 = ⊥ := by simp [Ideal.ofBits, Ideal.ieee]

/-- The f32 pattern of 127 is the number 127. -/
theorem ofBits_127 : Ideal.ofBits .f32 0x42FE0000#32 = ((127 : ℝ) : EReal) := by
  simp [Ideal.ofBits, Ideal.ieee, -EReal.coe_mul]; norm_num

/-- The f32 pattern of -127 is the number -127. -/
theorem ofBits_neg_127 : Ideal.ofBits .f32 0xC2FE0000#32 = ((-127 : ℝ) : EReal) := by
  simp [Ideal.ofBits, Ideal.ieee, -EReal.coe_mul, -EReal.coe_neg]; norm_num

/-- The greatest element over axes 2 and 4 of a rank-5 vector, at a kept index, is the supremum over the two. -/
theorem max24 {a b n h d : Nat} (v : FVec Ideal ⟨5, ![a, b, n, h, d]⟩ .f32)
    (hr : Shape.Reduces ⟨5, ![a, b, n, h, d]⟩ [2, 4] ⟨3, ![a, b, h]⟩) (hφ : FKind.Formats .f32)
    (hacc : (0xFF800000#32 : BitVec 32) = FKind.maximumf.neutral .f32 hφ) (i : Fin a) (j : Fin b) (k : Fin h) :
    multiReduction .maximumf [2, 4] ⟨3, ![a, b, h]⟩ v 0xFF800000#32 hr hφ hacc (ix3 i j k)
      = ⨆ r : Fin n, ⨆ e : Fin d, v (ix5 i j r k e) := by
  rw [multiReduction_maximumf_eq_reduceFold]
  show reduceFold hr (max : EReal → EReal → EReal) (Ideal.ofBits .f32 0xFF800000#32) v (ix3 i j k) = _
  rw [reduceFold_eq_fold, ofBits_neg_inf]
  have hd : ∀ q : Shape.Idx ⟨5, ![a, b, n, h, d]⟩, hr.drop q = ix3 i j k ↔ (q 0).val = i ∧ (q 1).val = j ∧ (q 3).val = k := by
    intro q
    have h0 := hr.drop_apply_val_of_eq q 0 0 (show 0 < 3 by decide) rfl
    have h1 := hr.drop_apply_val_of_eq q 1 1 (show 1 < 3 by decide) rfl
    have h2 := hr.drop_apply_val_of_eq q 2 3 (show 2 < 3 by decide) rfl
    constructor
    · intro e; rw [e] at h0 h1 h2; exact ⟨h0.symm, h1.symm, h2.symm⟩
    · rintro ⟨e0, e1, e2⟩
      funext t
      match t with
      | 0 => exact Fin.ext (h0.trans e0)
      | 1 => exact Fin.ext (h1.trans e1)
      | 2 => exact Fin.ext (h2.trans e2)
  apply le_antisymm
  · show Finset.sup _ v ≤ _
    refine Finset.sup_le fun q hq => ?_
    obtain ⟨e0, e1, e2⟩ := (hd q).1 (Finset.mem_filter.1 hq).2
    have : q = ix5 i j (q 2) k (q 4) := by
      funext t
      match t with
      | 0 => exact Fin.ext e0
      | 1 => exact Fin.ext e1
      | 2 => rfl
      | 3 => exact Fin.ext e2
      | 4 => rfl
    rw [this]
    exact le_iSup₂ (f := fun (r : Fin n) (e : Fin d) => v (ix5 i j r k e)) (q 2) (q 4)
  · refine iSup₂_le fun r e => ?_
    show _ ≤ Finset.sup _ v
    exact Finset.le_sup (f := v) (Finset.mem_filter.2 ⟨Finset.mem_univ _, (hd _).2 ⟨rfl, rfl, rfl⟩⟩)

end Cert.Spec
-- ==== Proof.Blocks.lean ====
/- What the kernel computes on one block, as vector functions read at an index: the transposed query slab, the scale and
   the codes of a head, a block of scores, the running maximum and sum of a softmax, and its quotient. -/
module
public import proofs.«01_k».proof.Proof.Spec
public import proofs.«01_k».proof.Proof.Gen.KernelIdeal.Skeleton
@[expose] public section
set_option maxRecDepth 16384
noncomputable section
namespace Cert.KernelIdeal.Blocks
open Cert.KernelIdeal Cert.KernelIdeal.Gen Cert.Spec Idealize.ShloMosaic Idealize.ShloMosaic.TcCoe Idealize.SL.Sem

/-- A loaded tile of 128 tokens by 128 lanes, transposed. -/
def tileT (u : Vec Ideal S1x128x128 .bf16) : FVec Ideal S128x128 .bf16 :=
  transpose S128x128 [1, 0] (shapeCast S128x128 u shapeCasts_S1x128x128_S128x128) transposes_S128x128_p1_0_S128x128

/-- Five transposed tiles side by side: 640 lanes by 128 tokens. -/
def slab (u0 u1 u2 u3 u4 : Vec Ideal S1x128x128 .bf16) : FVec Ideal S640x128 .bf16 :=
  concatenate S640x128 0 [⟨S128x128, tileT u0⟩, ⟨S128x128, tileT u1⟩, ⟨S128x128, tileT u2⟩, ⟨S128x128, tileT u3⟩, ⟨S128x128, tileT u4⟩]
    concatenates_S128x128_S128x128_S128x128_S128x128_S128x128_S640x128_d0

/-- The slab of tiles loaded from one row range of a block is that range transposed. -/
theorem slab_at (X : Vec Ideal S1x640x640 .bf16) (q : Nat) (hq : q + 128 ≤ 640)
    (h0 : ∀ a, (![0, q, 0] : Fin 3 → Nat) a + S1x128x128.size a ≤ S1x640x640.size a)
    (h1 : ∀ a, (![0, q, 128] : Fin 3 → Nat) a + S1x128x128.size a ≤ S1x640x640.size a)
    (h2 : ∀ a, (![0, q, 256] : Fin 3 → Nat) a + S1x128x128.size a ≤ S1x640x640.size a)
    (h3 : ∀ a, (![0, q, 384] : Fin 3 → Nat) a + S1x128x128.size a ≤ S1x640x640.size a)
    (h4 : ∀ a, (![0, q, 512] : Fin 3 → Nat) a + S1x128x128.size a ≤ S1x640x640.size a) (c : Fin 640) (r : Fin 128) :
    slab (View.ld X (Rect.unit (s := S1x640x640) ![0, q, 0] S1x128x128.size h0))
      (View.ld X (Rect.unit (s := S1x640x640) ![0, q, 128] S1x128x128.size h1))
      (View.ld X (Rect.unit (s := S1x640x640) ![0, q, 256] S1x128x128.size h2))
      (View.ld X (Rect.unit (s := S1x640x640) ![0, q, 384] S1x128x128.size h3))
      (View.ld X (Rect.unit (s := S1x640x640) ![0, q, 512] S1x128x128.size h4)) (ix2 c r)
      = X (ix3 0 ⟨q + r.val, by omega⟩ c) := by
  pointwise [slab, tileT]
  split_ifs <;> first | rfl | (congr 2; apply Fin.ext; simp only []; omega)

/-- The scale of a head's slab of 160 lanes by 128 tokens. -/
def scaleV (w : FVec Ideal S160x128 .bf16) : FVec Ideal S1x1 .f32 :=
  have a : FVec Ideal S1x1 .f32 := broadcast S1x1 (extractAt ![0, 0, 0] (shapeCast S1x1x1 (multiReduction .maximumf [1, 2] S1
    (shapeCast S1x160x128 (extf .f32 (absf w) bitsLt_bf16_f32) shapeCasts_S160x128_S1x160x128) 0xFF800000#32 reduces_S1x160x128_S1 (.inl rfl) rfl)
    shapeCasts_S1_S1x1x1) inpos_S1x1x1_p0_0_0)
  select (cmpf .ogt a (broadcast S1x1 (Scalar.ofBits .f32 0x00000000#32))) (divf a (broadcast S1x1 (Scalar.ofBits .f32 0x42FE0000#32)))
    (broadcast S1x1 (Scalar.ofBits .f32 0x3F800000#32))

theorem scaleV_at (w : FVec Ideal S160x128 .bf16) (f : Fin 128 → Fin 160 → EReal) (hf : ∀ d r, w (ix2 d r) = f r d) (a b : Fin 1) :
    scaleV w (ix2 a b) = scl (amax f) := by
  pointwise [scaleV]
  have e : Finset.univ.fold max (Ideal.ofBits .f32 0xFF800000#32) (fun x : Fin 160 × Fin 128 => (FloatOps.absf (F := Ideal) (φ := .bf16) (w (ix2 x.1 x.2)) : EReal)) = amax f := by
    rw [ofBits_neg_inf, fold_max_eq]
    unfold amax
    rw [iSup_prod, iSup_comm]
    refine iSup_congr fun r => iSup_congr fun d => ?_
    rw [hf]; rfl
  exact congrArg (fun a : EReal => if 0 < a then Ideal.div a (Ideal.ofBits .f32 0x42FE0000#32) else 1) e

/-- The codes of a head's slab at a scale. -/
def codesV (w : FVec Ideal S160x128 .bf16) (s : FVec Ideal S1x1 .f32) : IVec S160x128 8 :=
  fptosi 8 (minimumf (broadcast S160x128 (Scalar.ofBits .f32 0x42FE0000#32)) (maximumf (broadcast S160x128 (Scalar.ofBits .f32 0xC2FE0000#32))
    (roundeven (divf (extf .f32 w bitsLt_bf16_f32) (broadcastTo S160x128 s broadcasts_S1x1_S160x128)))))

theorem codesV_at (w : FVec Ideal S160x128 .bf16) (s : FVec Ideal S1x1 .f32) (d : Fin 160) (r : Fin 128) :
    codesV w s (ix2 d r) = code (w (ix2 d r)) (s (ix2 0 0)) := by
  pointwise [codesV, code]
  rw [min_comm, max_comm]; rfl

/-- A block of 64 keys' scores: the products of codes times the key scale times the query scale. -/
def scoreV (u : FVec Ideal S64x128 .f32) (kr : FVec Ideal S1x128 .f32) (q : FVec Ideal S1x1 .f32) : FVec Ideal S64x128 .f32 :=
  mulf u (broadcastTo S64x128 (mulf kr (broadcastTo S1x128 q broadcasts_S1x1_S1x128)) broadcasts_S1x128_S64x128)

theorem scoreV_at (u : FVec Ideal S64x128 .f32) (kr : FVec Ideal S1x128 .f32) (q : FVec Ideal S1x1 .f32) (r : Fin 64) (l : Fin 128) :
    scoreV u kr q (ix2 r l) = u (ix2 r l) * (kr (ix2 0 l) * q (ix2 0 0)) := by
  pointwise [scoreV]

/-- The causal mask's block of 64 keys laid over the scores, `-∞` where it hides. -/
def maskV (p : IVec S64x128 1) (u : FVec Ideal S64x128 .f32) : FVec Ideal S64x128 .f32 :=
  select p u (broadcast S64x128 (Scalar.ofBits .f32 0xFF800000#32))

theorem mask_at (r l : Fin 128) (a e : EReal) :
    Scalar.select ((k0_pay278 : IVec S128x128 1) (ix2 r l)) a e = if r.val ≤ l.val then a else e := by
  pointwise [k0_pay278]
  show (if (BitVec.ofBool ((BitVec.ofNat 32 r.val).sle (BitVec.ofNat 32 l.val))) = 1#1 then a else e) = _
  rw [BitVec.sle_eq_decide, BitVec.toInt_eq_toNat_of_lt (by simp; omega), BitVec.toInt_eq_toNat_of_lt (by simp; omega)]
  simp only [BitVec.toNat_ofNat, Nat.mod_eq_of_lt (show r.val < 2 ^ 32 by omega), Nat.mod_eq_of_lt (show l.val < 2 ^ 32 by omega)]
  by_cases h : r.val ≤ l.val <;> simp [h]

/-- The maximum over the eight groups of eight keys of a block. -/
def rowMax (u : FVec Ideal S64x128 .f32) : FVec Ideal S8x128 .f32 :=
  multiReduction .maximumf [0] S8x128 (shapeCast S8x8x128 u shapeCasts_S64x128_S8x8x128) 0xFF800000#32 reduces_S8x8x128_S8x128 (.inl rfl) rfl

def rowSum (u : FVec Ideal S64x128 .f32) : FVec Ideal S8x128 .f32 :=
  multiReduction .add [0] S8x128 (shapeCast S8x8x128 u shapeCasts_S64x128_S8x8x128) 0x00000000#32 reduces_S8x8x128_S8x128 (.inl rfl) rfl

/-- The maximum over all the keys, from the maxima of the blocks. -/
def topV (u : FVec Ideal S8x128 .f32) : FVec Ideal S1x128 .f32 :=
  shapeCast S1x128 (multiReduction .maximumf [0] S128 u 0xFF800000#32 reduces_S8x128_S128 (.inl rfl) rfl) shapeCasts_S128_S1x128

def totV (u : FVec Ideal S8x128 .f32) : FVec Ideal S1x128 .f32 :=
  shapeCast S1x128 (multiReduction .add [0] S128 u 0x00000000#32 reduces_S8x128_S128 (.inl rfl) rfl) shapeCasts_S128_S1x128

theorem rowMax_at (u : FVec Ideal S64x128 .f32) (a : Fin 8) (l : Fin 128) :
    rowMax u (ix2 a l) = ⨆ g : Fin 8, u (ix2 ⟨g.val * 8 + a.val, by omega⟩ l) := by
  pointwise [rowMax]
  rw [ofBits_neg_inf, fold_max_eq]

theorem rowSum_at (u : FVec Ideal S64x128 .f32) (a : Fin 8) (l : Fin 128) :
    rowSum u (ix2 a l) = ∑ g : Fin 8, u (ix2 ⟨g.val * 8 + a.val, by omega⟩ l) := by
  pointwise [rowSum]

theorem topV_at (u : FVec Ideal S8x128 .f32) (a : Fin 1) (l : Fin 128) : topV u (ix2 a l) = ⨆ g : Fin 8, u (ix2 g l) := by
  pointwise [topV]
  rw [ofBits_neg_inf, fold_max_eq]

theorem totV_at (u : FVec Ideal S8x128 .f32) (a : Fin 1) (l : Fin 128) : totV u (ix2 a l) = ∑ g : Fin 8, u (ix2 g l) := by
  pointwise [totV]

/-- The weights of a block of keys: 2 to the power of the scores less their maximum. -/
def expV (u : FVec Ideal S64x128 .f32) (m : FVec Ideal S1x128 .f32) : FVec Ideal S64x128 .f32 :=
  exp2 (subf u (broadcastTo S64x128 m broadcasts_S1x128_S64x128))

theorem expV_at (u : FVec Ideal S64x128 .f32) (m : FVec Ideal S1x128 .f32) (r : Fin 64) (l : Fin 128) :
    expV u m (ix2 r l) = Ideal.exp2 (u (ix2 r l) - m (ix2 0 l)) := by
  pointwise [expV]
  rfl

/-- A head's output: the weighted values over the sum of the weights. -/
def quoV (u : FVec Ideal S160x128 .f32) (l : FVec Ideal S1x128 .f32) : FVec Ideal S160x128 .bf16 :=
  truncf .bf16 (divf u (broadcastTo S160x128 l broadcasts_S1x128_S160x128)) bitsLt_bf16_f32

theorem quoV_at (u : FVec Ideal S160x128 .f32) (z : FVec Ideal S1x128 .f32) (d : Fin 160) (l : Fin 128) :
    quoV u z (ix2 d l) = Ideal.div (u (ix2 d l)) (z (ix2 0 l)) := by
  pointwise [quoV]

/-- Four heads' outputs, 160 lanes each, over one another. -/
def stackV (u0 u1 u2 u3 : FVec Ideal S160x128 .bf16) : FVec Ideal S640x128 .bf16 :=
  concatenate S640x128 0 [⟨S160x128, u0⟩, ⟨S160x128, u1⟩, ⟨S160x128, u2⟩, ⟨S160x128, u3⟩] concatenates_S160x128_S160x128_S160x128_S160x128_S640x128_d0

theorem stackV_at (u : Fin 4 → FVec Ideal S160x128 .bf16) (c : Fin 640) (l : Fin 128) :
    stackV (u 0) (u 1) (u 2) (u 3) (ix2 c l) = u ⟨c.val / 160, by omega⟩ (ix2 ⟨c.val % 160, by omega⟩ l) := by
  pointwise [stackV]
  have hc := c.isLt
  rcases (by omega : c.val < 160 ∨ (160 ≤ c.val ∧ c.val < 320) ∨ (320 ≤ c.val ∧ c.val < 480) ∨ 480 ≤ c.val) with h | h | h | h
  · rw [dif_pos h]
    rw [show (⟨c.val / 160, by omega⟩ : Fin 4) = 0 from Fin.ext (by show c.val / 160 = 0; omega)]
    congr 2; apply Fin.ext; show c.val = c.val % 160; omega
  · rw [dif_neg (by omega), dif_pos (by omega)]
    rw [show (⟨c.val / 160, by omega⟩ : Fin 4) = 1 from Fin.ext (by show c.val / 160 = 1; omega)]
    congr 2; apply Fin.ext; show c.val - 160 = c.val % 160; omega
  · rw [dif_neg (by omega), dif_neg (by omega), dif_pos (by omega)]
    rw [show (⟨c.val / 160, by omega⟩ : Fin 4) = 2 from Fin.ext (by show c.val / 160 = 2; omega)]
    congr 2; apply Fin.ext; show c.val - 160 - 160 = c.val % 160; omega
  · rw [dif_neg (by omega), dif_neg (by omega), dif_neg (by omega)]
    rw [show (⟨c.val / 160, by omega⟩ : Fin 4) = 3 from Fin.ext (by show c.val / 160 = 3; omega)]
    congr 2; apply Fin.ext; show c.val - 160 - 160 - 160 = c.val % 160; omega

end Cert.KernelIdeal.Blocks
-- ==== Proof.Model.lean ====
/- One grid point's computation after the keys and values are prepared, as functions of the query block and of the scratch buffers
   that hold the prepared keys, scales and values: scales and codes of the queries, scores block by block, softmax and output. -/
module
public import proofs.«01_k».proof.Proof.Blocks
public import proofs.«01_k».proof.Proof.MainRun
@[expose] public section
set_option maxRecDepth 16384
noncomputable section
namespace Cert.KernelIdeal.Model
open Cert.KernelIdeal Cert.KernelIdeal.Gen Cert.KernelIdeal.Blocks Cert.Spec Idealize.ShloMosaic Idealize.ShloMosaic.TcCoe Idealize.SL.Sem

/-- The stored pieces of a buffer. -/
abbrev Pcs (S : Shape) (e : EltTy) := List (View.Piece (Elt Ideal) S e)

section
variable (i : grid0.Coords) (X0 : Vec Ideal S1x640x640 .bf16)

/-- The loaded tile `cc` of query block `qb`. -/
def xt (qb cc : Fin 5) : Vec Ideal S1x128x128 .bf16 :=
  View.ld X0 (Rect.unit (s := S1x640x640) ![0, 128 * qb.val, 128 * cc.val] S1x128x128.size (fun a => by
    have := qb.isLt; have := cc.isLt
    fin_cases a <;> simp <;> omega))

/-- Query block `qb` transposed. -/
def wq (qb : Fin 5) : FVec Ideal S640x128 .bf16 := slab (xt X0 qb 0) (xt X0 qb 1) (xt X0 qb 2) (xt X0 qb 3) (xt X0 qb 4)

/-- Head `h`'s part of it. -/
def hd (qb : Fin 5) (h : Fin 4) : FVec Ideal S160x128 .bf16 :=
  extractStridedSlice S160x128 ![160 * h.val, 0] (wq X0 qb) ⟨rfl, fun a => by
    have := h.isLt
    fin_cases a <;> simp <;> omega⟩

def qs (qb : Fin 5) (h : Fin 4) : FVec Ideal S1x1 .f32 := scaleV (hd X0 qb h)
def qc (qb : Fin 5) (h : Fin 4) : IVec S160x128 8 := codesV (hd X0 qb h) (qs X0 qb h)

/-- The place of a head's codes in the buffer of codes as numbers. -/
def r12 (qb : Fin 5) (h : Fin 4) : Rect S5x160x512 :=
  Rect.unit (s := S5x160x512) ![qb.val, 0, 128 * h.val] S1x160x128.size (fun a => by
    have := qb.isLt; have := h.isLt
    fin_cases a <;> simp <;> omega)

/-- The codes stored as numbers. -/
def pc12 (qb : Fin 5) (h : Fin 4) : View.Piece (Elt Ideal) S5x160x512 .bf16 :=
  ⟨r12 qb h,
    shapeCast S1x160x128 (sitofp (F := Ideal) .bf16 (qc X0 qb h)) shapeCasts_S160x128_S1x160x128⟩

def L12 : Nat → Pcs S5x160x512 .bf16
  | 0 => []
  | m + 1 => pc12 X0 (Fin.ofNat 5 (m / 4)) (Fin.ofNat 4 m) :: L12 m

/-- The place of a head's codes in the block of codes given back. -/
def r4 (qb : Fin 5) (h : Fin 4) : Rect S1x4x160x640 :=
  Rect.unit (s := S1x4x160x640) ![0, h.val, 0, 128 * qb.val] S1x1x160x128.size (fun a => by
    have := qb.isLt; have := h.isLt
    fin_cases a <;> simp <;> omega)

/-- The codes stored as words. -/
def pc4 (qb : Fin 5) (h : Fin 4) : View.Piece (Elt Ideal) S1x4x160x640 .i8 :=
  ⟨r4 qb h,
    shapeCast S1x1x160x128 (qc X0 qb h) shapeCasts_S160x128_S1x1x160x128⟩

def L4 : Nat → Pcs S1x4x160x640 .i8
  | 0 => []
  | m + 1 => pc4 X0 (Fin.ofNat 5 (m / 4)) (Fin.ofNat 4 m) :: L4 m

variable (M12 : Memref sig .tc .vmem S5x160x512 .bf16) (M13 : Memref sig .tc .vmem S2x640x256 .f32) (M14 : Memref sig .tc .vmem S2x640x256 .bf16)
  (X9 : Vec Ideal S640x640 .bf16) (X10 : Vec Ideal S4x640x256 .bf16) (X11 : Vec Ideal S4x16x128 .f32)

/-- Two heads' codes, read back. -/
def qcB (qb : Fin 5) (p : Fin 2) : FVec Ideal S160x256 .bf16 :=
  shapeCast S160x256 (M12.view.readCov (L12 X0 (4 * qb.val + 4)) (Rect.unit (s := S5x160x512) ![qb.val, 0, 256 * p.val] S1x160x256.size (fun a => by
    have := qb.isLt; have := p.isLt
    fin_cases a <;> simp <;> omega)).toLoadRect) shapeCasts_S1x160x256_S160x256

/-- The products of the codes of the keys up to query block `qb` with those of two heads. -/
def sPr (qb : Fin 5) (p : Fin 2) : FVec Ideal (⟨2, ![128 * (qb.val + 1), 256]⟩ : Shape) .f32 :=
  match qb with
  | 0 => matmul (φ₁ := .bf16) (φ₂ := .bf16) dot_S128x160_S160x256_S128x256_1_0_0_1_n_n none (shapeCast S128x160 (View.ld X10 (Rect.unit (s := S4x640x256) (k0_off3 i) S1x128x160.size (k0_off3_inb i))) shapeCasts_S1x128x160_S128x160) (qcB X0 M12 0 p) (constant S128x256 .f32 0x00000000#32)
  | 1 => matmul (φ₁ := .bf16) (φ₂ := .bf16) dot_S256x160_S160x256_S256x256_1_0_0_1_n_n none (shapeCast S256x160 (View.ld X10 (Rect.unit (s := S4x640x256) (k0_off8 i) S1x256x160.size (k0_off8_inb i))) shapeCasts_S1x256x160_S256x160) (qcB X0 M12 1 p) (constant S256x256 .f32 0x00000000#32)
  | 2 => matmul (φ₁ := .bf16) (φ₂ := .bf16) dot_S384x160_S160x256_S384x256_1_0_0_1_n_n none (shapeCast S384x160 (View.ld X10 (Rect.unit (s := S4x640x256) (k0_off13 i) S1x384x160.size (k0_off13_inb i))) shapeCasts_S1x384x160_S384x160) (qcB X0 M12 2 p) (constant S384x256 .f32 0x00000000#32)
  | 3 => matmul (φ₁ := .bf16) (φ₂ := .bf16) dot_S512x160_S160x256_S512x256_1_0_0_1_n_n none (shapeCast S512x160 (View.ld X10 (Rect.unit (s := S4x640x256) (k0_off18 i) S1x512x160.size (k0_off18_inb i))) shapeCasts_S1x512x160_S512x160) (qcB X0 M12 3 p) (constant S512x256 .f32 0x00000000#32)
  | 4 => matmul (φ₁ := .bf16) (φ₂ := .bf16) dot_S640x160_S160x256_S640x256_1_0_0_1_n_n none (shapeCast S640x160 (View.ld X10 (Rect.unit (s := S4x640x256) (k0_off23 i) S1x640x160.size (k0_off23_inb i))) shapeCasts_S1x640x160_S640x160) (qcB X0 M12 4 p) (constant S640x256 .f32 0x00000000#32)

/-- The scale row of key block `kb`. -/
def kr : Fin 10 → FVec Ideal S1x128 .f32 := ![
  shapeCast S1x128 (View.ld X11 (Rect.unit (s := S4x16x128) (k0_off4 i) S1x1x128.size (k0_off4_inb i))) shapeCasts_S1x1x128_S1x128,
  shapeCast S1x128 (View.ld X11 (Rect.unit (s := S4x16x128) (k0_off5 i) S1x1x128.size (k0_off5_inb i))) shapeCasts_S1x1x128_S1x128,
  shapeCast S1x128 (View.ld X11 (Rect.unit (s := S4x16x128) (k0_off9 i) S1x1x128.size (k0_off9_inb i))) shapeCasts_S1x1x128_S1x128,
  shapeCast S1x128 (View.ld X11 (Rect.unit (s := S4x16x128) (k0_off10 i) S1x1x128.size (k0_off10_inb i))) shapeCasts_S1x1x128_S1x128,
  shapeCast S1x128 (View.ld X11 (Rect.unit (s := S4x16x128) (k0_off14 i) S1x1x128.size (k0_off14_inb i))) shapeCasts_S1x1x128_S1x128,
  shapeCast S1x128 (View.ld X11 (Rect.unit (s := S4x16x128) (k0_off15 i) S1x1x128.size (k0_off15_inb i))) shapeCasts_S1x1x128_S1x128,
  shapeCast S1x128 (View.ld X11 (Rect.unit (s := S4x16x128) (k0_off19 i) S1x1x128.size (k0_off19_inb i))) shapeCasts_S1x1x128_S1x128,
  shapeCast S1x128 (View.ld X11 (Rect.unit (s := S4x16x128) (k0_off20 i) S1x1x128.size (k0_off20_inb i))) shapeCasts_S1x1x128_S1x128,
  shapeCast S1x128 (View.ld X11 (Rect.unit (s := S4x16x128) (k0_off24 i) S1x1x128.size (k0_off24_inb i))) shapeCasts_S1x1x128_S1x128,
  shapeCast S1x128 (View.ld X11 (Rect.unit (s := S4x16x128) (k0_off25 i) S1x1x128.size (k0_off25_inb i))) shapeCasts_S1x1x128_S1x128]

/-- Head `h`'s products with key block `kb`. -/
def sl (qb : Fin 5) (h : Fin 4) (kb : Fin 10) : FVec Ideal S64x128 .f32 :=
  if hk : kb.val < 2 * (qb.val + 1) then
    extractStridedSlice S64x128 ![64 * kb.val, 128 * (h.val % 2)] (sPr i X0 M12 X10 qb (Fin.ofNat 2 (h.val / 2))) ⟨rfl, fun a => by
      fin_cases a <;> simp <;> omega⟩
  else fun _ => 0

/-- Head `h`'s scores of key block `kb`, masked in the last two blocks. -/
def tb (qb : Fin 5) (h : Fin 4) (kb : Fin 10) : FVec Ideal S64x128 .f32 :=
  bif Nat.beq kb.val (2 * qb.val) then
    maskV (extractStridedSlice S64x128 ![0, 0] k0_pay278 slices_S128x128_o0_0_S64x128) (scoreV (sl i X0 M12 X10 qb h kb) (kr i X11 kb) (qs X0 qb h))
  else bif Nat.beq kb.val (2 * qb.val + 1) then
    maskV (extractStridedSlice S64x128 ![64, 0] k0_pay278 slices_S128x128_o64_0_S64x128) (scoreV (sl i X0 M12 X10 qb h kb) (kr i X11 kb) (qs X0 qb h))
  else scoreV (sl i X0 M12 X10 qb h kb) (kr i X11 kb) (qs X0 qb h)

end

section Lanes

/-- The place of key block `kb` of a head in a scratch buffer. -/
def tile (h : Fin 4) (kb : Fin 10) : Rect S2x640x256 :=
  Rect.unit (s := S2x640x256) ![h.val / 2, 64 * kb.val, 128 * (h.val % 2)] S1x64x128.size (fun a => by
    have := h.isLt; have := kb.isLt
    fin_cases a <;> simp <;> omega)

def blks {e : EltTy} (h : Fin 4) (f : Fin 10 → Vec Ideal S1x64x128 e) : Nat → Pcs S2x640x256 e
  | 0 => []
  | n + 1 => ⟨tile h (Fin.ofNat 10 n), f (Fin.ofNat 10 n)⟩ :: blks h f n

def mxs (t : Fin 10 → FVec Ideal S64x128 .f32) : Nat → FVec Ideal S8x128 .f32
  | 0 => rowMax (t 0)
  | k + 1 => maximumf (mxs t k) (rowMax (t (Fin.ofNat 10 (k + 1))))

def sms (t : Fin 10 → FVec Ideal S64x128 .f32) : Nat → FVec Ideal S8x128 .f32
  | 0 => broadcast S8x128 (Scalar.ofBits .f32 0x00000000#32)
  | k + 1 => addf (sms t k) (rowSum (t (Fin.ofNat 10 k)))

variable (M13 : Memref sig .tc .vmem S2x640x256 .f32) (M14 : Memref sig .tc .vmem S2x640x256 .bf16)

/-- A statement of each of the first `n` blocks. -/
def upto (p : Nat → Prop) : Nat → Prop
  | 0 => True
  | n + 1 => upto p n ∧ p n

/-- Head `h` with scores `u` in blocks `0 … k` leaves its weights in the scratch buffer, `L` after `R`, and their sums are `z`. -/
def Lane (h : Fin 4) (u : Fin 10 → FVec Ideal S64x128 .f32) (k : Nat) (z : FVec Ideal S1x128 .f32) (L R : Pcs S2x640x256 .bf16) : Prop :=
  ∃ (P : Fin 10 → FVec Ideal S64x128 .f32) (L13 R13 : Pcs S2x640x256 .f32) (m : FVec Ideal S1x128 .f32) (T : Fin 10 → FVec Ideal S64x128 .f32),
    L = blks h (fun kb => shapeCast S1x64x128 (truncf .bf16 (P kb) bitsLt_bf16_f32) shapeCasts_S64x128_S1x64x128) (k + 1) ++ R
    ∧ upto (fun n => P (Fin.ofNat 10 n) = expV (shapeCast S64x128 (M13.view.readCov L13 (tile h (Fin.ofNat 10 n)).toLoadRect) shapeCasts_S1x64x128_S64x128) m) (k + 1)
    ∧ L13 = blks h (fun kb => shapeCast S1x64x128 (T kb) shapeCasts_S64x128_S1x64x128) (k + 1) ++ R13
    ∧ m = topV (mxs T k)
    ∧ z = totV (sms P (k + 1))
    ∧ upto (fun n => T (Fin.ofNat 10 n) = u (Fin.ofNat 10 n)) (k + 1)

variable (i : grid0.Coords) (X9 : Vec Ideal S640x640 .bf16)

/-- The products of the values with the weights `L` of two heads. -/
def oPr (qb : Fin 5) (p : Fin 2) (L : Pcs S2x640x256 .bf16) : FVec Ideal S160x256 .f32 :=
  match qb with
  | 0 => matmul (φ₁ := .bf16) (φ₂ := .bf16) dot_S160x128_S128x256_S160x256_1_0_0_1_n_n none (View.ld X9 (Rect.unit (s := S640x640) (k0_off6 i) S160x128.size (k0_off6_inb i))) (shapeCast S128x256 (M14.view.readCov L (Rect.unit (s := S2x640x256) ![p.val, 0, 0] S1x128x256.size (fun a => by have := p.isLt; fin_cases a <;> simp <;> omega)).toLoadRect) shapeCasts_S1x128x256_S128x256) (constant S160x256 .f32 0x00000000#32)
  | 1 => matmul (φ₁ := .bf16) (φ₂ := .bf16) dot_S160x256_S256x256_S160x256_1_0_0_1_n_n none (View.ld X9 (Rect.unit (s := S640x640) (k0_off11 i) S160x256.size (k0_off11_inb i))) (shapeCast S256x256 (M14.view.readCov L (Rect.unit (s := S2x640x256) ![p.val, 0, 0] S1x256x256.size (fun a => by have := p.isLt; fin_cases a <;> simp <;> omega)).toLoadRect) shapeCasts_S1x256x256_S256x256) (constant S160x256 .f32 0x00000000#32)
  | 2 => matmul (φ₁ := .bf16) (φ₂ := .bf16) dot_S160x384_S384x256_S160x256_1_0_0_1_n_n none (View.ld X9 (Rect.unit (s := S640x640) (k0_off16 i) S160x384.size (k0_off16_inb i))) (shapeCast S384x256 (M14.view.readCov L (Rect.unit (s := S2x640x256) ![p.val, 0, 0] S1x384x256.size (fun a => by have := p.isLt; fin_cases a <;> simp <;> omega)).toLoadRect) shapeCasts_S1x384x256_S384x256) (constant S160x256 .f32 0x00000000#32)
  | 3 => matmul (φ₁ := .bf16) (φ₂ := .bf16) dot_S160x512_S512x256_S160x256_1_0_0_1_n_n none (View.ld X9 (Rect.unit (s := S640x640) (k0_off21 i) S160x512.size (k0_off21_inb i))) (shapeCast S512x256 (M14.view.readCov L (Rect.unit (s := S2x640x256) ![p.val, 0, 0] S1x512x256.size (fun a => by have := p.isLt; fin_cases a <;> simp <;> omega)).toLoadRect) shapeCasts_S1x512x256_S512x256) (constant S160x256 .f32 0x00000000#32)
  | 4 => matmul (φ₁ := .bf16) (φ₂ := .bf16) dot_S160x640_S640x256_S160x256_1_0_0_1_n_n none (View.ld X9 (Rect.unit (s := S640x640) (k0_off26 i) S160x640.size (k0_off26_inb i))) (shapeCast S640x256 (M14.view.readCov L (Rect.unit (s := S2x640x256) ![p.val, 0, 0] S1x640x256.size (fun a => by have := p.isLt; fin_cases a <;> simp <;> omega)).toLoadRect) shapeCasts_S1x640x256_S640x256) (constant S160x256 .f32 0x00000000#32)

/-- The output of one of two heads: `e` says which. -/
def ov (e : Fin 2) (u : FVec Ideal S160x256 .f32) (z : FVec Ideal S1x128 .f32) : FVec Ideal S160x128 .bf16 :=
  quoV (extractStridedSlice S160x128 ![0, 128 * e.val] u ⟨rfl, fun a => by
    have := e.isLt
    fin_cases a <;> simp <;> omega⟩) z

/-- The outputs `y0`, `y1` of pair `p` of heads at query block `qb`, with scores `u` in blocks `0 … k`. -/
def Pair (qb : Fin 5) (p : Fin 2) (u : Fin 4 → Fin 10 → FVec Ideal S64x128 .f32) (k : Nat) (y0 y1 : FVec Ideal S160x128 .bf16) : Prop :=
  ∃ (z0 z1 : FVec Ideal S1x128 .f32) (L R R' : Pcs S2x640x256 .bf16),
    y0 = ov 0 (oPr M14 i X9 qb p L) z0 ∧ y1 = ov 1 (oPr M14 i X9 qb p L) z1
    ∧ Lane M13 (Fin.ofNat 4 (2 * p.val + 1)) (u (Fin.ofNat 4 (2 * p.val + 1))) k z1 L R
    ∧ Lane M13 (Fin.ofNat 4 (2 * p.val)) (u (Fin.ofNat 4 (2 * p.val))) k z0 R R'

/-- The place of an output tile. -/
def r3 (qb cc : Fin 5) : Rect S1x640x640 :=
  Rect.unit (s := S1x640x640) ![0, 128 * qb.val, 128 * cc.val] S1x128x128.size (fun a => by
    have := qb.isLt; have := cc.isLt
    fin_cases a <;> simp <;> omega)

/-- The output's tile `cc` of query block `qb`, of the four heads' outputs `u`. -/
def pc3 (u : FVec Ideal S640x128 .bf16) (qb cc : Fin 5) : View.Piece (Elt Ideal) S1x640x640 .bf16 :=
  ⟨r3 qb cc,
    shapeCast S1x128x128 (transpose S128x128 [1, 0] (extractStridedSlice S128x128 ![128 * cc.val, 0] u ⟨rfl, fun a => by
      have := cc.isLt
      fin_cases a <;> simp <;> omega⟩) transposes_S128x128_p1_0_S128x128) shapeCasts_S128x128_S1x128x128⟩

/-- The output's first `n` tiles, of the heads' outputs `u`. -/
def L3 (u : Fin 5 → FVec Ideal S640x128 .bf16) : Nat → Pcs S1x640x640 .bf16
  | 0 => []
  | n + 1 => pc3 (u (Fin.ofNat 5 (n / 5))) (Fin.ofNat 5 (n / 5)) (Fin.ofNat 5 n) :: L3 u n

end Lanes

end Cert.KernelIdeal.Model
-- ==== Proof.Lanes.lean ====
/- What the softmax's blockwise pieces hold: the running maximum and the running sum over blocks of 64 keys are the maximum and the sum
   over all their keys, and a block of scores or weights read back from its scratch buffer is the block that was stored. -/
module
public import proofs.«01_k».proof.Proof.Model
public import Idealize.ShloMosaic.Lib.Pipeline.ReadBack
@[expose] public section
set_option maxRecDepth 16384
noncomputable section
namespace Cert.KernelIdeal.Model
open Cert.KernelIdeal Cert.KernelIdeal.Gen Cert.KernelIdeal.Blocks Cert.Spec Idealize.ShloMosaic Idealize.ShloMosaic.TcCoe Idealize.SL.Sem

theorem ofNat_val {n k : Nat} [NeZero n] (h : k < n) : (Fin.ofNat n k).val = k := Nat.mod_eq_of_lt h

/-- A sum over `n` blocks of `b` is the sum over all `b·n`. -/
theorem sum_blocks (b : Nat) (F : Nat → EReal) (n : Nat) :
    ∑ k ∈ Finset.range n, ∑ r ∈ Finset.range b, F (b * k + r) = ∑ x ∈ Finset.range (b * n), F x := by
  induction n with
  | zero => simp
  | succ n ih => rw [Finset.sum_range_succ, ih, Nat.mul_succ, Finset.sum_range_add]

section
variable (t : Fin 10 → FVec Ideal S64x128 .f32) (s : Nat → Fin 128 → EReal) (k : Nat)
  (ht : ∀ kb : Fin 10, kb.val ≤ k → ∀ r l, t kb (ix2 r l) = s (64 * kb.val + r.val) l) (l : Fin 128)

theorem mxs_succ_at (n : Nat) (a : Fin 8) : mxs t (n + 1) (ix2 a l) = max (mxs t n (ix2 a l)) (rowMax (t (Fin.ofNat 10 (n + 1))) (ix2 a l)) := rfl

theorem sms_succ_at (n : Nat) (a : Fin 8) : sms t (n + 1) (ix2 a l) = sms t n (ix2 a l) + rowSum (t (Fin.ofNat 10 n)) (ix2 a l) := rfl

include ht

theorem mxs_le (hk : k < 10) (M : EReal) (hM : ∀ x, x < 64 * (k + 1) → s x l ≤ M) (a : Fin 8) : ∀ n, n ≤ k → mxs t n (ix2 a l) ≤ M
  | 0, _ => by
    rw [show mxs t 0 = rowMax (t 0) from rfl, rowMax_at]
    refine iSup_le fun g => ?_
    rw [ht 0 (Nat.zero_le _)]
    refine hM _ ?_
    have := g.isLt; have := a.isLt
    show 64 * 0 + (g.val * 8 + a.val) < _
    omega
  | n + 1, hn => by
    rw [mxs_succ_at, rowMax_at]
    refine max_le (mxs_le hk M hM a n (by omega)) (iSup_le fun g => ?_)
    have e : (Fin.ofNat 10 (n + 1)).val = n + 1 := ofNat_val (by omega)
    rw [ht _ (by rw [e]; exact hn)]
    refine hM _ ?_
    have := g.isLt; have := a.isLt
    rw [e]
    show 64 * (n + 1) + (g.val * 8 + a.val) < _
    omega

theorem le_mxs (hk : k < 10) (g a : Fin 8) : ∀ n, n ≤ k → ∀ kb, kb ≤ n → s (64 * kb + (g.val * 8 + a.val)) l ≤ mxs t n (ix2 a l)
  | 0, _, kb, hkb => by
    obtain rfl : kb = 0 := by omega
    rw [show mxs t 0 = rowMax (t 0) from rfl, rowMax_at]
    refine le_trans (le_of_eq ?_) (le_iSup _ g)
    rw [ht 0 (Nat.zero_le _)]; rfl
  | n + 1, hn, kb, hkb => by
    rw [mxs_succ_at]
    rcases Nat.lt_or_ge kb (n + 1) with h | h
    · exact le_trans (le_mxs hk g a n (by omega) kb (by omega)) (le_max_left _ _)
    · obtain rfl : kb = n + 1 := by omega
      have e : (Fin.ofNat 10 (n + 1)).val = n + 1 := ofNat_val (by omega)
      refine le_trans ?_ (le_max_right _ _)
      rw [rowMax_at]
      refine le_trans (le_of_eq ?_) (le_iSup _ g)
      rw [ht _ (by rw [e]; exact hn), e]

/-- The maximum the blocks lead to is the maximum over all their keys. -/
theorem top_at (hk : k < 10) (a : Fin 1) : topV (mxs t k) (ix2 a l) = ⨆ x : Fin (64 * (k + 1)), s x.val l := by
  rw [topV_at]
  refine le_antisymm (iSup_le fun a => mxs_le t s k ht l hk _ (fun x hx => le_iSup (fun x : Fin (64 * (k + 1)) => s x.val l) ⟨x, hx⟩) a k le_rfl)
    (iSup_le fun x => ?_)
  have hx := x.isLt
  have h := le_mxs t s k ht l hk ⟨x.val % 64 / 8, by omega⟩ ⟨x.val % 8, by omega⟩ k le_rfl (x.val / 64) (by omega)
  rw [show 64 * (x.val / 64) + (x.val % 64 / 8 * 8 + x.val % 8) = x.val by omega] at h
  exact le_trans h (le_iSup (fun a => mxs t k (ix2 a l)) _)

theorem sms_at (hk : k < 10) (a : Fin 8) : ∀ n, n ≤ k + 1 →
    sms t n (ix2 a l) = ∑ kb ∈ Finset.range n, ∑ g ∈ Finset.range 8, s (64 * kb + (8 * g + a.val)) l
  | 0, _ => by
    show Ideal.ofBits .f32 0x00000000#32 = _
    simp [Ideal.ofBits, Ideal.ieee]
  | n + 1, hn => by
    rw [sms_succ_at, sms_at hk a n (by omega), Finset.sum_range_succ, rowSum_at]
    congr 1
    rw [Finset.sum_range (fun g => s (64 * n + (8 * g + a.val)) l)]
    refine Finset.sum_congr rfl fun g _ => ?_
    have e : (Fin.ofNat 10 n).val = n := ofNat_val (by omega)
    rw [ht _ (by rw [e]; omega), e]
    congr 1
    show 64 * n + (g.val * 8 + a.val) = _
    omega

/-- The sum the blocks lead to is the sum over all their keys. -/
theorem tot_sum_at (hk : k < 10) (a : Fin 1) : totV (sms t (k + 1)) (ix2 a l) = ∑ x : Fin (64 * (k + 1)), s x.val l := by
  rw [totV_at, ← Finset.sum_range (fun x => s x l), ← sum_blocks 64 (fun x => s x l) (k + 1)]
  simp only [sms_at t s k ht l hk _ _ le_rfl]
  rw [Finset.sum_comm]
  refine Finset.sum_congr rfl fun kb _ => ?_
  rw [Finset.sum_comm, ← sum_blocks 8 (fun x => s (64 * kb + x) l) 8]
  refine Finset.sum_congr rfl fun g _ => ?_
  rw [Finset.sum_range (fun a => s (64 * kb + (8 * g + a)) l)]

end

/-- A place in another head's lanes or another block is not in a tile. -/
theorem not_mem_tile (h h' : Fin 4) (kb kb' : Fin 10) (hne : h ≠ h' ∨ kb ≠ kb') (x : (tile h kb).shape.Idx) : (tile h kb).emb x ∉ (tile h' kb').set := by
  intro hm
  have hm := Rect.mem_set_unit.mp hm
  have h0 := hm 0; have h1 := hm 1; have h2 := hm 2
  have x0 : (x 0).val < 1 := (x 0).isLt
  have x1 : (x 1).val < 64 := (x 1).isLt
  have x2 : (x 2).val < 128 := (x 2).isLt
  change h'.val / 2 ≤ h.val / 2 + 1 * (x 0).val ∧ h.val / 2 + 1 * (x 0).val < h'.val / 2 + 1 at h0
  change 64 * kb'.val ≤ 64 * kb.val + 1 * (x 1).val ∧ 64 * kb.val + 1 * (x 1).val < 64 * kb'.val + 64 at h1
  change 128 * (h'.val % 2) ≤ 128 * (h.val % 2) + 1 * (x 2).val ∧ 128 * (h.val % 2) + 1 * (x 2).val < 128 * (h'.val % 2) + 128 at h2
  rcases hne with hne | hne
  · exact hne (Fin.ext (by omega))
  · exact hne (Fin.ext (by omega))

/-- After the blocks of a head are stored, a block's place holds that block. -/
theorem canon_blks {e : EltTy} (h : Fin 4) (f : Fin 10 → Vec Ideal S1x64x128 e) (R : Pcs S2x640x256 e) (kb : Fin 10) (x : (tile h kb).shape.Idx) :
    ∀ n, n ≤ 10 → kb.val < n → View.canon (blks h f n ++ R) ((tile h kb).emb x) = f kb x
  | 0, _, hk => absurd hk (Nat.not_lt_zero _)
  | n + 1, hn, hk => by
    have e : (Fin.ofNat 10 n).val = n := ofNat_val (by omega)
    by_cases hkn : kb.val = n
    · have : Fin.ofNat 10 n = kb := Fin.ext (by rw [e, hkn])
      show View.canon (⟨tile h (Fin.ofNat 10 n), f (Fin.ofNat 10 n)⟩ :: (blks h f n ++ R)) _ = _
      rw [this]
      exact View.canon_cons_emb (tile h kb) (f kb) _ x
    · refine (View.canon_cons_of_not_mem (⟨tile h (Fin.ofNat 10 n), f (Fin.ofNat 10 n)⟩ : View.Piece (Elt Ideal) S2x640x256 _) (blks h f n ++ R)
        (not_mem_tile h h kb (Fin.ofNat 10 n) (Or.inr fun hh => hkn (by rw [hh, e])) x)).trans ?_
      exact canon_blks h f R kb x n (by omega) (by omega)

/-- The blocks of another head leave it alone. -/
theorem canon_blks_other {e : EltTy} (h h' : Fin 4) (hne : h ≠ h') (f : Fin 10 → Vec Ideal S1x64x128 e) (R : Pcs S2x640x256 e) (kb : Fin 10)
    (x : (tile h kb).shape.Idx) : ∀ n, View.canon (blks h' f n ++ R) ((tile h kb).emb x) = View.canon R ((tile h kb).emb x)
  | 0 => rfl
  | n + 1 => by
    refine (View.canon_cons_of_not_mem (⟨tile h' (Fin.ofNat 10 n), f (Fin.ofNat 10 n)⟩ : View.Piece (Elt Ideal) S2x640x256 _) (blks h' f n ++ R)
      (not_mem_tile h h' kb (Fin.ofNat 10 n) (Or.inl hne) x)).trans ?_
    exact canon_blks_other h h' hne f R kb x n

end Cert.KernelIdeal.Model

end
-- ==== Proof.Products.lean ====
/- The kernel's products read at an index: the codes of a query block's heads, their products with the key codes, the scores, and the
   products of the values with the weights. -/
module
public import proofs.«01_k».proof.Proof.Lanes
public import Idealize.ShloMosaic.Lib.Pointwise
@[expose] public section
set_option maxRecDepth 16384
noncomputable section
namespace Cert.KernelIdeal.Model
open Cert.KernelIdeal Cert.KernelIdeal.Gen Cert.KernelIdeal.Blocks Cert.Spec Idealize.ShloMosaic Idealize.ShloMosaic.TcCoe Idealize.SL.Sem

/-- What is read back at a rectangle is what the stores left there. -/
theorem readCov_at {S : Shape} {e : EltTy} {sp : Space} (v : View sig .tc sp S e) (L : Pcs S e) (r : Rect S) (x : r.shape.Idx) :
    v.readCov L r.toLoadRect x = View.canon L (r.emb x) := by
  rw [View.readCov_eq_canon']; rfl

theorem cast64_at (w : FVec Ideal S1x64x128 .f32) (h) (r : Fin 64) (l : Fin 128) :
    shapeCast S64x128 w h (ix2 r l) = w (ix3 0 r l) := by pointwise

theorem uncast64_at {φ : FTy} (w : FVec Ideal S64x128 φ) (h) (r : Fin 64) (l : Fin 128) :
    shapeCast S1x64x128 w h (ix3 0 r l) = w (ix2 r l) := by pointwise

theorem uncast160_at (w : FVec Ideal S160x128 .bf16) (h) (r : Fin 160) (l : Fin 128) :
    shapeCast S1x160x128 w h (ix3 0 r l) = w (ix2 r l) := by pointwise

theorem uncast4_at (w : IVec S160x128 8) (h) (r : Fin 160) (l : Fin 128) :
    shapeCast S1x1x160x128 w h (ix4 0 0 r l) = w (ix2 r l) := by pointwise

theorem cast160_at (w : FVec Ideal S1x160x256 .bf16) (h) (r : Fin 160) (l : Fin 256) :
    shapeCast S160x256 w h (ix2 r l) = w (ix3 0 r l) := by pointwise

theorem row_at (X11 : Vec Ideal S4x16x128 .f32) (off : Fin 3 → Nat) (j : Fin 4) (kb : Fin 10) (ho : off = ![j.val, kb.val, 0]) (inb) (h) (l : Fin 128) :
    shapeCast S1x128 (View.ld X11 (Rect.unit (s := S4x16x128) off S1x1x128.size inb)) h (ix2 0 l) = X11 (ix3 j ⟨kb.val, by omega⟩ l) := by
  subst ho; pointwise

theorem slice_at {n : Nat} (u : FVec Ideal (⟨2, ![n, 256]⟩ : Shape) .f32) (a b : Nat) (h) (r : Fin 64) (l : Fin 128) (ha : a + 64 ≤ n) (hb : b + 128 ≤ 256) :
    extractStridedSlice S64x128 ![a, b] u h (ix2 r l) = u (ix2 ⟨a + r.val, by omega⟩ ⟨b + l.val, by omega⟩) := by
  unfold extractStridedSlice
  refine congrArg u (funext fun x => Fin.ext ?_)
  fin_cases x <;> rfl

theorem slice160_at (u : FVec Ideal S160x256 .f32) (b : Nat) (h) (d : Fin 160) (l : Fin 128) (hb : b + 128 ≤ 256) :
    extractStridedSlice S160x128 ![0, b] u h (ix2 d l) = u (ix2 d ⟨b + l.val, by omega⟩) := by
  unfold extractStridedSlice
  refine congrArg u (funext fun x => Fin.ext ?_)
  fin_cases x
  · exact Nat.zero_add _
  · rfl

theorem head_at (u : FVec Ideal S640x128 .bf16) (a : Nat) (h) (d : Fin 160) (l : Fin 128) (ha : a + 160 ≤ 640) :
    extractStridedSlice S160x128 ![a, 0] u h (ix2 d l) = u (ix2 ⟨a + d.val, by omega⟩ l) := by
  unfold extractStridedSlice
  refine congrArg u (funext fun x => Fin.ext ?_)
  fin_cases x
  · rfl
  · exact Nat.zero_add _

theorem cast128_at (w : FVec Ideal S1x128x160 .bf16) (h) (r : Fin 128) (d : Fin 160) :
    shapeCast S128x160 w h (ix2 r d) = w (ix3 0 r d) := by pointwise

theorem score_mat0 (A : FVec Ideal S128x160 .bf16) (B : FVec Ideal S160x256 .bf16) (r : Fin 128) (c : Fin 256) :
    matmul (φ₁ := .bf16) (φ₂ := .bf16) dot_S128x160_S160x256_S128x256_1_0_0_1_n_n none A B (constant (F := Ideal) S128x256 .f32 0x00000000#32) (ix2 r c)
      = ∑ d : Fin 160, A (ix2 r d) * B (ix2 d c) := by pointwise

theorem score_ld0 (X10 : Vec Ideal S4x640x256 .bf16) (off : Fin 3 → Nat) (j : Fin 4) (ho : off = ![j.val, 0, 0]) (inb) (h) (r : Fin 128) (d : Fin 160) :
    shapeCast S128x160 (View.ld X10 (Rect.unit (s := S4x640x256) off S1x128x160.size inb)) h (ix2 r d) = X10 (ix3 j ⟨r.val, by omega⟩ ⟨d.val, by omega⟩) := by
  subst ho
  refine (cast128_at _ h r d).trans ?_
  refine congrArg X10 (funext fun x => Fin.ext ?_)
  fin_cases x
  · exact Nat.add_zero _
  · exact (Nat.zero_add _).trans (Nat.one_mul _)
  · exact (Nat.zero_add _).trans (Nat.one_mul _)

theorem value_dot0 (X9 : Vec Ideal S640x640 .bf16) (off : Fin 2 → Nat) (j : Fin 4) (ho : off = ![160 * j.val, 0]) (inb) (h)
    (W : FVec Ideal S1x128x256 .bf16) (d : Fin 160) (c : Fin 256) :
    matmul (φ₁ := .bf16) (φ₂ := .bf16) dot_S160x128_S128x256_S160x256_1_0_0_1_n_n none
      (View.ld X9 (Rect.unit (s := S640x640) off S160x128.size inb)) (shapeCast S128x256 W h) (constant (F := Ideal) S160x256 .f32 0x00000000#32) (ix2 d c)
      = ∑ r : Fin 128, X9 (ix2 ⟨160 * j.val + d.val, by omega⟩ ⟨r.val, by omega⟩) * W (ix3 0 r c) := by
  subst ho; pointwise

theorem cast256_at (w : FVec Ideal S1x256x160 .bf16) (h) (r : Fin 256) (d : Fin 160) :
    shapeCast S256x160 w h (ix2 r d) = w (ix3 0 r d) := by pointwise

theorem score_mat1 (A : FVec Ideal S256x160 .bf16) (B : FVec Ideal S160x256 .bf16) (r : Fin 256) (c : Fin 256) :
    matmul (φ₁ := .bf16) (φ₂ := .bf16) dot_S256x160_S160x256_S256x256_1_0_0_1_n_n none A B (constant (F := Ideal) S256x256 .f32 0x00000000#32) (ix2 r c)
      = ∑ d : Fin 160, A (ix2 r d) * B (ix2 d c) := by pointwise

theorem score_ld1 (X10 : Vec Ideal S4x640x256 .bf16) (off : Fin 3 → Nat) (j : Fin 4) (ho : off = ![j.val, 0, 0]) (inb) (h) (r : Fin 256) (d : Fin 160) :
    shapeCast S256x160 (View.ld X10 (Rect.unit (s := S4x640x256) off S1x256x160.size inb)) h (ix2 r d) = X10 (ix3 j ⟨r.val, by omega⟩ ⟨d.val, by omega⟩) := by
  subst ho
  refine (cast256_at _ h r d).trans ?_
  refine congrArg X10 (funext fun x => Fin.ext ?_)
  fin_cases x
  · exact Nat.add_zero _
  · exact (Nat.zero_add _).trans (Nat.one_mul _)
  · exact (Nat.zero_add _).trans (Nat.one_mul _)

theorem value_dot1 (X9 : Vec Ideal S640x640 .bf16) (off : Fin 2 → Nat) (j : Fin 4) (ho : off = ![160 * j.val, 0]) (inb) (h)
    (W : FVec Ideal S1x256x256 .bf16) (d : Fin 160) (c : Fin 256) :
    matmul (φ₁ := .bf16) (φ₂ := .bf16) dot_S160x256_S256x256_S160x256_1_0_0_1_n_n none
      (View.ld X9 (Rect.unit (s := S640x640) off S160x256.size inb)) (shapeCast S256x256 W h) (constant (F := Ideal) S160x256 .f32 0x00000000#32) (ix2 d c)
      = ∑ r : Fin 256, X9 (ix2 ⟨160 * j.val + d.val, by omega⟩ ⟨r.val, by omega⟩) * W (ix3 0 r c) := by
  subst ho; pointwise

theorem cast384_at (w : FVec Ideal S1x384x160 .bf16) (h) (r : Fin 384) (d : Fin 160) :
    shapeCast S384x160 w h (ix2 r d) = w (ix3 0 r d) := by pointwise

theorem score_mat2 (A : FVec Ideal S384x160 .bf16) (B : FVec Ideal S160x256 .bf16) (r : Fin 384) (c : Fin 256) :
    matmul (φ₁ := .bf16) (φ₂ := .bf16) dot_S384x160_S160x256_S384x256_1_0_0_1_n_n none A B (constant (F := Ideal) S384x256 .f32 0x00000000#32) (ix2 r c)
      = ∑ d : Fin 160, A (ix2 r d) * B (ix2 d c) := by pointwise

theorem score_ld2 (X10 : Vec Ideal S4x640x256 .bf16) (off : Fin 3 → Nat) (j : Fin 4) (ho : off = ![j.val, 0, 0]) (inb) (h) (r : Fin 384) (d : Fin 160) :
    shapeCast S384x160 (View.ld X10 (Rect.unit (s := S4x640x256) off S1x384x160.size inb)) h (ix2 r d) = X10 (ix3 j ⟨r.val, by omega⟩ ⟨d.val, by omega⟩) := by
  subst ho
  refine (cast384_at _ h r d).trans ?_
  refine congrArg X10 (funext fun x => Fin.ext ?_)
  fin_cases x
  · exact Nat.add_zero _
  · exact (Nat.zero_add _).trans (Nat.one_mul _)
  · exact (Nat.zero_add _).trans (Nat.one_mul _)

theorem value_dot2 (X9 : Vec Ideal S640x640 .bf16) (off : Fin 2 → Nat) (j : Fin 4) (ho : off = ![160 * j.val, 0]) (inb) (h)
    (W : FVec Ideal S1x384x256 .bf16) (d : Fin 160) (c : Fin 256) :
    matmul (φ₁ := .bf16) (φ₂ := .bf16) dot_S160x384_S384x256_S160x256_1_0_0_1_n_n none
      (View.ld X9 (Rect.unit (s := S640x640) off S160x384.size inb)) (shapeCast S384x256 W h) (constant (F := Ideal) S160x256 .f32 0x00000000#32) (ix2 d c)
      = ∑ r : Fin 384, X9 (ix2 ⟨160 * j.val + d.val, by omega⟩ ⟨r.val, by omega⟩) * W (ix3 0 r c) := by
  subst ho; pointwise

theorem cast512_at (w : FVec Ideal S1x512x160 .bf16) (h) (r : Fin 512) (d : Fin 160) :
    shapeCast S512x160 w h (ix2 r d) = w (ix3 0 r d) := by pointwise

theorem score_mat3 (A : FVec Ideal S512x160 .bf16) (B : FVec Ideal S160x256 .bf16) (r : Fin 512) (c : Fin 256) :
    matmul (φ₁ := .bf16) (φ₂ := .bf16) dot_S512x160_S160x256_S512x256_1_0_0_1_n_n none A B (constant (F := Ideal) S512x256 .f32 0x00000000#32) (ix2 r c)
      = ∑ d : Fin 160, A (ix2 r d) * B (ix2 d c) := by pointwise

theorem score_ld3 (X10 : Vec Ideal S4x640x256 .bf16) (off : Fin 3 → Nat) (j : Fin 4) (ho : off = ![j.val, 0, 0]) (inb) (h) (r : Fin 512) (d : Fin 160) :
    shapeCast S512x160 (View.ld X10 (Rect.unit (s := S4x640x256) off S1x512x160.size inb)) h (ix2 r d) = X10 (ix3 j ⟨r.val, by omega⟩ ⟨d.val, by omega⟩) := by
  subst ho
  refine (cast512_at _ h r d).trans ?_
  refine congrArg X10 (funext fun x => Fin.ext ?_)
  fin_cases x
  · exact Nat.add_zero _
  · exact (Nat.zero_add _).trans (Nat.one_mul _)
  · exact (Nat.zero_add _).trans (Nat.one_mul _)

theorem value_dot3 (X9 : Vec Ideal S640x640 .bf16) (off : Fin 2 → Nat) (j : Fin 4) (ho : off = ![160 * j.val, 0]) (inb) (h)
    (W : FVec Ideal S1x512x256 .bf16) (d : Fin 160) (c : Fin 256) :
    matmul (φ₁ := .bf16) (φ₂ := .bf16) dot_S160x512_S512x256_S160x256_1_0_0_1_n_n none
      (View.ld X9 (Rect.unit (s := S640x640) off S160x512.size inb)) (shapeCast S512x256 W h) (constant (F := Ideal) S160x256 .f32 0x00000000#32) (ix2 d c)
      = ∑ r : Fin 512, X9 (ix2 ⟨160 * j.val + d.val, by omega⟩ ⟨r.val, by omega⟩) * W (ix3 0 r c) := by
  subst ho; pointwise

theorem cast640_at (w : FVec Ideal S1x640x160 .bf16) (h) (r : Fin 640) (d : Fin 160) :
    shapeCast S640x160 w h (ix2 r d) = w (ix3 0 r d) := by pointwise

theorem score_mat4 (A : FVec Ideal S640x160 .bf16) (B : FVec Ideal S160x256 .bf16) (r : Fin 640) (c : Fin 256) :
    matmul (φ₁ := .bf16) (φ₂ := .bf16) dot_S640x160_S160x256_S640x256_1_0_0_1_n_n none A B (constant (F := Ideal) S640x256 .f32 0x00000000#32) (ix2 r c)
      = ∑ d : Fin 160, A (ix2 r d) * B (ix2 d c) := by pointwise

theorem score_ld4 (X10 : Vec Ideal S4x640x256 .bf16) (off : Fin 3 → Nat) (j : Fin 4) (ho : off = ![j.val, 0, 0]) (inb) (h) (r : Fin 640) (d : Fin 160) :
    shapeCast S640x160 (View.ld X10 (Rect.unit (s := S4x640x256) off S1x640x160.size inb)) h (ix2 r d) = X10 (ix3 j ⟨r.val, by omega⟩ ⟨d.val, by omega⟩) := by
  subst ho
  refine (cast640_at _ h r d).trans ?_
  refine congrArg X10 (funext fun x => Fin.ext ?_)
  fin_cases x
  · exact Nat.add_zero _
  · exact (Nat.zero_add _).trans (Nat.one_mul _)
  · exact (Nat.zero_add _).trans (Nat.one_mul _)

theorem value_dot4 (X9 : Vec Ideal S640x640 .bf16) (off : Fin 2 → Nat) (j : Fin 4) (ho : off = ![160 * j.val, 0]) (inb) (h)
    (W : FVec Ideal S1x640x256 .bf16) (d : Fin 160) (c : Fin 256) :
    matmul (φ₁ := .bf16) (φ₂ := .bf16) dot_S160x640_S640x256_S160x256_1_0_0_1_n_n none
      (View.ld X9 (Rect.unit (s := S640x640) off S160x640.size inb)) (shapeCast S640x256 W h) (constant (F := Ideal) S160x256 .f32 0x00000000#32) (ix2 d c)
      = ∑ r : Fin 640, X9 (ix2 ⟨160 * j.val + d.val, by omega⟩ ⟨r.val, by omega⟩) * W (ix3 0 r c) := by
  subst ho; pointwise

end Cert.KernelIdeal.Model

end
-- ==== Proof.Pairs.lean ====
/- What the kernel's attention computes for a head: the scores of a block read at a key and a query token, the weights, and the output as the
   weighted sum of the values over the sum of the weights. -/
module
public import proofs.«01_k».proof.Proof.Products
@[expose] public section
set_option maxRecDepth 16384
noncomputable section
namespace Cert.KernelIdeal.Model
open Cert.KernelIdeal Cert.KernelIdeal.Gen Cert.KernelIdeal.Blocks Cert.Spec Idealize.ShloMosaic Idealize.ShloMosaic.TcCoe Idealize.SL.Sem

/-- Where a grid point with key/value head `j` of its buffers loads: the codes, the scale rows and the values of head `j`. -/
structure Offs (i : grid0.Coords) (j : Fin 4) : Prop where
  k0 : k0_off3 i = ![j.val, 0, 0]
  k1 : k0_off8 i = ![j.val, 0, 0]
  k2 : k0_off13 i = ![j.val, 0, 0]
  k3 : k0_off18 i = ![j.val, 0, 0]
  k4 : k0_off23 i = ![j.val, 0, 0]
  r0 : k0_off4 i = ![j.val, 0, 0]
  r1 : k0_off5 i = ![j.val, 1, 0]
  r2 : k0_off9 i = ![j.val, 2, 0]
  r3 : k0_off10 i = ![j.val, 3, 0]
  r4 : k0_off14 i = ![j.val, 4, 0]
  r5 : k0_off15 i = ![j.val, 5, 0]
  r6 : k0_off19 i = ![j.val, 6, 0]
  r7 : k0_off20 i = ![j.val, 7, 0]
  r8 : k0_off24 i = ![j.val, 8, 0]
  r9 : k0_off25 i = ![j.val, 9, 0]
  v0 : k0_off6 i = ![160 * j.val, 0]
  v1 : k0_off11 i = ![160 * j.val, 0]
  v2 : k0_off16 i = ![160 * j.val, 0]
  v3 : k0_off21 i = ![160 * j.val, 0]
  v4 : k0_off26 i = ![160 * j.val, 0]

theorem upto_get {p : Nat → Prop} : ∀ {n : Nat}, upto p n → ∀ k, k < n → p k
  | 0, _, _, h => absurd h (Nat.not_lt_zero _)
  | n + 1, hp, k, h => by
    rcases Nat.lt_or_ge k n with hk | hk
    · exact upto_get hp.1 k hk
    · obtain rfl : k = n := by omega
      exact hp.2

/-- A lane's weights and their sums, for scores `s`: the weight of a key is 2 to its score less the greatest score. -/
theorem Lane_at (M13 : Memref sig .tc .vmem S2x640x256 .f32) (h : Fin 4) (u : Fin 10 → FVec Ideal S64x128 .f32) (k : Nat) (z : FVec Ideal S1x128 .f32)
    (L R : Pcs S2x640x256 .bf16) (hL : Lane M13 h u k z L R) (hk : k < 10) (s : Nat → Fin 128 → EReal)
    (hu : ∀ kb : Fin 10, kb.val ≤ k → ∀ r l, u kb (ix2 r l) = s (64 * kb.val + r.val) l) :
    (∀ l, z (ix2 0 l) = ∑ x : Fin (64 * (k + 1)), Ideal.exp2 (s x.val l - ⨆ y : Fin (64 * (k + 1)), s y.val l))
    ∧ (∀ kb : Fin 10, kb.val ≤ k → ∀ (r : Fin 64) (l : Fin 128), View.canon L ((tile h kb).emb (ix3 0 r l : S1x64x128.Idx))
        = Ideal.exp2 (s (64 * kb.val + r.val) l - ⨆ y : Fin (64 * (k + 1)), s y.val l))
    ∧ ∀ h' : Fin 4, h' ≠ h → ∀ kb x, View.canon L ((tile h' kb).emb x) = View.canon R ((tile h' kb).emb x) := by
  obtain ⟨P, L13, R13, m, T, rfl, hP, hL13, hm, rfl, hT⟩ := hL
  have e : ∀ kb : Fin 10, Fin.ofNat 10 kb.val = kb := fun kb => Fin.ext (Nat.mod_eq_of_lt kb.isLt)
  have hTs : ∀ kb : Fin 10, kb.val ≤ k → ∀ r l, T kb (ix2 r l) = s (64 * kb.val + r.val) l := fun kb hkb r l => by
    have := upto_get hT kb.val (by omega)
    rw [e] at this
    rw [this]; exact hu kb hkb r l
  have hPs : ∀ kb : Fin 10, kb.val ≤ k → ∀ r l, P kb (ix2 r l) = Ideal.exp2 (s (64 * kb.val + r.val) l - ⨆ y : Fin (64 * (k + 1)), s y.val l) :=
    fun kb hkb r l => by
      have := upto_get hP kb.val (by omega)
      rw [e] at this
      have g : shapeCast S64x128 (M13.view.readCov L13 (tile h kb).toLoadRect) shapeCasts_S1x64x128_S64x128 (ix2 r l) = s (64 * kb.val + r.val) l := by
        refine (cast64_at _ _ r l).trans ((readCov_at M13.view L13 (tile h kb) (ix3 0 r l : S1x64x128.Idx)).trans ?_)
        rw [hL13]
        refine (canon_blks h _ R13 kb (ix3 0 r l : S1x64x128.Idx) (k + 1) (by omega) (by omega)).trans ?_
        exact (uncast64_at (T kb) _ r l).trans (hTs kb hkb r l)
      rw [this, expV_at, hm, top_at T s k hTs l hk 0]
      exact congrArg (fun z => Ideal.exp2 (z - _)) g
  refine ⟨fun l => ?_, fun kb hkb r l => ?_, fun h' hh kb x => ?_⟩
  · exact tot_sum_at P (fun x l => Ideal.exp2 (s x l - ⨆ y : Fin (64 * (k + 1)), s y.val l)) k hPs l hk 0
  · refine (canon_blks h _ R kb (ix3 0 r l : S1x64x128.Idx) (k + 1) (by omega) (by omega)).trans ?_
    refine (uncast64_at _ _ r l).trans ?_
    exact hPs kb hkb r l
  · exact canon_blks_other h' h hh _ R kb x (k + 1)

theorem unit_emb {n : Nat} (hn : n ≤ 640) (p : Fin 2) (inb) (r : Fin n) (c : Fin 256) :
    (Rect.unit (s := S2x640x256) ![p.val, 0, 0] (⟨3, ![1, n, 256]⟩ : Shape).size inb).emb (ix3 0 r c : (⟨3, ![1, n, 256]⟩ : Shape).Idx) = ix3 p ⟨r.val, by omega⟩ c := by
  funext a
  refine Fin.ext ?_
  fin_cases a
  · exact Nat.add_zero _
  · exact (Nat.zero_add _).trans (Nat.one_mul _)
  · exact (Nat.zero_add _).trans (Nat.one_mul _)

theorem tile_emb (p e : Fin 2) (kb : Fin 10) (r : Fin 64) (l : Fin 128) (h : Fin 4) (hh : h.val = 2 * p.val + e.val) :
    (tile h kb).emb (ix3 0 r l : S1x64x128.Idx) = ix3 p ⟨64 * kb.val + r.val, by omega⟩ ⟨128 * e.val + l.val, by omega⟩ := by
  funext a
  refine Fin.ext ?_
  fin_cases a
  · show h.val / 2 + 1 * 0 = p.val
    omega
  · show 64 * kb.val + 1 * r.val = 64 * kb.val + r.val
    omega
  · show 128 * (h.val % 2) + 1 * l.val = 128 * e.val + l.val
    omega

/-- The products of values and weights read at an index. -/
theorem oPr_at (M14 : Memref sig .tc .vmem S2x640x256 .bf16) (i : grid0.Coords) (j : Fin 4) (hi : Offs i j) (X9 : Vec Ideal S640x640 .bf16) (qb : Fin 5) (p : Fin 2)
    (L : Pcs S2x640x256 .bf16) (d : Fin 160) (c : Fin 256) :
    oPr M14 i X9 qb p L (ix2 d c)
      = ∑ x : Fin (64 * (2 * qb.val + 1 + 1)), X9 (ix2 ⟨160 * j.val + d.val, by omega⟩ ⟨x.val, by omega⟩) * View.canon L (ix3 p ⟨x.val, by omega⟩ c) := by
  match qb with
  | 0 =>
    refine (value_dot0 X9 _ j hi.v0 _ _ _ d c).trans (Finset.sum_congr rfl fun r _ => ?_)
    exact congrArg _ ((readCov_at _ L _ _).trans (congrArg _ (unit_emb (n := 128) (by omega) p _ r c)))
  | 1 =>
    refine (value_dot1 X9 _ j hi.v1 _ _ _ d c).trans (Finset.sum_congr rfl fun r _ => ?_)
    exact congrArg _ ((readCov_at _ L _ _).trans (congrArg _ (unit_emb (n := 256) (by omega) p _ r c)))
  | 2 =>
    refine (value_dot2 X9 _ j hi.v2 _ _ _ d c).trans (Finset.sum_congr rfl fun r _ => ?_)
    exact congrArg _ ((readCov_at _ L _ _).trans (congrArg _ (unit_emb (n := 384) (by omega) p _ r c)))
  | 3 =>
    refine (value_dot3 X9 _ j hi.v3 _ _ _ d c).trans (Finset.sum_congr rfl fun r _ => ?_)
    exact congrArg _ ((readCov_at _ L _ _).trans (congrArg _ (unit_emb (n := 512) (by omega) p _ r c)))
  | 4 =>
    refine (value_dot4 X9 _ j hi.v4 _ _ _ d c).trans (Finset.sum_congr rfl fun r _ => ?_)
    exact congrArg _ ((readCov_at _ L _ _).trans (congrArg _ (unit_emb (n := 640) (by omega) p _ r c)))

/-- Weights `w` over the keys, as a weighted mean of values `v`. -/
def mean2 {n : Nat} (s v : Fin n → EReal) : EReal :=
  Ideal.div (∑ x, v x * Ideal.exp2 (s x - ⨆ y, s y)) (∑ x, Ideal.exp2 (s x - ⨆ y, s y))

/-- A pair's two outputs, for scores `s`. -/
theorem Pair_at (M13 : Memref sig .tc .vmem S2x640x256 .f32) (M14 : Memref sig .tc .vmem S2x640x256 .bf16) (i : grid0.Coords) (j : Fin 4) (hi : Offs i j)
    (X9 : Vec Ideal S640x640 .bf16) (qb : Fin 5) (p : Fin 2) (u : Fin 4 → Fin 10 → FVec Ideal S64x128 .f32) (y0 y1 : FVec Ideal S160x128 .bf16)
    (hp : Pair M13 M14 i X9 qb p u (2 * qb.val + 1) y0 y1) (s : Fin 4 → Nat → Fin 128 → EReal)
    (hu : ∀ h (kb : Fin 10), kb.val ≤ 2 * qb.val + 1 → ∀ r l, u h kb (ix2 r l) = s h (64 * kb.val + r.val) l) (e : Fin 2) (d : Fin 160) (l : Fin 128) :
    (if e = 0 then y0 else y1) (ix2 d l) = mean2 (fun x : Fin (64 * (2 * qb.val + 1 + 1)) => s ⟨2 * p.val + e.val, by omega⟩ x.val l)
      (fun x => X9 (ix2 ⟨160 * j.val + d.val, by omega⟩ ⟨x.val, by omega⟩)) := by
  obtain ⟨z0, z1, L, R, R', rfl, rfl, h1, h0⟩ := hp
  have eh : ∀ q, q < 4 → (Fin.ofNat 4 q).val = q := fun q hq => Nat.mod_eq_of_lt hq
  have H1 := Lane_at M13 _ _ _ z1 L R h1 (by omega) (s _) (hu _)
  have H0 := Lane_at M13 _ _ _ z0 R R' h0 (by omega) (s _) (hu _)
  have key : ∀ (e : Fin 2) (x : Fin (64 * (2 * qb.val + 1 + 1))), View.canon L (ix3 p ⟨x.val, by omega⟩ ⟨128 * e.val + l.val, by omega⟩)
      = Ideal.exp2 (s ⟨2 * p.val + e.val, by omega⟩ x.val l - ⨆ y : Fin (64 * (2 * qb.val + 1 + 1)), s ⟨2 * p.val + e.val, by omega⟩ y.val l) := fun e x => by
    have hx := x.isLt
    have hd : 64 * (x.val / 64) + x.val % 64 = x.val := by omega
    match e with
    | 0 =>
      have hq : (Fin.ofNat 4 (2 * p.val)) = (⟨2 * p.val + 0, by omega⟩ : Fin 4) := Fin.ext (eh _ (by omega))
      have g := H0.2.1 ⟨x.val / 64, by omega⟩ (by show x.val / 64 ≤ _; omega) ⟨x.val % 64, by omega⟩ l
      have g := (H1.2.2 (Fin.ofNat 4 (2 * p.val)) (fun hh => by have := congrArg Fin.val hh; rw [eh _ (by omega), eh _ (by omega)] at this; omega)
        ⟨x.val / 64, by omega⟩ (ix3 0 ⟨x.val % 64, by omega⟩ l : S1x64x128.Idx)).trans g
      have t := congrArg (View.canon L) (tile_emb p 0 ⟨x.val / 64, by omega⟩ ⟨x.val % 64, by omega⟩ l (Fin.ofNat 4 (2 * p.val)) (eh _ (by omega)))
      have t := t.symm.trans g
      simp only [hd] at t
      rw [hq] at t
      exact t
    | 1 =>
      have hq : (Fin.ofNat 4 (2 * p.val + 1)) = (⟨2 * p.val + 1, by omega⟩ : Fin 4) := Fin.ext (eh _ (by omega))
      have g := H1.2.1 ⟨x.val / 64, by omega⟩ (by show x.val / 64 ≤ _; omega) ⟨x.val % 64, by omega⟩ l
      have t := congrArg (View.canon L) (tile_emb p 1 ⟨x.val / 64, by omega⟩ ⟨x.val % 64, by omega⟩ l (Fin.ofNat 4 (2 * p.val + 1)) (eh _ (by omega)))
      have t := t.symm.trans g
      simp only [hd] at t
      rw [hq] at t
      exact t
  have num : ∀ (e : Fin 2) (z), (∀ l, z (ix2 0 l) = ∑ x : Fin (64 * (2 * qb.val + 1 + 1)), Ideal.exp2 (s ⟨2 * p.val + e.val, by omega⟩ x.val l
        - ⨆ y : Fin (64 * (2 * qb.val + 1 + 1)), s ⟨2 * p.val + e.val, by omega⟩ y.val l)) →
      ov e (oPr M14 i X9 qb p L) z (ix2 d l) = mean2 (fun x : Fin (64 * (2 * qb.val + 1 + 1)) => s ⟨2 * p.val + e.val, by omega⟩ x.val l)
      (fun x => X9 (ix2 ⟨160 * j.val + d.val, by omega⟩ ⟨x.val, by omega⟩)) := fun e z hz => by
    unfold ov mean2
    refine (quoV_at _ _ d l).trans (congrArg₂ Ideal.div ?_ (hz l))
    refine (slice160_at _ _ _ d l (by omega)).trans ((oPr_at M14 i j hi X9 qb p L d _).trans (Finset.sum_congr rfl fun x _ => ?_))
    exact congrArg (X9 (ix2 ⟨160 * j.val + d.val, by omega⟩ ⟨x.val, by omega⟩) * ·) (key e x)
  match e with
  | 0 =>
    refine num 0 z0 fun l => ?_
    have := H0.1 l
    rw [show (Fin.ofNat 4 (2 * p.val)) = (⟨2 * p.val + 0, by omega⟩ : Fin 4) from Fin.ext (eh _ (by omega))] at this
    exact this
  | 1 =>
    refine num 1 z1 fun l => ?_
    have := H1.1 l
    rw [show (Fin.ofNat 4 (2 * p.val + 1)) = (⟨2 * p.val + 1, by omega⟩ : Fin 4) from Fin.ext (eh _ (by omega))] at this
    exact this

end Cert.KernelIdeal.Model

end
-- ==== Proof.Scores.lean ====
/- The kernel's scores read at an index, and the codes and scales of the queries they are made of. -/
module
public import proofs.«01_k».proof.Proof.Pairs
@[expose] public section
set_option maxRecDepth 16384
noncomputable section
namespace Cert.KernelIdeal.Model
open Cert.KernelIdeal Cert.KernelIdeal.Gen Cert.KernelIdeal.Blocks Cert.Spec Idealize.ShloMosaic Idealize.ShloMosaic.TcCoe Idealize.SL.Sem

/-- Among `n` pieces stored one after the other, a piece's place no other piece touches holds that piece. -/
theorem canon_upto {S : Shape} {e : EltTy} (pc : Nat → View.Piece (Elt Ideal) S e) (L : Nat → Pcs S e) (hs : ∀ m, L (m + 1) = pc m :: L m) (n k : Nat)
    (x : (pc k).1.shape.Idx) (y : S.Idx) (v : Elt Ideal e) (hy : (pc k).1.emb x = y) (hv : (pc k).2 x = v) (hd : ∀ k', k' < n → y ∈ (pc k').1.set → k' = k) :
    ∀ m, m ≤ n → k < m → View.canon (L m) y = v
  | 0, _, h => absurd h (Nat.not_lt_zero _)
  | m + 1, hm, h => by
    rw [hs]
    by_cases hk : m = k
    · subst hk
      rw [← hy, ← hv]
      exact View.canon_cons_emb (pc m).1 (pc m).2 _ x
    · exact (View.canon_cons_of_not_mem (pc m) (L m) (fun h' => hk (hd m (by omega) h'))).trans (canon_upto pc L hs n k x y v hy hv hd m (by omega) (by omega))

section
variable (X0 : Vec Ideal S1x640x640 .bf16)

/-- Head `h`'s 128 × 160 block of the loaded queries at query block `qb`. -/
def xh (qb : Fin 5) (h : Fin 4) (r : Fin 128) (d : Fin 160) : EReal := X0 (ix3 0 ⟨qb.val * 128 + r.val, by omega⟩ ⟨h.val * 160 + d.val, by omega⟩)

/-- Its scale. -/
def sh (qb : Fin 5) (h : Fin 4) : EReal := scl (amax (xh X0 qb h))

theorem hd_at (qb : Fin 5) (h : Fin 4) (d : Fin 160) (r : Fin 128) : hd X0 qb h (ix2 d r) = xh X0 qb h r d := by
  refine (head_at _ _ _ d r (by omega)).trans ((slab_at X0 (128 * qb.val) (by omega) _ _ _ _ _ _ r).trans ?_)
  unfold xh
  refine congrArg X0 (funext fun a => Fin.ext ?_)
  fin_cases a
  · rfl
  · show 128 * qb.val + r.val = qb.val * 128 + r.val
    omega
  · show 160 * h.val + d.val = h.val * 160 + d.val
    omega

theorem qs_at (qb : Fin 5) (h : Fin 4) (a b : Fin 1) : qs X0 qb h (ix2 a b) = sh X0 qb h :=
  scaleV_at _ (xh X0 qb h) (fun d r => hd_at X0 qb h d r) a b

theorem qc_at (qb : Fin 5) (h : Fin 4) (d : Fin 160) (r : Fin 128) : qc X0 qb h (ix2 d r) = code (xh X0 qb h r d) (sh X0 qb h) := by
  refine (codesV_at _ _ d r).trans ?_
  rw [hd_at, qs_at]

theorem r12_mem (qb : Fin 5) (h : Fin 4) (d : Fin 160) (l : Fin 128) (k : Nat) (hk : k < 20)
    (hm : (ix3 qb d ⟨128 * h.val + l.val, by omega⟩ : S5x160x512.Idx) ∈ (r12 (Fin.ofNat 5 (k / 4)) (Fin.ofNat 4 k)).set) : k = 4 * qb.val + h.val := by
  have hm := Rect.mem_set_unit.mp hm
  have h0 := hm 0; have h2 := hm 2
  change k / 4 % 5 ≤ qb.val ∧ qb.val < k / 4 % 5 + 1 at h0
  change 128 * (k % 4) ≤ 128 * h.val + l.val ∧ 128 * h.val + l.val < 128 * (k % 4) + 128 at h2
  omega

theorem canon_L12 (qb : Fin 5) (h : Fin 4) (d : Fin 160) (l : Fin 128) (m : Nat) (hm : 4 * qb.val + h.val < m) (hm' : m ≤ 20) :
    View.canon (L12 X0 m) (ix3 qb d ⟨128 * h.val + l.val, by omega⟩) = num (qc X0 qb h (ix2 d l)) := by
  have e1 : Fin.ofNat 5 ((4 * qb.val + h.val) / 4) = qb := Fin.ext (by show (4 * qb.val + h.val) / 4 % 5 = _; omega)
  have e2 : Fin.ofNat 4 (4 * qb.val + h.val) = h := Fin.ext (by show (4 * qb.val + h.val) % 4 = _; omega)
  refine canon_upto (fun m => pc12 X0 (Fin.ofNat 5 (m / 4)) (Fin.ofNat 4 m)) (L12 X0) (fun _ => rfl) 20 (4 * qb.val + h.val) (ix3 0 d l : S1x160x128.Idx)
    _ _ ?_ ?_ (fun k hk hh => r12_mem qb h d l k hk hh) m hm' hm
  · funext a
    refine Fin.ext ?_
    fin_cases a
    · show (4 * qb.val + h.val) / 4 % 5 + 1 * 0 = qb.val
      omega
    · exact (Nat.zero_add _).trans (Nat.one_mul _)
    · show 128 * ((4 * qb.val + h.val) % 4) + 1 * l.val = 128 * h.val + l.val
      omega
  · show shapeCast S1x160x128 (sitofp (F := Ideal) .bf16 (qc X0 (Fin.ofNat 5 ((4 * qb.val + h.val) / 4)) (Fin.ofNat 4 (4 * qb.val + h.val)))) _ (ix3 0 d l) = _
    rw [e1, e2]
    exact uncast160_at _ _ d l

theorem r4_mem (qb : Fin 5) (h : Fin 4) (d : Fin 160) (l : Fin 128) (k : Nat) (hk : k < 20)
    (hm : (ix4 0 h d ⟨128 * qb.val + l.val, by omega⟩ : S1x4x160x640.Idx) ∈ (r4 (Fin.ofNat 5 (k / 4)) (Fin.ofNat 4 k)).set) : k = 4 * qb.val + h.val := by
  have hm := Rect.mem_set_unit.mp hm
  have h0 := hm 1; have h2 := hm 3
  change k % 4 ≤ h.val ∧ h.val < k % 4 + 1 at h0
  change 128 * (k / 4 % 5) ≤ 128 * qb.val + l.val ∧ 128 * qb.val + l.val < 128 * (k / 4 % 5) + 128 at h2
  omega

theorem canon_L4 (qb : Fin 5) (h : Fin 4) (d : Fin 160) (l : Fin 128) :
    View.canon (L4 X0 20) (ix4 0 h d ⟨128 * qb.val + l.val, by omega⟩) = qc X0 qb h (ix2 d l) := by
  have e1 : Fin.ofNat 5 ((4 * qb.val + h.val) / 4) = qb := Fin.ext (by show (4 * qb.val + h.val) / 4 % 5 = _; omega)
  have e2 : Fin.ofNat 4 (4 * qb.val + h.val) = h := Fin.ext (by show (4 * qb.val + h.val) % 4 = _; omega)
  refine canon_upto (fun m => pc4 X0 (Fin.ofNat 5 (m / 4)) (Fin.ofNat 4 m)) (L4 X0) (fun _ => rfl) 20 (4 * qb.val + h.val) (ix4 0 0 d l : S1x1x160x128.Idx)
    _ _ ?_ ?_ (fun k hk hh => r4_mem qb h d l k hk hh) 20 le_rfl (by omega)
  · funext a
    refine Fin.ext ?_
    fin_cases a
    · rfl
    · show (4 * qb.val + h.val) % 4 + 1 * 0 = h.val
      omega
    · exact (Nat.zero_add _).trans (Nat.one_mul _)
    · show 128 * ((4 * qb.val + h.val) / 4 % 5) + 1 * l.val = 128 * qb.val + l.val
      omega
  · show shapeCast S1x1x160x128 (qc X0 (Fin.ofNat 5 ((4 * qb.val + h.val) / 4)) (Fin.ofNat 4 (4 * qb.val + h.val))) _ (ix4 0 0 d l) = _
    rw [e1, e2]
    exact uncast4_at _ _ d l

variable (M12 : Memref sig .tc .vmem S5x160x512 .bf16)

theorem qcB_at (qb : Fin 5) (p e : Fin 2) (d : Fin 160) (l : Fin 128) (h : Fin 4) (hh : h.val = 2 * p.val + e.val) :
    qcB X0 M12 qb p (ix2 d ⟨128 * e.val + l.val, by omega⟩) = num (qc X0 qb h (ix2 d l)) := by
  refine (cast160_at _ _ d _).trans ((readCov_at M12.view _ _ _).trans ?_)
  refine Eq.trans (congrArg (View.canon (L12 X0 (4 * qb.val + 4))) ?_) (canon_L12 X0 qb h d l (4 * qb.val + 4) (by omega) (by omega))
  funext a
  refine Fin.ext ?_
  fin_cases a
  · exact Nat.add_zero _
  · exact (Nat.zero_add _).trans (Nat.one_mul _)
  · show 256 * p.val + 1 * (128 * e.val + l.val) = 128 * h.val + l.val
    omega

variable (i : grid0.Coords) (j : Fin 4) (hi : Offs i j) (X10 : Vec Ideal S4x640x256 .bf16) (X11 : Vec Ideal S4x16x128 .f32)
include hi

theorem kr_at (kb : Fin 10) (l : Fin 128) : kr i X11 kb (ix2 0 l) = X11 (ix3 j ⟨kb.val, by omega⟩ l) := by
  match kb with
  | 0 => exact row_at X11 _ j 0 hi.r0 _ _ l
  | 1 => exact row_at X11 _ j 1 hi.r1 _ _ l
  | 2 => exact row_at X11 _ j 2 hi.r2 _ _ l
  | 3 => exact row_at X11 _ j 3 hi.r3 _ _ l
  | 4 => exact row_at X11 _ j 4 hi.r4 _ _ l
  | 5 => exact row_at X11 _ j 5 hi.r5 _ _ l
  | 6 => exact row_at X11 _ j 6 hi.r6 _ _ l
  | 7 => exact row_at X11 _ j 7 hi.r7 _ _ l
  | 8 => exact row_at X11 _ j 8 hi.r8 _ _ l
  | 9 => exact row_at X11 _ j 9 hi.r9 _ _ l

theorem sPr_at (qb : Fin 5) (p : Fin 2) (r : Fin (128 * (qb.val + 1))) (c : Fin 256) :
    sPr i X0 M12 X10 qb p (ix2 r c) = ∑ d : Fin 160, X10 (ix3 j ⟨r.val, by omega⟩ ⟨d.val, by omega⟩) * qcB X0 M12 qb p (ix2 d c) := by
  match qb with
  | 0 =>
    refine (score_mat0 _ (qcB X0 M12 0 p) r c).trans (Finset.sum_congr rfl fun d _ => ?_)
    exact congrArg (fun z : EReal => z * qcB X0 M12 0 p (ix2 d c)) (score_ld0 X10 _ j hi.k0 _ _ r d)
  | 1 =>
    refine (score_mat1 _ (qcB X0 M12 1 p) r c).trans (Finset.sum_congr rfl fun d _ => ?_)
    exact congrArg (fun z : EReal => z * qcB X0 M12 1 p (ix2 d c)) (score_ld1 X10 _ j hi.k1 _ _ r d)
  | 2 =>
    refine (score_mat2 _ (qcB X0 M12 2 p) r c).trans (Finset.sum_congr rfl fun d _ => ?_)
    exact congrArg (fun z : EReal => z * qcB X0 M12 2 p (ix2 d c)) (score_ld2 X10 _ j hi.k2 _ _ r d)
  | 3 =>
    refine (score_mat3 _ (qcB X0 M12 3 p) r c).trans (Finset.sum_congr rfl fun d _ => ?_)
    exact congrArg (fun z : EReal => z * qcB X0 M12 3 p (ix2 d c)) (score_ld3 X10 _ j hi.k3 _ _ r d)
  | 4 =>
    refine (score_mat4 _ (qcB X0 M12 4 p) r c).trans (Finset.sum_congr rfl fun d _ => ?_)
    exact congrArg (fun z : EReal => z * qcB X0 M12 4 p (ix2 d c)) (score_ld4 X10 _ j hi.k4 _ _ r d)

theorem sl_at (qb : Fin 5) (h : Fin 4) (kb : Fin 10) (hk : kb.val ≤ 2 * qb.val + 1) (r : Fin 64) (l : Fin 128) :
    sl i X0 M12 X10 qb h kb (ix2 r l)
      = ∑ d : Fin 160, X10 (ix3 j ⟨64 * kb.val + r.val, by omega⟩ ⟨d.val, by omega⟩) * num (code (xh X0 qb h l d) (sh X0 qb h)) := by
  have e2 : (Fin.ofNat 2 (h.val / 2)).val = h.val / 2 := Nat.mod_eq_of_lt (by omega)
  unfold sl
  rw [dif_pos (show kb.val < 2 * (qb.val + 1) by omega)]
  generalize Fin.ofNat 2 (h.val / 2) = p at e2
  have hs := slice_at (n := 128 * (qb.val + 1)) (sPr i X0 M12 X10 qb p) (64 * kb.val) (128 * (h.val % 2)) ⟨rfl, fun a => by
      fin_cases a <;> simp <;> omega⟩ r l (by omega) (by omega)
  refine Eq.trans hs ?_
  have hq := sPr_at X0 M12 i j hi X10 qb p ⟨64 * kb.val + r.val, by omega⟩ ⟨128 * (h.val % 2) + l.val, by omega⟩
  refine Eq.trans hq (Finset.sum_congr rfl fun d _ => ?_)
  refine congrArg (X10 (ix3 j ⟨64 * kb.val + r.val, by omega⟩ ⟨d.val, by omega⟩) * ·) ?_
  refine (qcB_at X0 M12 qb p ⟨h.val % 2, by omega⟩ d l h (by rw [e2]; show _ = 2 * (h.val / 2) + h.val % 2; omega)).trans ?_
  rw [qc_at]

/-- A head's score of key token `x` for query token `l` of query block `qb`: the product of the codes times the two scales, and `−∞` for a later
    key. `KC` are the key codes as numbers, `KS` the scales of the key blocks. -/
def scoreK (KC : Fin 640 → Fin 160 → EReal) (KS : Fin 10 → EReal) (qb : Fin 5) (h : Fin 4) (x : Nat) (l : Fin 128) : EReal :=
  if hx : x < 640 then
    if x ≤ 128 * qb.val + l.val then
      (∑ d : Fin 160, KC ⟨x, hx⟩ d * num (code (xh X0 qb h l d) (sh X0 qb h))) * (KS ⟨x / 64, by omega⟩ * sh X0 qb h)
    else ⊥
  else ⊥

omit hi in
theorem maskV_at (a : Fin 2) (h) (u : FVec Ideal S64x128 .f32) (r : Fin 64) (l : Fin 128) :
    maskV (extractStridedSlice S64x128 ![64 * a.val, 0] k0_pay278 h) u (ix2 r l) = if 64 * a.val + r.val ≤ l.val then u (ix2 r l) else ⊥ := by
  refine Eq.trans ?_ ((mask_at ⟨64 * a.val + r.val, by omega⟩ l (u (ix2 r l)) (Ideal.ofBits .f32 0xFF800000#32)).trans ?_)
  · unfold maskV
    show Scalar.select _ _ _ = _
    congr 1
    refine congrArg k0_pay278 (funext fun x => Fin.ext ?_)
    fin_cases x
    · rfl
    · exact Nat.zero_add _
  · rw [ofBits_neg_inf]

theorem tb_at (KC : Fin 640 → Fin 160 → EReal) (KS : Fin 10 → EReal)
    (hX10 : ∀ (x : Fin 640) (d : Fin 160), X10 (ix3 j x ⟨d.val, by omega⟩) = KC x d)
    (hX11 : ∀ (kb : Fin 10) (l : Fin 128), X11 (ix3 j ⟨kb.val, by omega⟩ l) = KS kb)
    (qb : Fin 5) (h : Fin 4) (kb : Fin 10) (hk : kb.val ≤ 2 * qb.val + 1) (r : Fin 64) (l : Fin 128) :
    tb i X0 M12 X10 X11 qb h kb (ix2 r l) = scoreK X0 KC KS qb h (64 * kb.val + r.val) l := by
  have hs : scoreV (sl i X0 M12 X10 qb h kb) (kr i X11 kb) (qs X0 qb h) (ix2 r l)
      = (∑ d : Fin 160, KC ⟨64 * kb.val + r.val, by omega⟩ d * num (code (xh X0 qb h l d) (sh X0 qb h))) * (KS kb * sh X0 qb h) := by
    refine (scoreV_at _ _ _ r l).trans ?_
    rw [sl_at X0 M12 i j hi X10 qb h kb hk, kr_at i j hi X11, qs_at, hX11]
    simp only [hX10]
  have hb : (⟨(64 * kb.val + r.val) / 64, by omega⟩ : Fin 10) = kb := Fin.ext (by show (64 * kb.val + r.val) / 64 = _; omega)
  unfold tb scoreK
  rw [dif_pos (show 64 * kb.val + r.val < 640 by omega), hb]
  rcases Nat.lt_trichotomy kb.val (2 * qb.val) with hlt | heq | hgt
  · rw [show Nat.beq kb.val (2 * qb.val) = false from by rw [← Bool.not_eq_true, Nat.beq_eq]; omega,
      show Nat.beq kb.val (2 * qb.val + 1) = false from by rw [← Bool.not_eq_true, Nat.beq_eq]; omega, if_pos (by omega)]
    exact hs
  · rw [show Nat.beq kb.val (2 * qb.val) = true from by rw [Nat.beq_eq]; exact heq]
    refine (maskV_at 0 _ _ r l).trans ?_
    rw [hs]
    refine if_congr ?_ rfl rfl
    show 64 * 0 + r.val ≤ l.val ↔ _
    omega
  · rw [show Nat.beq kb.val (2 * qb.val) = false from by rw [← Bool.not_eq_true, Nat.beq_eq]; omega,
      show Nat.beq kb.val (2 * qb.val + 1) = true from by rw [Nat.beq_eq]; omega]
    refine (maskV_at 1 _ _ r l).trans ?_
    rw [hs]
    refine if_congr ?_ rfl rfl
    show 64 * 1 + r.val ≤ l.val ↔ _
    omega

end

end Cert.KernelIdeal.Model

end
-- ==== Proof.Prep.lean ====
/- The preparation of the keys and values as functions of their blocks: the transposed slabs, the keys less their means, the scales
   of the blocks of 64 keys and the codes, and the pieces stored of them. -/
module
public import proofs.«01_k».proof.Proof.Scores
@[expose] public section
set_option maxRecDepth 16384
noncomputable section
namespace Cert.KernelIdeal.Prep
open Cert.KernelIdeal Cert.KernelIdeal.Gen Cert.KernelIdeal.Blocks Cert.KernelIdeal.Model Cert.Spec Idealize.ShloMosaic Idealize.ShloMosaic.TcCoe Idealize.SL.Sem

/-- The first lanes of 128, by number. -/
abbrev lanes : IVec S1x128 32 := iota .tc S1x128 32 [1] iota_S1x128_d1_w32
abbrev cols : IVec S1x10 32 := iota .tc S1x10 32 [1] iota_S1x10_d1_w32

/-- The greatest magnitude in each lane. -/
def laneMax (s : FVec Ideal S160x128 .f32) : FVec Ideal S1x128 .f32 :=
  shapeCast S1x128 (multiReduction .maximumf [0] S128 (absf s) 0xFF800000#32 reduces_S160x128_S128 (.inl rfl) rfl) shapeCasts_S128_S1x128

/-- The scale of the lanes of one half. -/
def halfScale (a : FVec Ideal S1x128 .f32) : FVec Ideal S1x1 .f32 :=
  have m : FVec Ideal S1x1 .f32 := shapeCast S1x1 (multiReduction .maximumf [1] S1 a 0xFF800000#32 reduces_S1x128_S1 (.inl rfl) rfl) shapeCasts_S1_S1x1
  select (cmpf .ogt m (broadcast S1x1 (Scalar.ofBits .f32 0x00000000#32))) (divf m (broadcast S1x1 (Scalar.ofBits .f32 0x42FE0000#32)))
    (broadcast S1x1 (Scalar.ofBits .f32 0x3F800000#32))

def scaleLo (s : FVec Ideal S160x128 .f32) : FVec Ideal S1x1 .f32 :=
  halfScale (select (cmpi .slt lanes (broadcast S1x128 64#32)) (laneMax s) (broadcast S1x128 (Scalar.ofBits .f32 0x00000000#32)))

def scaleHi (s : FVec Ideal S160x128 .f32) : FVec Ideal S1x1 .f32 :=
  halfScale (select (cmpi .slt lanes (broadcast S1x128 64#32)) (broadcast S1x128 (Scalar.ofBits .f32 0x00000000#32)) (laneMax s))

/-- The codes of two blocks of 64 keys side by side. -/
def codes2 (s : FVec Ideal S160x128 .f32) : IVec S160x128 8 := k0_pay20 lanes s (scaleLo s) (scaleHi s)

/-- A scale laid over a row, times the scale of the exponent. -/
def scaleRow (s : FVec Ideal S1x1 .f32) : FVec Ideal S1x1x128 .f32 := k0_pay23 s

/-- Two scales set into a row at lanes `2 t` and `2 t + 1`. -/
def setTwo (t : Nat) (s0 s1 : FVec Ideal S1x1 .f32) (w : FVec Ideal S1x10 .f32) : FVec Ideal S1x10 .f32 :=
  select (cmpi .eq cols (broadcast S1x10 (BitVec.ofNat 32 (2 * t)))) (broadcastTo S1x10 (shapeCast S1x1 s0 shapeCasts_S1x1_S1x1) broadcasts_S1x1_S1x10)
    (select (cmpi .eq cols (broadcast S1x10 (BitVec.ofNat 32 (2 * t + 1)))) (broadcastTo S1x10 (shapeCast S1x1 s1 shapeCasts_S1x1_S1x1) broadcasts_S1x1_S1x10) w)

section
variable (X : Vec Ideal S1x640x640 .bf16)

/-- The place of a slab of 128 lanes in the transposed block. -/
def r8 (c : Fin 5) : Rect S640x640 :=
  Rect.unit (s := S640x640) ![128 * c.val, 0] S128x640.size (fun a => by have := c.isLt; fin_cases a <;> simp <;> omega)

def pc8 (c : Fin 5) : View.Piece (Elt Ideal) S640x640 .bf16 :=
  ⟨r8 c, shapeCast S128x640 (transpose S128x640 [1, 0] (shapeCast S640x128
    (View.ld X (Rect.unit (s := S1x640x640) ![0, 0, 128 * c.val] S1x640x128.size (fun a => by have := c.isLt; fin_cases a <;> simp <;> omega)))
    shapeCasts_S1x640x128_S640x128) transposes_S640x128_p1_0_S128x640) shapeCasts_S128x640_S128x640⟩

/-- The block transposed, slab by slab. -/
def L8 : Nat → Pcs S640x640 .bf16
  | 0 => []
  | n + 1 => pc8 X (Fin.ofNat 5 n) :: L8 n

variable (M8 : Memref sig .tc .vmem S640x640 .bf16)

/-- The mean over the tokens of each lane of key head `j`. -/
def mean (j : Fin 4) : FVec Ideal S160x1 .f32 :=
  k0_pay14 (M8.view.readCov (L8 X 5) (Rect.unit (s := S640x640) ![160 * j.val, 0] S160x640.size (fun a => by have := j.isLt; fin_cases a <;> simp <;> omega)).toLoadRect)

/-- The keys of head `j` at tokens `128 t …`, less their means. -/
def sm (j : Fin 4) (t : Fin 5) : FVec Ideal S160x128 .f32 :=
  subf (extf .f32 (M8.view.readCov (L8 X 5) (Rect.unit (s := S640x640) ![160 * j.val, 128 * t.val] S160x128.size (fun a => by
    have := j.isLt; have := t.isLt; fin_cases a <;> simp <;> omega)).toLoadRect) bitsLt_bf16_f32) (broadcastTo S160x128 (mean X M8 j) broadcasts_S160x1_S160x128)

/-- The scales of a key head, set two by two. -/
def rowTo (j : Fin 4) : Nat → FVec Ideal S1x10 .f32
  | 0 => k0_pay15
  | n + 1 => setTwo n (scaleLo (sm X M8 j (Fin.ofNat 5 n))) (scaleHi (sm X M8 j (Fin.ofNat 5 n))) (rowTo j n)

def r6 (j : Fin 4) (t : Fin 5) : Rect S1x4x160x640 :=
  Rect.unit (s := S1x4x160x640) ![0, j.val, 0, 128 * t.val] S1x1x160x128.size (fun a => by have := j.isLt; have := t.isLt; fin_cases a <;> simp <;> omega)

def pc6 (j : Fin 4) (t : Fin 5) : View.Piece (Elt Ideal) S1x4x160x640 .i8 :=
  ⟨r6 j t, shapeCast S1x1x160x128 (codes2 (sm X M8 j t)) shapeCasts_S160x128_S1x1x160x128⟩

/-- The codes of the keys stored as words. -/
def L6 : Nat → Pcs S1x4x160x640 .i8
  | 0 => []
  | n + 1 => pc6 X M8 (Fin.ofNat 4 (n / 5)) (Fin.ofNat 5 n) :: L6 n

def r10 (j : Fin 4) (t : Fin 5) : Rect S4x640x256 :=
  Rect.unit (s := S4x640x256) ![j.val, 128 * t.val, 0] S1x128x160.size (fun a => by have := j.isLt; have := t.isLt; fin_cases a <;> simp <;> omega)

def pc10 (j : Fin 4) (t : Fin 5) : View.Piece (Elt Ideal) S4x640x256 .bf16 :=
  ⟨r10 j t, shapeCast S1x128x160 (transpose S128x160 [1, 0] (sitofp (F := Ideal) .bf16 (codes2 (sm X M8 j t))) transposes_S160x128_p1_0_S128x160) shapeCasts_S128x160_S1x128x160⟩

/-- The codes of the keys stored as numbers. -/
def L10 : Nat → Pcs S4x640x256 .bf16
  | 0 => []
  | n + 1 => pc10 X M8 (Fin.ofNat 4 (n / 5)) (Fin.ofNat 5 n) :: L10 n

def r11 (j : Fin 4) (kb : Fin 10) : Rect S4x16x128 :=
  Rect.unit (s := S4x16x128) ![j.val, kb.val, 0] S1x1x128.size (fun a => by have := j.isLt; have := kb.isLt; fin_cases a <;> simp <;> omega)

def pc11 (j : Fin 4) (t : Fin 5) (e : Fin 2) : View.Piece (Elt Ideal) S4x16x128 .f32 :=
  ⟨r11 j ⟨2 * t.val + e.val, by omega⟩, scaleRow (match e with | 0 => scaleLo (sm X M8 j t) | 1 => scaleHi (sm X M8 j t))⟩

/-- The scale rows of the keys. -/
def L11 : Nat → Pcs S4x16x128 .f32
  | 0 => []
  | n + 1 => pc11 X M8 (Fin.ofNat 4 (n / 10)) (Fin.ofNat 5 (n / 2)) (Fin.ofNat 2 n) :: L11 n

variable (i : grid0.Coords) (hb : ∀ j : Fin 4, ∀ a, k0_off1 i (BitVec.ofNat 32 j.val) a + S1x1x10.size a ≤ S1x8x10.size a)

def pc7 (j : Fin 4) : View.Piece (Elt Ideal) S1x8x10 .f32 :=
  ⟨Rect.unit (s := S1x8x10) (k0_off1 i (BitVec.ofNat 32 j.val)) S1x1x10.size (hb j), shapeCast S1x1x10 (rowTo X M8 j 5) shapeCasts_S1x10_S1x1x10⟩

/-- The rows of scales given back. -/
def L7 : Nat → Pcs S1x8x10 .f32
  | 0 => []
  | n + 1 => pc7 X M8 i hb (Fin.ofNat 4 n) :: L7 n

end

end Cert.KernelIdeal.Prep

end
-- ==== Proof.PrepAt.lean ====
/- The prepared keys and values read at an index. -/
module
public import proofs.«01_k».proof.Proof.Prep
@[expose] public section
set_option maxRecDepth 16384
noncomputable section
namespace Cert.KernelIdeal.Prep
open Cert.KernelIdeal Cert.KernelIdeal.Gen Cert.KernelIdeal.Blocks Cert.KernelIdeal.Model Cert.Spec Idealize.ShloMosaic Idealize.ShloMosaic.TcCoe Idealize.SL.Sem

theorem trans8_at (w : Vec Ideal S1x640x128 .bf16) (a : Fin 128) (s : Fin 640) :
    shapeCast S128x640 (transpose S128x640 [1, 0] (shapeCast S640x128 w shapeCasts_S1x640x128_S640x128) transposes_S640x128_p1_0_S128x640) shapeCasts_S128x640_S128x640 (ix2 a s)
      = w (ix3 0 s a) := by
  pointwise

/-- The loaded slab of 128 lanes. -/
def ld8 (X : Vec Ideal S1x640x640 .bf16) (c : Fin 5) : Vec Ideal S1x640x128 .bf16 :=
  View.ld X (Rect.unit (s := S1x640x640) ![0, 0, 128 * c.val] S1x640x128.size (fun a => by have := c.isLt; fin_cases a <;> simp <;> omega))

/-- An element under a rectangle is in the rectangle. -/
theorem rect_emb_mem {s : Shape} (r : Rect s) (x : r.shape.Idx) : r.emb x ∈ r.set :=
  (LoadRect.mem_set _).mpr fun a => ⟨(x a).val, (x a).isLt, rfl⟩

/-- The stored slabs are the block transposed. -/
theorem canon_L8 (X : Vec Ideal S1x640x640 .bf16) (c s : Fin 640) : View.canon (L8 X 5) (ix2 c s) = X (ix3 0 s c) := by
  have hc := c.isLt
  refine canon_upto (fun m => pc8 X (Fin.ofNat 5 m)) (L8 X) (fun _ => rfl) 5 (c.val / 128) (ix2 ⟨c.val % 128, by omega⟩ s : S128x640.Idx) _ _ ?_ ?_ ?_ 5 (le_refl _) (by omega)
  · funext a
    refine Fin.ext ?_
    fin_cases a
    · show 128 * (c.val / 128 % 5) + 1 * (c.val % 128) = c.val
      omega
    · exact (Nat.zero_add _).trans (Nat.one_mul _)
  · refine (trans8_at (ld8 X (Fin.ofNat 5 (c.val / 128))) ⟨c.val % 128, by omega⟩ s).trans ?_
    refine congrArg X (funext fun a => Fin.ext ?_)
    fin_cases a
    · rfl
    · exact (Nat.zero_add _).trans (Nat.one_mul _)
    · show 128 * (c.val / 128 % 5) + 1 * (c.val % 128) = c.val
      omega
  · intro k hk hm
    change (ix2 c s : S640x640.Idx) ∈ (r8 (Fin.ofNat 5 k)).set at hm
    have hm := Rect.mem_set_unit.mp hm
    have h0 := hm 0
    change 128 * (k % 5) ≤ c.val ∧ c.val < 128 * (k % 5) + 128 at h0
    omega

theorem sub_at (u : Vec Ideal S160x128 .bf16) (m : FVec Ideal S160x1 .f32) (d : Fin 160) (l : Fin 128) :
    subf (extf .f32 u bitsLt_bf16_f32) (broadcastTo S160x128 m broadcasts_S160x1_S160x128) (ix2 d l) = u (ix2 d l) - m (ix2 d 0) := by
  pointwise

/-- The f32 pattern of 640 is the number 640. -/
theorem ofBits_640 : Ideal.ofBits .f32 0x44200000#32 = ((640 : ℝ) : EReal) := by
  simp [Ideal.ofBits, Ideal.ieee, -EReal.coe_mul]; norm_num

theorem div_640 (x : EReal) : Ideal.div x (Ideal.ofBits .f32 0x44200000#32) = x * ((1 / 640 : ℝ) : EReal) := by
  rw [ofBits_640]
  unfold Ideal.div
  rw [if_neg (by norm_num [← EReal.coe_zero, EReal.coe_eq_coe_iff]), ← EReal.coe_inv]
  norm_num

theorem mean_at' (w : Vec Ideal S160x640 .bf16) (d : Fin 160) (a : Fin 1) :
    k0_pay14 (F := Ideal) w (ix2 d a) = (∑ s : Fin 640, w (ix2 d s)) * ((1 / 640 : ℝ) : EReal) := by
  pointwise [k0_pay14]
  rfl

section
variable (X : Vec Ideal S1x640x640 .bf16) (M8 : Memref sig .tc .vmem S640x640 .bf16)

/-- Key head `j`'s number at token `r` of block `q`, less its mean over the tokens. -/
def kx (j : Fin 4) (q : Fin 10) (r : Fin 64) (d : Fin 160) : EReal :=
  X (ix3 0 ⟨q.val * 64 + r.val, by omega⟩ ⟨160 * j.val + d.val, by omega⟩)
    - Ideal.div (∑ s : Fin 640, X (ix3 0 s ⟨160 * j.val + d.val, by omega⟩)) (Ideal.ofBits .f32 0x44200000#32)

/-- The scale of block `q`. -/
def kss (j : Fin 4) (q : Fin 10) : EReal := scl (amax (kx X j q))

theorem mean_at (j : Fin 4) (d : Fin 160) (a : Fin 1) :
    mean X M8 j (ix2 d a) = Ideal.div (∑ s : Fin 640, X (ix3 0 s ⟨160 * j.val + d.val, by omega⟩)) (Ideal.ofBits .f32 0x44200000#32) := by
  refine (mean_at' _ d a).trans ?_
  rw [div_640]
  refine congrArg (fun z : EReal => z * ((1 / 640 : ℝ) : EReal)) (Finset.sum_congr rfl fun s _ => ?_)
  refine (readCov_at M8.view (L8 X 5) (Rect.unit (s := S640x640) ![160 * j.val, 0] S160x640.size _) (ix2 d s : S160x640.Idx)).trans ?_
  refine Eq.trans (congrArg (View.canon (L8 X 5)) ?_) (canon_L8 X ⟨160 * j.val + d.val, by omega⟩ s)
  funext a
  refine Fin.ext ?_
  fin_cases a
  · show 160 * j.val + 1 * d.val = 160 * j.val + d.val
    omega
  · exact (Nat.zero_add _).trans (Nat.one_mul _)

theorem sm_at (j : Fin 4) (t : Fin 5) (d : Fin 160) (l : Fin 128) (q : Fin 10) (r : Fin 64) (h : 128 * t.val + l.val = q.val * 64 + r.val) :
    sm X M8 j t (ix2 d l) = kx X j q r d := by
  refine (sub_at _ _ d l).trans ?_
  unfold kx
  rw [mean_at]
  refine congrArg (fun z : EReal => z - Ideal.div (∑ s : Fin 640, X (ix3 0 s ⟨160 * j.val + d.val, by omega⟩)) (Ideal.ofBits .f32 0x44200000#32)) ?_
  refine (readCov_at M8.view (L8 X 5) (Rect.unit (s := S640x640) ![160 * j.val, 128 * t.val] S160x128.size _) (ix2 d l : S160x128.Idx)).trans ?_
  refine Eq.trans (congrArg (View.canon (L8 X 5)) ?_) (canon_L8 X ⟨160 * j.val + d.val, by omega⟩ ⟨q.val * 64 + r.val, by omega⟩)
  funext a
  refine Fin.ext ?_
  fin_cases a
  · show 160 * j.val + 1 * d.val = 160 * j.val + d.val
    omega
  · show 128 * t.val + 1 * l.val = q.val * 64 + r.val
    omega

end

theorem laneMax_at (s : FVec Ideal S160x128 .f32) (a : Fin 1) (l : Fin 128) :
    laneMax s (ix2 a l) = ⨆ d : Fin 160, max (s (ix2 d l)) (-(s (ix2 d l))) := by
  pointwise [laneMax]
  rw [ofBits_neg_inf, fold_max_eq]
  rfl

theorem halfScale_at (u : FVec Ideal S1x128 .f32) (a b : Fin 1) : halfScale u (ix2 a b) = scl (⨆ l : Fin 128, u (ix2 0 l)) := by
  pointwise [halfScale]
  have e : Finset.univ.fold max (Ideal.ofBits .f32 0xFF800000#32) (fun x : Fin 128 => (u (ix2 0 x) : EReal)) = ⨆ l : Fin 128, u (ix2 0 l) := by
    rw [ofBits_neg_inf, fold_max_eq]
  exact congrArg (fun a : EReal => if 0 < a then Ideal.div a (Ideal.ofBits .f32 0x42FE0000#32) else 1) e

theorem lane_lt : ∀ l : Fin 128, Scalar.cmpi .slt (BitVec.ofNat 32 l.val) 64#32 = if l.val < 64 then 1#1 else 0#1 := by decide +kernel

theorem lane_at (u v : FVec Ideal S1x128 .f32) (a : Fin 1) (l : Fin 128) :
    select (cmpi .slt lanes (broadcast S1x128 64#32)) u v (ix2 a l) = if l.val < 64 then u (ix2 a l) else v (ix2 a l) := by
  pointwise
  show Scalar.select (Scalar.cmpi .slt (BitVec.ofNat 32 l.val) 64#32) _ _ = _
  rw [lane_lt]
  split_ifs <;> rfl

theorem mag_nonneg (x : EReal) : 0 ≤ max x (-x) := by
  rcases le_total 0 x with h | h
  · exact le_max_of_le_left h
  · exact le_max_of_le_right (EReal.neg_nonneg.mpr h)

theorem amax_eq_lo (A : Fin 128 → EReal) (f : Fin 64 → Fin 160 → EReal) (hA : ∀ (l : Fin 128) (h : l.val < 64), A l = ⨆ d, max (f ⟨l.val, h⟩ d) (-(f ⟨l.val, h⟩ d))) :
    (⨆ l : Fin 128, if l.val < 64 then A l else (0 : EReal)) = amax f := by
  unfold amax
  refine le_antisymm (iSup_le fun l => ?_) (iSup_le fun r => ?_)
  · split_ifs with h
    · rw [hA l h]
      exact le_iSup (fun r => ⨆ d, max (f r d) (-(f r d))) ⟨l.val, h⟩
    · exact le_iSup_of_le 0 (le_iSup_of_le 0 (mag_nonneg _))
  · refine le_iSup_of_le ⟨r.val, by omega⟩ ?_
    rw [if_pos r.isLt, hA _ r.isLt]

theorem amax_eq_hi (A : Fin 128 → EReal) (f : Fin 64 → Fin 160 → EReal)
    (hA : ∀ (l : Fin 128) (h : ¬ l.val < 64), A l = ⨆ d, max (f ⟨l.val - 64, by omega⟩ d) (-(f ⟨l.val - 64, by omega⟩ d))) :
    (⨆ l : Fin 128, if l.val < 64 then (0 : EReal) else A l) = amax f := by
  unfold amax
  refine le_antisymm (iSup_le fun l => ?_) (iSup_le fun r => ?_)
  · split_ifs with h
    · exact le_iSup_of_le 0 (le_iSup_of_le 0 (mag_nonneg _))
    · rw [hA l h]
      exact le_iSup (fun r => ⨆ d, max (f r d) (-(f r d))) ⟨l.val - 64, by omega⟩
  · refine le_iSup_of_le ⟨64 + r.val, by omega⟩ ?_
    have h : ¬ 64 + r.val < 64 := by omega
    rw [if_neg h, hA ⟨64 + r.val, by omega⟩ h]
    have e : (⟨64 + r.val - 64, by omega⟩ : Fin 64) = r := Fin.ext (by show 64 + r.val - 64 = r.val; omega)
    rw [e]

section
variable (X : Vec Ideal S1x640x640 .bf16) (M8 : Memref sig .tc .vmem S640x640 .bf16)

theorem scaleLo_at (j : Fin 4) (t : Fin 5) (a b : Fin 1) : scaleLo (sm X M8 j t) (ix2 a b) = kss X j ⟨2 * t.val, by omega⟩ := by
  refine (halfScale_at _ a b).trans (congrArg scl ?_)
  refine Eq.trans (iSup_congr fun l => lane_at _ _ 0 l) ?_
  refine (iSup_congr fun l : Fin 128 => ?_).trans (amax_eq_lo (fun l => laneMax (sm X M8 j t) (ix2 0 l)) (kx X j ⟨2 * t.val, by omega⟩) fun l h => ?_)
  · split_ifs
    · rfl
    · show Ideal.ofBits .f32 0x00000000#32 = 0
      simp [Ideal.ofBits, Ideal.ieee]
  · refine (laneMax_at _ 0 l).trans (iSup_congr fun d => ?_)
    rw [sm_at X M8 j t d l ⟨2 * t.val, by omega⟩ ⟨l.val, h⟩ (by show 128 * t.val + l.val = 2 * t.val * 64 + l.val; omega)]

theorem scaleHi_at (j : Fin 4) (t : Fin 5) (a b : Fin 1) : scaleHi (sm X M8 j t) (ix2 a b) = kss X j ⟨2 * t.val + 1, by omega⟩ := by
  refine (halfScale_at _ a b).trans (congrArg scl ?_)
  refine Eq.trans (iSup_congr fun l => lane_at _ _ 0 l) ?_
  refine (iSup_congr fun l : Fin 128 => ?_).trans (amax_eq_hi (fun l => laneMax (sm X M8 j t) (ix2 0 l)) (kx X j ⟨2 * t.val + 1, by omega⟩) fun l h => ?_)
  · split_ifs
    · show Ideal.ofBits .f32 0x00000000#32 = 0
      simp [Ideal.ofBits, Ideal.ieee]
    · rfl
  · refine (laneMax_at _ 0 l).trans (iSup_congr fun d => ?_)
    rw [sm_at X M8 j t d l ⟨2 * t.val + 1, by omega⟩ ⟨l.val - 64, by omega⟩ (by show 128 * t.val + l.val = (2 * t.val + 1) * 64 + (l.val - 64); omega)]

theorem codes2_at' (s : FVec Ideal S160x128 .f32) (d : Fin 160) (l : Fin 128) :
    codes2 s (ix2 d l) = code (s (ix2 d l)) (if l.val < 64 then scaleLo s (ix2 0 0) else scaleHi s (ix2 0 0)) := by
  pointwise [codes2, k0_pay20, code]
  rw [min_comm, max_comm]
  show _ = Ideal.fptosi 8 (min (max (Ideal.liftRound Ideal.roundHalfEven (Ideal.div (s (ix2 d l)) _)) _) _)
  have e : ∀ x y : EReal, Scalar.select (Scalar.cmpi .slt (BitVec.ofNat 32 l.val) 64#32) x y = if l.val < 64 then x else y := by
    intro x y
    rw [lane_lt]
    split_ifs <;> rfl
  rw [← e]
  rfl

/-- The codes of the keys. -/
theorem codes2_at (j : Fin 4) (t : Fin 5) (d : Fin 160) (l : Fin 128) (q : Fin 10) (r : Fin 64) (h : 128 * t.val + l.val = q.val * 64 + r.val) :
    codes2 (sm X M8 j t) (ix2 d l) = code (kx X j q r d) (kss X j q) := by
  refine (codes2_at' _ d l).trans ?_
  rw [sm_at X M8 j t d l q r h, scaleLo_at, scaleHi_at]
  refine congrArg (code _) ?_
  split_ifs with hl
  · exact congrArg (kss X j) (Fin.ext (by show 2 * t.val = q.val; omega))
  · exact congrArg (kss X j) (Fin.ext (by show 2 * t.val + 1 = q.val; omega))

theorem col_eq : ∀ (n : Fin 10) (kb : Fin 10), Scalar.cmpi .eq (BitVec.ofNat 32 kb.val) (BitVec.ofNat 32 n.val) = if kb.val = n.val then 1#1 else 0#1 := by decide +kernel

theorem setTwo_at (n : Nat) (hn : n < 5) (s0 s1 : FVec Ideal S1x1 .f32) (w : FVec Ideal S1x10 .f32) (a : Fin 1) (kb : Fin 10) :
    setTwo n s0 s1 w (ix2 a kb) = if kb.val = 2 * n then s0 (ix2 0 0) else if kb.val = 2 * n + 1 then s1 (ix2 0 0) else w (ix2 a kb) := by
  pointwise [setTwo]
  have e0 := col_eq ⟨2 * n, by omega⟩ kb
  have e1 := col_eq ⟨2 * n + 1, by omega⟩ kb
  show Scalar.select (Scalar.cmpi .eq (BitVec.ofNat 32 kb.val) (BitVec.ofNat 32 (2 * n))) _ (Scalar.select (Scalar.cmpi .eq (BitVec.ofNat 32 kb.val) (BitVec.ofNat 32 (2 * n + 1))) _ _) = _
  rw [e0, e1]
  split_ifs <;> rfl

theorem rowTo_at (j : Fin 4) (a : Fin 1) (kb : Fin 10) : ∀ n, n ≤ 5 → kb.val < 2 * n → rowTo X M8 j n (ix2 a kb) = kss X j kb
  | 0, _, h => absurd h (by omega)
  | n + 1, hn, h => by
    refine (setTwo_at n (by omega) _ _ _ a kb).trans ?_
    have e : (Fin.ofNat 5 n).val = n := Nat.mod_eq_of_lt (by omega)
    split_ifs with h0 h1
    · refine (scaleLo_at X M8 j _ 0 0).trans (congrArg (kss X j) (Fin.ext ?_))
      show 2 * (Fin.ofNat 5 n).val = kb.val
      omega
    · refine (scaleHi_at X M8 j _ 0 0).trans (congrArg (kss X j) (Fin.ext ?_))
      show 2 * (Fin.ofNat 5 n).val + 1 = kb.val
      omega
    · exact rowTo_at j a kb n (by omega) (by omega)

theorem scaleRow_at (s : FVec Ideal S1x1 .f32) (a b : Fin 1) (l : Fin 128) :
    scaleRow s (ix3 a b l) = s (ix2 0 0) * (((Real.sqrt 160)⁻¹ * (Real.log 2)⁻¹ : ℝ) : EReal) := by
  pointwise [scaleRow, k0_pay23]
  rfl

theorem uncast4 (w : IVec S160x128 8) (a b : Fin 1) (d : Fin 160) (l : Fin 128) :
    shapeCast S1x1x160x128 w shapeCasts_S160x128_S1x1x160x128 (ix4 a b d l) = w (ix2 d l) := by
  pointwise

theorem num10_at (w : IVec S160x128 8) (a : Fin 1) (l : Fin 128) (d : Fin 160) :
    shapeCast S1x128x160 (transpose S128x160 [1, 0] (sitofp (F := Ideal) .bf16 w) transposes_S160x128_p1_0_S128x160) shapeCasts_S128x160_S1x128x160 (ix3 a l d)
      = num (w (ix2 d l)) := by
  pointwise
  rfl

theorem uncast7 (w : FVec Ideal S1x10 .f32) (a b : Fin 1) (kb : Fin 10) :
    shapeCast S1x1x10 w shapeCasts_S1x10_S1x1x10 (ix3 a b kb) = w (ix2 0 kb) := by
  pointwise

/-- The codes given back. -/
theorem canon_L6 (j : Fin 4) (d : Fin 160) (s : Fin 640) :
    View.canon (L6 X M8 20) (ix4 0 j d s) = code (kx X j ⟨s.val / 64, by omega⟩ ⟨s.val % 64, by omega⟩ d) (kss X j ⟨s.val / 64, by omega⟩) := by
  have hs := s.isLt
  have e1 : Fin.ofNat 4 ((5 * j.val + s.val / 128) / 5) = j := Fin.ext (by show (5 * j.val + s.val / 128) / 5 % 4 = _; omega)
  have e2 : (Fin.ofNat 5 (5 * j.val + s.val / 128)) = ⟨s.val / 128, by omega⟩ := Fin.ext (by show (5 * j.val + s.val / 128) % 5 = s.val / 128; omega)
  refine canon_upto (fun n => pc6 X M8 (Fin.ofNat 4 (n / 5)) (Fin.ofNat 5 n)) (L6 X M8) (fun _ => rfl) 20 (5 * j.val + s.val / 128)
    (ix4 0 0 d ⟨s.val % 128, by omega⟩ : S1x1x160x128.Idx) _ _ ?_ ?_ ?_ 20 (le_refl _) (by omega)
  · funext a
    refine Fin.ext ?_
    fin_cases a
    · rfl
    · show (5 * j.val + s.val / 128) / 5 % 4 + 1 * 0 = j.val
      omega
    · exact (Nat.zero_add _).trans (Nat.one_mul _)
    · show 128 * ((5 * j.val + s.val / 128) % 5) + 1 * (s.val % 128) = s.val
      omega
  · show shapeCast S1x1x160x128 (codes2 (sm X M8 (Fin.ofNat 4 ((5 * j.val + s.val / 128) / 5)) (Fin.ofNat 5 (5 * j.val + s.val / 128)))) _ _ = _
    rw [e1, e2]
    refine (uncast4 _ 0 0 d _).trans (codes2_at X M8 j _ d _ _ _ ?_)
    show 128 * (s.val / 128) + s.val % 128 = s.val / 64 * 64 + s.val % 64
    omega
  · intro k hk hm
    change (ix4 0 j d s : S1x4x160x640.Idx) ∈ (r6 (Fin.ofNat 4 (k / 5)) (Fin.ofNat 5 k)).set at hm
    have hm := Rect.mem_set_unit.mp hm
    have h0 := hm 1; have h1 := hm 3
    change k / 5 % 4 ≤ j.val ∧ j.val < k / 5 % 4 + 1 at h0
    change 128 * (k % 5) ≤ s.val ∧ s.val < 128 * (k % 5) + 128 at h1
    omega

/-- The codes as numbers. -/
theorem canon_L10 (j : Fin 4) (s : Fin 640) (d : Fin 160) :
    (∃ p ∈ L10 X M8 20, (ix3 j s ⟨d.val, by omega⟩ : S4x640x256.Idx) ∈ p.1.set) ∧
    View.canon (L10 X M8 20) (ix3 j s ⟨d.val, by omega⟩) = num (code (kx X j ⟨s.val / 64, by omega⟩ ⟨s.val % 64, by omega⟩ d) (kss X j ⟨s.val / 64, by omega⟩)) := by
  have hs := s.isLt
  have e1 : Fin.ofNat 4 ((5 * j.val + s.val / 128) / 5) = j := Fin.ext (by show (5 * j.val + s.val / 128) / 5 % 4 = _; omega)
  have e2 : (Fin.ofNat 5 (5 * j.val + s.val / 128)) = ⟨s.val / 128, by omega⟩ := Fin.ext (by show (5 * j.val + s.val / 128) % 5 = s.val / 128; omega)
  have hy : (pc10 X M8 (Fin.ofNat 4 ((5 * j.val + s.val / 128) / 5)) (Fin.ofNat 5 (5 * j.val + s.val / 128))).1.emb (ix3 0 ⟨s.val % 128, by omega⟩ d : S1x128x160.Idx)
      = (ix3 j s ⟨d.val, by omega⟩ : S4x640x256.Idx) := by
    funext a
    refine Fin.ext ?_
    fin_cases a
    · show (5 * j.val + s.val / 128) / 5 % 4 + 1 * 0 = j.val
      omega
    · show 128 * ((5 * j.val + s.val / 128) % 5) + 1 * (s.val % 128) = s.val
      omega
    · exact (Nat.zero_add _).trans (Nat.one_mul _)
  have hmem : ∀ m k, k < m → pc10 X M8 (Fin.ofNat 4 (k / 5)) (Fin.ofNat 5 k) ∈ L10 X M8 m := by
    intro m
    induction m with
    | zero => intro k h; omega
    | succ m ih =>
      intro k h
      rcases Nat.lt_succ_iff_lt_or_eq.mp h with h | h
      · exact List.mem_cons_of_mem _ (ih k h)
      · subst h; exact List.mem_cons_self
  refine ⟨⟨_, hmem 20 (5 * j.val + s.val / 128) (by omega), by rw [← hy]; exact rect_emb_mem _ _⟩, ?_⟩
  refine canon_upto (fun n => pc10 X M8 (Fin.ofNat 4 (n / 5)) (Fin.ofNat 5 n)) (L10 X M8) (fun _ => rfl) 20 (5 * j.val + s.val / 128)
    (ix3 0 ⟨s.val % 128, by omega⟩ d : S1x128x160.Idx) _ _ hy ?_ ?_ 20 (le_refl _) (by omega)
  · show shapeCast S1x128x160 (transpose S128x160 [1, 0] (sitofp (F := Ideal) .bf16 (codes2 (sm X M8 (Fin.ofNat 4 ((5 * j.val + s.val / 128) / 5)) (Fin.ofNat 5 (5 * j.val + s.val / 128))))) _) _ _ = _
    rw [e1, e2]
    refine (num10_at _ 0 _ d).trans (congrArg num (codes2_at X M8 j _ d _ _ _ ?_))
    show 128 * (s.val / 128) + s.val % 128 = s.val / 64 * 64 + s.val % 64
    omega
  · intro k hk hm
    change (ix3 j s ⟨d.val, by omega⟩ : S4x640x256.Idx) ∈ (r10 (Fin.ofNat 4 (k / 5)) (Fin.ofNat 5 k)).set at hm
    have hm := Rect.mem_set_unit.mp hm
    have h0 := hm 0; have h1 := hm 1
    change k / 5 % 4 ≤ j.val ∧ j.val < k / 5 % 4 + 1 at h0
    change 128 * (k % 5) ≤ s.val ∧ s.val < 128 * (k % 5) + 128 at h1
    omega

/-- The scale rows. -/
theorem canon_L11 (j : Fin 4) (kb : Fin 10) (l : Fin 128) :
    (∃ p ∈ L11 X M8 40, (ix3 j ⟨kb.val, by omega⟩ l : S4x16x128.Idx) ∈ p.1.set) ∧
    View.canon (L11 X M8 40) (ix3 j ⟨kb.val, by omega⟩ l) = kss X j kb * (((Real.sqrt 160)⁻¹ * (Real.log 2)⁻¹ : ℝ) : EReal) := by
  have e1 : Fin.ofNat 4 ((10 * j.val + kb.val) / 10) = j := Fin.ext (by show (10 * j.val + kb.val) / 10 % 4 = _; omega)
  have e2 : (Fin.ofNat 5 ((10 * j.val + kb.val) / 2)) = ⟨kb.val / 2, by omega⟩ := Fin.ext (by show (10 * j.val + kb.val) / 2 % 5 = kb.val / 2; omega)
  have e3 : (Fin.ofNat 2 (10 * j.val + kb.val)) = ⟨kb.val % 2, by omega⟩ := Fin.ext (by show (10 * j.val + kb.val) % 2 = kb.val % 2; omega)
  have hy : (pc11 X M8 (Fin.ofNat 4 ((10 * j.val + kb.val) / 10)) (Fin.ofNat 5 ((10 * j.val + kb.val) / 2)) (Fin.ofNat 2 (10 * j.val + kb.val))).1.emb (ix3 0 0 l : S1x1x128.Idx)
      = (ix3 j ⟨kb.val, by omega⟩ l : S4x16x128.Idx) := by
    funext a
    refine Fin.ext ?_
    fin_cases a
    · show (10 * j.val + kb.val) / 10 % 4 + 1 * 0 = j.val
      omega
    · show 2 * ((10 * j.val + kb.val) / 2 % 5) + (10 * j.val + kb.val) % 2 + 1 * 0 = kb.val
      omega
    · exact (Nat.zero_add _).trans (Nat.one_mul _)
  have hmem : ∀ m k, k < m → pc11 X M8 (Fin.ofNat 4 (k / 10)) (Fin.ofNat 5 (k / 2)) (Fin.ofNat 2 k) ∈ L11 X M8 m := by
    intro m
    induction m with
    | zero => intro k h; omega
    | succ m ih =>
      intro k h
      rcases Nat.lt_succ_iff_lt_or_eq.mp h with h | h
      · exact List.mem_cons_of_mem _ (ih k h)
      · subst h; exact List.mem_cons_self
  refine ⟨⟨_, hmem 40 (10 * j.val + kb.val) (by omega), by rw [← hy]; exact rect_emb_mem _ _⟩, ?_⟩
  refine canon_upto (fun n => pc11 X M8 (Fin.ofNat 4 (n / 10)) (Fin.ofNat 5 (n / 2)) (Fin.ofNat 2 n)) (L11 X M8) (fun _ => rfl) 40 (10 * j.val + kb.val)
    (ix3 0 0 l : S1x1x128.Idx) _ _ hy ?_ ?_ 40 (le_refl _) (by omega)
  · rw [e1, e2, e3]
    refine (scaleRow_at _ 0 0 l).trans (congrArg (fun z : EReal => z * (((Real.sqrt 160)⁻¹ * (Real.log 2)⁻¹ : ℝ) : EReal)) ?_)
    rcases (by omega : kb.val % 2 = 0 ∨ kb.val % 2 = 1) with h | h
    · have e : (⟨kb.val % 2, by omega⟩ : Fin 2) = 0 := Fin.ext h
      rw [e]
      exact (scaleLo_at X M8 j _ 0 0).trans (congrArg (kss X j) (Fin.ext (by show 2 * (kb.val / 2) = kb.val; omega)))
    · have e : (⟨kb.val % 2, by omega⟩ : Fin 2) = 1 := Fin.ext h
      rw [e]
      exact (scaleHi_at X M8 j _ 0 0).trans (congrArg (kss X j) (Fin.ext (by show 2 * (kb.val / 2) + 1 = kb.val; omega)))
  · intro k hk hm
    change (ix3 j ⟨kb.val, by omega⟩ l : S4x16x128.Idx) ∈ (r11 (Fin.ofNat 4 (k / 10)) ⟨2 * (Fin.ofNat 5 (k / 2)).val + (Fin.ofNat 2 k).val, by
      have := (Fin.ofNat 5 (k / 2)).isLt; have := (Fin.ofNat 2 k).isLt; omega⟩).set at hm
    have hm := Rect.mem_set_unit.mp hm
    have h0 := hm 0; have h1 := hm 1
    change k / 10 % 4 ≤ j.val ∧ j.val < k / 10 % 4 + 1 at h0
    change 2 * (k / 2 % 5) + k % 2 ≤ kb.val ∧ kb.val < 2 * (k / 2 % 5) + k % 2 + 1 at h1
    omega

end

end Cert.KernelIdeal.Prep

end
-- ==== Proof.PrepTie.lean ====
/- The preparation of the keys and values in its own names stores the model's pieces. -/
module
public import proofs.«01_k».proof.Proof.Prep
public import proofs.«01_k».proof.Proof.HeadRun
@[expose] public section
set_option maxRecDepth 16384
noncomputable section
namespace Cert.KernelIdeal.Prep
open Cert.KernelIdeal Cert.KernelIdeal.Gen Cert.KernelIdeal.Blocks Cert.KernelIdeal.Model Cert.Spec Idealize.ShloMosaic Idealize.ShloMosaic.TcCoe Idealize.SL.Sem

section Tie
variable (c : Dev nD) (i : grid0.Coords) (hc2 : k0_cond2 i = 1#1)
  (M1 M2 : Memref sig .tc .vmem S1x640x640 .bf16) (M8 : Memref sig .tc .vmem S640x640 .bf16) (f1 : Body.Bf (F := Ideal) c M1) (f2 : Body.Bf (F := Ideal) c M2)

theorem tie9 : Body.prepRun.sl.H9_5 c M2 f2 = L8 (M2.view.read (Elt Ideal) f2) 5 := rfl

set_option maxHeartbeats 4000000 in
theorem tie6 : (⟨Rect.unit (s := S1x4x160x640) ![0, 3, 0, 512] S1x1x160x128.size inb_S1x4x160x640_S1x1x160x128_0_3_0_512,
      k0_pay268 Body.prepRun.sl.v4532 (Body.prepRun.sl.v6125 c M1 M8 f1) (Body.prepRun.sl.v6140 c M1 M8 f1) (Body.prepRun.sl.v6146 c M1 M8 f1)⟩ :: Body.prepRun.sl.H6_19 c M1 M8 f1 : Pcs S1x4x160x640 .i8)
    = L6 (M1.view.read (Elt Ideal) f1) M8 20 := rfl

set_option maxHeartbeats 4000000 in
theorem tie10 : (⟨Rect.unit (s := S4x640x256) ![3, 512, 0] S1x128x160.size inb_S4x640x256_S1x128x160_3_512_0,
      k0_pay269 Body.prepRun.sl.v4532 (Body.prepRun.sl.v6125 c M1 M8 f1) (Body.prepRun.sl.v6140 c M1 M8 f1) (Body.prepRun.sl.v6146 c M1 M8 f1)⟩ :: Body.prepRun.sl.H10_19 c M1 M8 f1 : Pcs S4x640x256 .bf16)
    = L10 (M1.view.read (Elt Ideal) f1) M8 20 := rfl

set_option maxHeartbeats 4000000 in
theorem tie11 : (⟨Rect.unit (s := S4x16x128) ![3, 9, 0] S1x1x128.size inb_S4x16x128_S1x1x128_3_9_0, k0_pay272 (Body.prepRun.sl.v6185 c M1 M8 f1)⟩
      :: ⟨Rect.unit (s := S4x16x128) ![3, 8, 0] S1x1x128.size inb_S4x16x128_S1x1x128_3_8_0, k0_pay270 (Body.prepRun.sl.v6140 c M1 M8 f1)⟩
      :: Body.prepRun.sl.H11_38 c M1 M8 f1 : Pcs S4x16x128 .f32)
    = L11 (M1.view.read (Elt Ideal) f1) M8 40 := rfl

set_option maxHeartbeats 4000000 in
theorem tie7 (hb) : (⟨Rect.unit (s := S1x8x10) (k0_off1 i 3#32) S1x1x10.size (hb 3),
      k0_pay277 (k0_pay273 Body.prepRun.sl.v4600) (Body.prepRun.sl.v6196 c M1 M8 f1) (Body.prepRun.sl.v6197 c M1 M8 f1)⟩ :: Body.prepRun.sl.H7_3 c i M1 M8 f1 hc2 : Pcs S1x8x10 .f32)
    = L7 (M1.view.read (Elt Ideal) f1) M8 i hb 4 := rfl

end Tie

end Cert.KernelIdeal.Prep

end
-- ==== Proof.Tie.lean ====
/- The kernel's run in its own names is the model: each pair of heads' outputs are the outputs of a `Pair`, and the stored pieces are the model's. -/
module
public import proofs.«01_k».proof.Proof.Model
@[expose] public section
set_option maxRecDepth 16384
noncomputable section
namespace Cert.KernelIdeal.Model
open Cert.KernelIdeal Cert.KernelIdeal.Gen Cert.KernelIdeal.Blocks Cert.KernelIdeal.Body Cert.Spec Idealize.ShloMosaic Idealize.ShloMosaic.TcCoe Idealize.SL.Sem

section Tie
variable (c : Dev nD) (i : grid0.Coords)
  (M0 : Memref sig .tc .vmem S1x640x640 .bf16) (M4 : Memref sig .tc .vmem S1x4x160x640 .i8) (M5 : Memref sig .tc .vmem S5x2x32 .f32) (M9 : Memref sig .tc .vmem S640x640 .bf16)
  (M10 : Memref sig .tc .vmem S4x640x256 .bf16) (M11 : Memref sig .tc .vmem S4x16x128 .f32) (M12 : Memref sig .tc .vmem S5x160x512 .bf16)
  (M13 : Memref sig .tc .vmem S2x640x256 .f32) (M14 : Memref sig .tc .vmem S2x640x256 .bf16)
  (f0 : Bf (F := Ideal) c M0) (g9 : Bf (F := Ideal) c M9) (g10 : Bf (F := Ideal) c M10) (g11 : Bf (F := Ideal) c M11)

/-- The four tiles of the queries loaded first. -/
abbrev x0 := k0_pay279 (ldx c M0 f0 (Rect.unit (s := S1x640x640) ![0, 0, 0] S1x128x128.size inb_S1x640x640_S1x128x128_0_0_0))
abbrev x1 := k0_pay280 (ldx c M0 f0 (Rect.unit (s := S1x640x640) ![0, 0, 128] S1x128x128.size inb_S1x640x640_S1x128x128_0_0_128))
abbrev x2 := k0_pay281 (ldx c M0 f0 (Rect.unit (s := S1x640x640) ![0, 0, 256] S1x128x128.size inb_S1x640x640_S1x128x128_0_0_256))
abbrev x3 := k0_pay282 (ldx c M0 f0 (Rect.unit (s := S1x640x640) ![0, 0, 384] S1x128x128.size inb_S1x640x640_S1x128x128_0_0_384))

/-- The scores of the run. -/
abbrev tq := tb i (M0.view.read (Elt Ideal) f0) M12 (M10.view.read (Elt Ideal) g10) (M11.view.read (Elt Ideal) g11)

set_option maxHeartbeats 4000000 in
/-- Query block 0, heads 0 and 1. -/
theorem pair00 : Pair M13 M14 i (M9.view.read (Elt Ideal) g9) 0 0 (tq c i M0 M10 M11 M12 f0 g10 g11 0) 1
    (mainRun.sl.v334 c i M0 M9 M10 M11 M12 M13 M14 f0 g9 g10 g11 k0_pay278 (x0 c M0 f0) (x1 c M0 f0) (x2 c M0 f0) (x3 c M0 f0))
    (mainRun.sl.v338 c i M0 M9 M10 M11 M12 M13 M14 f0 g9 g10 g11 k0_pay278 (x0 c M0 f0) (x1 c M0 f0) (x2 c M0 f0) (x3 c M0 f0)) :=
  ⟨_, _, _, _, _, rfl, rfl, ⟨![_, _, 0, 0, 0, 0, 0, 0, 0, 0], _, _, _, ![_, _, 0, 0, 0, 0, 0, 0, 0, 0], rfl, ⟨⟨trivial, rfl⟩, rfl⟩, rfl, rfl, rfl, ⟨⟨trivial, rfl⟩, rfl⟩⟩, ⟨![_, _, 0, 0, 0, 0, 0, 0, 0, 0], _, _, _, ![_, _, 0, 0, 0, 0, 0, 0, 0, 0], rfl, ⟨⟨trivial, rfl⟩, rfl⟩, rfl, rfl, rfl, ⟨⟨trivial, rfl⟩, rfl⟩⟩⟩

set_option maxHeartbeats 4000000 in
/-- Query block 0, heads 2 and 3. -/
theorem pair01 : Pair M13 M14 i (M9.view.read (Elt Ideal) g9) 0 1 (tq c i M0 M10 M11 M12 f0 g10 g11 0) 1
    (mainRun.sl.v477 c i M0 M9 M10 M11 M12 M13 M14 f0 g9 g10 g11 k0_pay278 (x0 c M0 f0) (x1 c M0 f0) (x2 c M0 f0) (x3 c M0 f0))
    (mainRun.sl.v481 c i M0 M9 M10 M11 M12 M13 M14 f0 g9 g10 g11 k0_pay278 (x0 c M0 f0) (x1 c M0 f0) (x2 c M0 f0) (x3 c M0 f0)) :=
  ⟨_, _, _, _, _, rfl, rfl, ⟨![_, _, 0, 0, 0, 0, 0, 0, 0, 0], _, _, _, ![_, _, 0, 0, 0, 0, 0, 0, 0, 0], rfl, ⟨⟨trivial, rfl⟩, rfl⟩, rfl, rfl, rfl, ⟨⟨trivial, rfl⟩, rfl⟩⟩, ⟨![_, _, 0, 0, 0, 0, 0, 0, 0, 0], _, _, _, ![_, _, 0, 0, 0, 0, 0, 0, 0, 0], rfl, ⟨⟨trivial, rfl⟩, rfl⟩, rfl, rfl, rfl, ⟨⟨trivial, rfl⟩, rfl⟩⟩⟩

set_option maxHeartbeats 4000000 in
/-- Query block 1, heads 0 and 1. -/
theorem pair10 : Pair M13 M14 i (M9.view.read (Elt Ideal) g9) 1 0 (tq c i M0 M10 M11 M12 f0 g10 g11 1) 3
    (mainRun.sl.v924 c i M0 M9 M10 M11 M12 M13 M14 f0 g9 g10 g11 k0_pay278 (x0 c M0 f0) (x1 c M0 f0) (x2 c M0 f0) (x3 c M0 f0))
    (mainRun.sl.v928 c i M0 M9 M10 M11 M12 M13 M14 f0 g9 g10 g11 k0_pay278 (x0 c M0 f0) (x1 c M0 f0) (x2 c M0 f0) (x3 c M0 f0)) :=
  ⟨_, _, _, _, _, rfl, rfl, ⟨![_, _, _, _, 0, 0, 0, 0, 0, 0], _, _, _, ![_, _, _, _, 0, 0, 0, 0, 0, 0], rfl, ⟨⟨⟨⟨trivial, rfl⟩, rfl⟩, rfl⟩, rfl⟩, rfl, rfl, rfl, ⟨⟨⟨⟨trivial, rfl⟩, rfl⟩, rfl⟩, rfl⟩⟩, ⟨![_, _, _, _, 0, 0, 0, 0, 0, 0], _, _, _, ![_, _, _, _, 0, 0, 0, 0, 0, 0], rfl, ⟨⟨⟨⟨trivial, rfl⟩, rfl⟩, rfl⟩, rfl⟩, rfl, rfl, rfl, ⟨⟨⟨⟨trivial, rfl⟩, rfl⟩, rfl⟩, rfl⟩⟩⟩

set_option maxHeartbeats 4000000 in
/-- Query block 1, heads 2 and 3. -/
theorem pair11 : Pair M13 M14 i (M9.view.read (Elt Ideal) g9) 1 1 (tq c i M0 M10 M11 M12 f0 g10 g11 1) 3
    (mainRun.sl.v1171 c i M0 M9 M10 M11 M12 M13 M14 f0 g9 g10 g11 k0_pay278 (x0 c M0 f0) (x1 c M0 f0) (x2 c M0 f0) (x3 c M0 f0))
    (mainRun.sl.v1175 c i M0 M9 M10 M11 M12 M13 M14 f0 g9 g10 g11 k0_pay278 (x0 c M0 f0) (x1 c M0 f0) (x2 c M0 f0) (x3 c M0 f0)) :=
  ⟨_, _, _, _, _, rfl, rfl, ⟨![_, _, _, _, 0, 0, 0, 0, 0, 0], _, _, _, ![_, _, _, _, 0, 0, 0, 0, 0, 0], rfl, ⟨⟨⟨⟨trivial, rfl⟩, rfl⟩, rfl⟩, rfl⟩, rfl, rfl, rfl, ⟨⟨⟨⟨trivial, rfl⟩, rfl⟩, rfl⟩, rfl⟩⟩, ⟨![_, _, _, _, 0, 0, 0, 0, 0, 0], _, _, _, ![_, _, _, _, 0, 0, 0, 0, 0, 0], rfl, ⟨⟨⟨⟨trivial, rfl⟩, rfl⟩, rfl⟩, rfl⟩, rfl, rfl, rfl, ⟨⟨⟨⟨trivial, rfl⟩, rfl⟩, rfl⟩, rfl⟩⟩⟩

set_option maxHeartbeats 4000000 in
/-- Query block 2, heads 0 and 1. -/
theorem pair20 : Pair M13 M14 i (M9.view.read (Elt Ideal) g9) 2 0 (tq c i M0 M10 M11 M12 f0 g10 g11 2) 5
    (mainRun.sl.v1722 c i M0 M9 M10 M11 M12 M13 M14 f0 g9 g10 g11 k0_pay278 (x0 c M0 f0) (x1 c M0 f0) (x2 c M0 f0) (x3 c M0 f0))
    (mainRun.sl.v1726 c i M0 M9 M10 M11 M12 M13 M14 f0 g9 g10 g11 k0_pay278 (x0 c M0 f0) (x1 c M0 f0) (x2 c M0 f0) (x3 c M0 f0)) :=
  ⟨_, _, _, _, _, rfl, rfl, ⟨![_, _, _, _, _, _, 0, 0, 0, 0], _, _, _, ![_, _, _, _, _, _, 0, 0, 0, 0], rfl, ⟨⟨⟨⟨⟨⟨trivial, rfl⟩, rfl⟩, rfl⟩, rfl⟩, rfl⟩, rfl⟩, rfl, rfl, rfl, ⟨⟨⟨⟨⟨⟨trivial, rfl⟩, rfl⟩, rfl⟩, rfl⟩, rfl⟩, rfl⟩⟩, ⟨![_, _, _, _, _, _, 0, 0, 0, 0], _, _, _, ![_, _, _, _, _, _, 0, 0, 0, 0], rfl, ⟨⟨⟨⟨⟨⟨trivial, rfl⟩, rfl⟩, rfl⟩, rfl⟩, rfl⟩, rfl⟩, rfl, rfl, rfl, ⟨⟨⟨⟨⟨⟨trivial, rfl⟩, rfl⟩, rfl⟩, rfl⟩, rfl⟩, rfl⟩⟩⟩

set_option maxHeartbeats 4000000 in
/-- Query block 2, heads 2 and 3. -/
theorem pair21 : Pair M13 M14 i (M9.view.read (Elt Ideal) g9) 2 1 (tq c i M0 M10 M11 M12 f0 g10 g11 2) 5
    (mainRun.sl.v2073 c i M0 M9 M10 M11 M12 M13 M14 f0 g9 g10 g11 k0_pay278 (x0 c M0 f0) (x1 c M0 f0) (x2 c M0 f0) (x3 c M0 f0))
    (mainRun.sl.v2077 c i M0 M9 M10 M11 M12 M13 M14 f0 g9 g10 g11 k0_pay278 (x0 c M0 f0) (x1 c M0 f0) (x2 c M0 f0) (x3 c M0 f0)) :=
  ⟨_, _, _, _, _, rfl, rfl, ⟨![_, _, _, _, _, _, 0, 0, 0, 0], _, _, _, ![_, _, _, _, _, _, 0, 0, 0, 0], rfl, ⟨⟨⟨⟨⟨⟨trivial, rfl⟩, rfl⟩, rfl⟩, rfl⟩, rfl⟩, rfl⟩, rfl, rfl, rfl, ⟨⟨⟨⟨⟨⟨trivial, rfl⟩, rfl⟩, rfl⟩, rfl⟩, rfl⟩, rfl⟩⟩, ⟨![_, _, _, _, _, _, 0, 0, 0, 0], _, _, _, ![_, _, _, _, _, _, 0, 0, 0, 0], rfl, ⟨⟨⟨⟨⟨⟨trivial, rfl⟩, rfl⟩, rfl⟩, rfl⟩, rfl⟩, rfl⟩, rfl, rfl, rfl, ⟨⟨⟨⟨⟨⟨trivial, rfl⟩, rfl⟩, rfl⟩, rfl⟩, rfl⟩, rfl⟩⟩⟩

set_option maxHeartbeats 4000000 in
/-- Query block 3, heads 0 and 1. -/
theorem pair30 : Pair M13 M14 i (M9.view.read (Elt Ideal) g9) 3 0 (tq c i M0 M10 M11 M12 f0 g10 g11 3) 7
    (mainRun.sl.v2728 c i M0 M9 M10 M11 M12 M13 M14 f0 g9 g10 g11 k0_pay278 (x0 c M0 f0) (x1 c M0 f0) (x2 c M0 f0) (x3 c M0 f0))
    (mainRun.sl.v2732 c i M0 M9 M10 M11 M12 M13 M14 f0 g9 g10 g11 k0_pay278 (x0 c M0 f0) (x1 c M0 f0) (x2 c M0 f0) (x3 c M0 f0)) :=
  ⟨_, _, _, _, _, rfl, rfl, ⟨![_, _, _, _, _, _, _, _, 0, 0], _, _, _, ![_, _, _, _, _, _, _, _, 0, 0], rfl, ⟨⟨⟨⟨⟨⟨⟨⟨trivial, rfl⟩, rfl⟩, rfl⟩, rfl⟩, rfl⟩, rfl⟩, rfl⟩, rfl⟩, rfl, rfl, rfl, ⟨⟨⟨⟨⟨⟨⟨⟨trivial, rfl⟩, rfl⟩, rfl⟩, rfl⟩, rfl⟩, rfl⟩, rfl⟩, rfl⟩⟩, ⟨![_, _, _, _, _, _, _, _, 0, 0], _, _, _, ![_, _, _, _, _, _, _, _, 0, 0], rfl, ⟨⟨⟨⟨⟨⟨⟨⟨trivial, rfl⟩, rfl⟩, rfl⟩, rfl⟩, rfl⟩, rfl⟩, rfl⟩, rfl⟩, rfl, rfl, rfl, ⟨⟨⟨⟨⟨⟨⟨⟨trivial, rfl⟩, rfl⟩, rfl⟩, rfl⟩, rfl⟩, rfl⟩, rfl⟩, rfl⟩⟩⟩

set_option maxHeartbeats 4000000 in
/-- Query block 3, heads 2 and 3. -/
theorem pair31 : Pair M13 M14 i (M9.view.read (Elt Ideal) g9) 3 1 (tq c i M0 M10 M11 M12 f0 g10 g11 3) 7
    (mainRun.sl.v3183 c i M0 M9 M10 M11 M12 M13 M14 f0 g9 g10 g11 k0_pay278 (x0 c M0 f0) (x1 c M0 f0) (x2 c M0 f0) (x3 c M0 f0))
    (mainRun.sl.v3187 c i M0 M9 M10 M11 M12 M13 M14 f0 g9 g10 g11 k0_pay278 (x0 c M0 f0) (x1 c M0 f0) (x2 c M0 f0) (x3 c M0 f0)) :=
  ⟨_, _, _, _, _, rfl, rfl, ⟨![_, _, _, _, _, _, _, _, 0, 0], _, _, _, ![_, _, _, _, _, _, _, _, 0, 0], rfl, ⟨⟨⟨⟨⟨⟨⟨⟨trivial, rfl⟩, rfl⟩, rfl⟩, rfl⟩, rfl⟩, rfl⟩, rfl⟩, rfl⟩, rfl, rfl, rfl, ⟨⟨⟨⟨⟨⟨⟨⟨trivial, rfl⟩, rfl⟩, rfl⟩, rfl⟩, rfl⟩, rfl⟩, rfl⟩, rfl⟩⟩, ⟨![_, _, _, _, _, _, _, _, 0, 0], _, _, _, ![_, _, _, _, _, _, _, _, 0, 0], rfl, ⟨⟨⟨⟨⟨⟨⟨⟨trivial, rfl⟩, rfl⟩, rfl⟩, rfl⟩, rfl⟩, rfl⟩, rfl⟩, rfl⟩, rfl, rfl, rfl, ⟨⟨⟨⟨⟨⟨⟨⟨trivial, rfl⟩, rfl⟩, rfl⟩, rfl⟩, rfl⟩, rfl⟩, rfl⟩, rfl⟩⟩⟩

set_option maxHeartbeats 4000000 in
/-- Query block 4, heads 0 and 1. -/
theorem pair40 : Pair M13 M14 i (M9.view.read (Elt Ideal) g9) 4 0 (tq c i M0 M10 M11 M12 f0 g10 g11 4) 9
    (mainRun.sl.v3942 c i M0 M9 M10 M11 M12 M13 M14 f0 g9 g10 g11 k0_pay278 (x0 c M0 f0) (x1 c M0 f0) (x2 c M0 f0) (x3 c M0 f0))
    (mainRun.sl.v3946 c i M0 M9 M10 M11 M12 M13 M14 f0 g9 g10 g11 k0_pay278 (x0 c M0 f0) (x1 c M0 f0) (x2 c M0 f0) (x3 c M0 f0)) :=
  ⟨_, _, _, _, _, rfl, rfl, ⟨![_, _, _, _, _, _, _, _, _, _], _, _, _, ![_, _, _, _, _, _, _, _, _, _], rfl, ⟨⟨⟨⟨⟨⟨⟨⟨⟨⟨trivial, rfl⟩, rfl⟩, rfl⟩, rfl⟩, rfl⟩, rfl⟩, rfl⟩, rfl⟩, rfl⟩, rfl⟩, rfl, rfl, rfl, ⟨⟨⟨⟨⟨⟨⟨⟨⟨⟨trivial, rfl⟩, rfl⟩, rfl⟩, rfl⟩, rfl⟩, rfl⟩, rfl⟩, rfl⟩, rfl⟩, rfl⟩⟩, ⟨![_, _, _, _, _, _, _, _, _, _], _, _, _, ![_, _, _, _, _, _, _, _, _, _], rfl, ⟨⟨⟨⟨⟨⟨⟨⟨⟨⟨trivial, rfl⟩, rfl⟩, rfl⟩, rfl⟩, rfl⟩, rfl⟩, rfl⟩, rfl⟩, rfl⟩, rfl⟩, rfl, rfl, rfl, ⟨⟨⟨⟨⟨⟨⟨⟨⟨⟨trivial, rfl⟩, rfl⟩, rfl⟩, rfl⟩, rfl⟩, rfl⟩, rfl⟩, rfl⟩, rfl⟩, rfl⟩⟩⟩

set_option maxHeartbeats 4000000 in
/-- Query block 4, heads 2 and 3. -/
theorem pair41 : Pair M13 M14 i (M9.view.read (Elt Ideal) g9) 4 1 (tq c i M0 M10 M11 M12 f0 g10 g11 4) 9
    (mainRun.sl.v4501 c i M0 M9 M10 M11 M12 M13 M14 f0 g9 g10 g11 k0_pay278 (x0 c M0 f0) (x1 c M0 f0) (x2 c M0 f0) (x3 c M0 f0))
    (mainRun.sl.v4505 c i M0 M9 M10 M11 M12 M13 M14 f0 g9 g10 g11 k0_pay278 (x0 c M0 f0) (x1 c M0 f0) (x2 c M0 f0) (x3 c M0 f0)) :=
  ⟨_, _, _, _, _, rfl, rfl, ⟨![_, _, _, _, _, _, _, _, _, _], _, _, _, ![_, _, _, _, _, _, _, _, _, _], rfl, ⟨⟨⟨⟨⟨⟨⟨⟨⟨⟨trivial, rfl⟩, rfl⟩, rfl⟩, rfl⟩, rfl⟩, rfl⟩, rfl⟩, rfl⟩, rfl⟩, rfl⟩, rfl, rfl, rfl, ⟨⟨⟨⟨⟨⟨⟨⟨⟨⟨trivial, rfl⟩, rfl⟩, rfl⟩, rfl⟩, rfl⟩, rfl⟩, rfl⟩, rfl⟩, rfl⟩, rfl⟩⟩, ⟨![_, _, _, _, _, _, _, _, _, _], _, _, _, ![_, _, _, _, _, _, _, _, _, _], rfl, ⟨⟨⟨⟨⟨⟨⟨⟨⟨⟨trivial, rfl⟩, rfl⟩, rfl⟩, rfl⟩, rfl⟩, rfl⟩, rfl⟩, rfl⟩, rfl⟩, rfl⟩, rfl, rfl, rfl, ⟨⟨⟨⟨⟨⟨⟨⟨⟨⟨trivial, rfl⟩, rfl⟩, rfl⟩, rfl⟩, rfl⟩, rfl⟩, rfl⟩, rfl⟩, rfl⟩, rfl⟩⟩⟩

/-- The heads' outputs by query block. -/
def Y : Fin 5 → Fin 4 → FVec Ideal S160x128 .bf16 := ![
    ![mainRun.sl.v334 c i M0 M9 M10 M11 M12 M13 M14 f0 g9 g10 g11 k0_pay278 (x0 c M0 f0) (x1 c M0 f0) (x2 c M0 f0) (x3 c M0 f0), mainRun.sl.v338 c i M0 M9 M10 M11 M12 M13 M14 f0 g9 g10 g11 k0_pay278 (x0 c M0 f0) (x1 c M0 f0) (x2 c M0 f0) (x3 c M0 f0), mainRun.sl.v477 c i M0 M9 M10 M11 M12 M13 M14 f0 g9 g10 g11 k0_pay278 (x0 c M0 f0) (x1 c M0 f0) (x2 c M0 f0) (x3 c M0 f0), mainRun.sl.v481 c i M0 M9 M10 M11 M12 M13 M14 f0 g9 g10 g11 k0_pay278 (x0 c M0 f0) (x1 c M0 f0) (x2 c M0 f0) (x3 c M0 f0)],
    ![mainRun.sl.v924 c i M0 M9 M10 M11 M12 M13 M14 f0 g9 g10 g11 k0_pay278 (x0 c M0 f0) (x1 c M0 f0) (x2 c M0 f0) (x3 c M0 f0), mainRun.sl.v928 c i M0 M9 M10 M11 M12 M13 M14 f0 g9 g10 g11 k0_pay278 (x0 c M0 f0) (x1 c M0 f0) (x2 c M0 f0) (x3 c M0 f0), mainRun.sl.v1171 c i M0 M9 M10 M11 M12 M13 M14 f0 g9 g10 g11 k0_pay278 (x0 c M0 f0) (x1 c M0 f0) (x2 c M0 f0) (x3 c M0 f0), mainRun.sl.v1175 c i M0 M9 M10 M11 M12 M13 M14 f0 g9 g10 g11 k0_pay278 (x0 c M0 f0) (x1 c M0 f0) (x2 c M0 f0) (x3 c M0 f0)],
    ![mainRun.sl.v1722 c i M0 M9 M10 M11 M12 M13 M14 f0 g9 g10 g11 k0_pay278 (x0 c M0 f0) (x1 c M0 f0) (x2 c M0 f0) (x3 c M0 f0), mainRun.sl.v1726 c i M0 M9 M10 M11 M12 M13 M14 f0 g9 g10 g11 k0_pay278 (x0 c M0 f0) (x1 c M0 f0) (x2 c M0 f0) (x3 c M0 f0), mainRun.sl.v2073 c i M0 M9 M10 M11 M12 M13 M14 f0 g9 g10 g11 k0_pay278 (x0 c M0 f0) (x1 c M0 f0) (x2 c M0 f0) (x3 c M0 f0), mainRun.sl.v2077 c i M0 M9 M10 M11 M12 M13 M14 f0 g9 g10 g11 k0_pay278 (x0 c M0 f0) (x1 c M0 f0) (x2 c M0 f0) (x3 c M0 f0)],
    ![mainRun.sl.v2728 c i M0 M9 M10 M11 M12 M13 M14 f0 g9 g10 g11 k0_pay278 (x0 c M0 f0) (x1 c M0 f0) (x2 c M0 f0) (x3 c M0 f0), mainRun.sl.v2732 c i M0 M9 M10 M11 M12 M13 M14 f0 g9 g10 g11 k0_pay278 (x0 c M0 f0) (x1 c M0 f0) (x2 c M0 f0) (x3 c M0 f0), mainRun.sl.v3183 c i M0 M9 M10 M11 M12 M13 M14 f0 g9 g10 g11 k0_pay278 (x0 c M0 f0) (x1 c M0 f0) (x2 c M0 f0) (x3 c M0 f0), mainRun.sl.v3187 c i M0 M9 M10 M11 M12 M13 M14 f0 g9 g10 g11 k0_pay278 (x0 c M0 f0) (x1 c M0 f0) (x2 c M0 f0) (x3 c M0 f0)],
    ![mainRun.sl.v3942 c i M0 M9 M10 M11 M12 M13 M14 f0 g9 g10 g11 k0_pay278 (x0 c M0 f0) (x1 c M0 f0) (x2 c M0 f0) (x3 c M0 f0), mainRun.sl.v3946 c i M0 M9 M10 M11 M12 M13 M14 f0 g9 g10 g11 k0_pay278 (x0 c M0 f0) (x1 c M0 f0) (x2 c M0 f0) (x3 c M0 f0), mainRun.sl.v4501 c i M0 M9 M10 M11 M12 M13 M14 f0 g9 g10 g11 k0_pay278 (x0 c M0 f0) (x1 c M0 f0) (x2 c M0 f0) (x3 c M0 f0), mainRun.sl.v4505 c i M0 M9 M10 M11 M12 M13 M14 f0 g9 g10 g11 k0_pay278 (x0 c M0 f0) (x1 c M0 f0) (x2 c M0 f0) (x3 c M0 f0)]]

theorem pairs (qb : Fin 5) (p : Fin 2) : Pair M13 M14 i (M9.view.read (Elt Ideal) g9) qb p (tq c i M0 M10 M11 M12 f0 g10 g11 qb) (2 * qb.val + 1)
    (Y c i M0 M9 M10 M11 M12 M13 M14 f0 g9 g10 g11 qb ⟨2 * p.val, by omega⟩) (Y c i M0 M9 M10 M11 M12 M13 M14 f0 g9 g10 g11 qb ⟨2 * p.val + 1, by omega⟩) := by
  match qb, p with
  | 0, 0 => exact pair00 c i M0 M9 M10 M11 M12 M13 M14 f0 g9 g10 g11
  | 0, 1 => exact pair01 c i M0 M9 M10 M11 M12 M13 M14 f0 g9 g10 g11
  | 1, 0 => exact pair10 c i M0 M9 M10 M11 M12 M13 M14 f0 g9 g10 g11
  | 1, 1 => exact pair11 c i M0 M9 M10 M11 M12 M13 M14 f0 g9 g10 g11
  | 2, 0 => exact pair20 c i M0 M9 M10 M11 M12 M13 M14 f0 g9 g10 g11
  | 2, 1 => exact pair21 c i M0 M9 M10 M11 M12 M13 M14 f0 g9 g10 g11
  | 3, 0 => exact pair30 c i M0 M9 M10 M11 M12 M13 M14 f0 g9 g10 g11
  | 3, 1 => exact pair31 c i M0 M9 M10 M11 M12 M13 M14 f0 g9 g10 g11
  | 4, 0 => exact pair40 c i M0 M9 M10 M11 M12 M13 M14 f0 g9 g10 g11
  | 4, 1 => exact pair41 c i M0 M9 M10 M11 M12 M13 M14 f0 g9 g10 g11

/-- The stored output tiles. -/
theorem tiles : mainRun.sl.H3_25 c i M0 M9 M10 M11 M12 M13 M14 f0 g9 g10 g11 k0_pay278 (x0 c M0 f0) (x1 c M0 f0) (x2 c M0 f0) (x3 c M0 f0)
    = L3 (fun qb => stackV (Y c i M0 M9 M10 M11 M12 M13 M14 f0 g9 g10 g11 qb 0) (Y c i M0 M9 M10 M11 M12 M13 M14 f0 g9 g10 g11 qb 1)
        (Y c i M0 M9 M10 M11 M12 M13 M14 f0 g9 g10 g11 qb 2) (Y c i M0 M9 M10 M11 M12 M13 M14 f0 g9 g10 g11 qb 3)) 25 := rfl

/-- The stored codes. -/
theorem codes : mainRun.sl.H4_20 c M0 f0 (x0 c M0 f0) (x1 c M0 f0) (x2 c M0 f0) (x3 c M0 f0) = L4 (M0.view.read (Elt Ideal) f0) 20 := rfl

end Tie

end Cert.KernelIdeal.Model

end
-- ==== Proof.Qs.lean ====
/- The row of query scales: what a grid point stores for one block of 128 queries, read at a head. -/
module
public import proofs.«01_k».proof.Proof.Scores
public import proofs.«01_k».proof.Proof.Tie
@[expose] public section
set_option maxRecDepth 16384
noncomputable section
namespace Cert.KernelIdeal.Model
open Cert.KernelIdeal Cert.KernelIdeal.Gen Cert.KernelIdeal.Blocks Cert.KernelIdeal.Body Cert.Spec Idealize.ShloMosaic Idealize.ShloMosaic.TcCoe Idealize.SL.Sem

/-- What a run of stores leaves at an index under none of their rectangles: what was there. -/
theorem read_writes_other {sig : RefSig} {κ : Kind} {sp : Space} {s : Shape} {e : EltTy} (v : View sig κ sp s e) {Val : EltTy → Type}
    (f : v.ty.Contents Val) (y : s.Idx) : ∀ (L : List (View.Piece Val s e)), (∀ p ∈ L, y ∉ p.1.set) → v.read Val (v.writes Val f L) y = v.read Val f y
  | [], _ => rfl
  | p :: L, h => by
    rw [View.writes_cons, View.read_slice_write_of_not_mem]
    · exact read_writes_other v f y L fun q hq => h q (List.mem_cons_of_mem _ hq)
    · intro hm
      obtain ⟨x, _, rfl⟩ := Finset.mem_map.mp hm
      exact h p List.mem_cons_self ((LoadRect.mem_set _).mpr fun a => ⟨(x a).val, (x a).isLt, rfl⟩)

/-- The number of each of 32 columns. -/
abbrev heads : IVec S1x32 32 := iota .tc S1x32 32 [1] iota_S1x32_d1_w32

/-- The row `prev` with the scale `s` put in at head `4 g + h`. -/
def put (g h : BitVec 32) (s : FVec Ideal S1x1 .f32) (prev : FVec Ideal S1x32 .f32) : FVec Ideal S1x32 .f32 :=
  select (cmpi .eq heads (broadcast S1x32 (Scalar.addi (Scalar.muli 4#32 g) h)))
    (broadcastTo S1x32 (shapeCast S1x1 s shapeCasts_S1x1_S1x1) broadcasts_S1x1_S1x32) prev

/-- What the row starts from: zeros at the first group, what is there at the others. -/
def base (g : BitVec 32) (prev : FVec Ideal S1x1x32 .f32) : FVec Ideal S1x32 .f32 :=
  Scalar.select (Scalar.cmpi .eq g 0#32) (broadcast S1x32 (FloatOps.ofBits (F := Ideal) .f32 0#32)) (shapeCast S1x32 prev shapeCasts_S1x1x32_S1x32)

/-- The row stored for query block `qb`. -/
def rowQ (X0 : Vec Ideal S1x640x640 .bf16) (g : BitVec 32) (prev : FVec Ideal S1x1x32 .f32) (qb : Fin 5) : FVec Ideal S1x32 .f32 :=
  put g 3#32 (qs X0 qb 3) (put g 2#32 (qs X0 qb 2) (put g 1#32 (qs X0 qb 1) (put g 0#32 (qs X0 qb 0) (base g prev))))

theorem head_eq : ∀ (g : Fin 8) (h : Fin 4) (n : Fin 32),
    IntOp.cmpi .eq (BitVec.ofNat 32 n.val) (Scalar.addi (Scalar.muli 4#32 (BitVec.ofNat 32 g.val)) (BitVec.ofNat 32 h.val))
      = if n.val = 4 * g.val + h.val then 1#1 else 0#1 := by decide +kernel

theorem put_at (g : Fin 8) (h : Fin 4) (s : FVec Ideal S1x1 .f32) (prev : FVec Ideal S1x32 .f32) (n : Fin 32) :
    put (BitVec.ofNat 32 g.val) (BitVec.ofNat 32 h.val) s prev (ix2 0 n) = if n.val = 4 * g.val + h.val then s (ix2 0 0) else prev (ix2 0 n) := by
  have e : broadcastTo S1x32 (shapeCast S1x1 s shapeCasts_S1x1_S1x1) broadcasts_S1x1_S1x32 (ix2 0 n) = s (ix2 0 0) := by pointwise
  have e0 : heads (ix2 0 n) = BitVec.ofNat 32 n.val := by
    show BitVec.ofNat 32 (0 * 32 + n.val) = _
    rw [Nat.zero_mul, Nat.zero_add]
  show Scalar.select (IntOp.cmpi .eq (heads (ix2 0 n)) (Scalar.addi (Scalar.muli 4#32 (BitVec.ofNat 32 g.val)) (BitVec.ofNat 32 h.val))) _ _ = _
  rw [e0, head_eq, e]
  split <;> rfl

theorem base_at (g : Fin 8) (prev : FVec Ideal S1x1x32 .f32) (n : Fin 32) (hg : g ≠ 0) : base (BitVec.ofNat 32 g.val) prev (ix2 0 n) = prev (ix3 0 0 n) := by
  have e : Scalar.cmpi .eq (BitVec.ofNat 32 g.val) 0#32 = 0#1 := (by decide +kernel : ∀ g : Fin 8, g ≠ 0 → Scalar.cmpi .eq (BitVec.ofNat 32 g.val) 0#32 = 0#1) g hg
  unfold base
  rw [e]
  show shapeCast S1x32 prev shapeCasts_S1x1x32_S1x32 (ix2 0 n) = _
  pointwise

/-- The stored row at head `n`: the scale of this group's head if `n` is one of the group's four, else what the row started from. -/
theorem rowQ_at (X0 : Vec Ideal S1x640x640 .bf16) (g : Fin 8) (prev : FVec Ideal S1x1x32 .f32) (qb : Fin 5) (n : Fin 32) :
    rowQ X0 (BitVec.ofNat 32 g.val) prev qb (ix2 0 n)
      = if n.val / 4 = g.val then sh X0 qb ⟨n.val % 4, by omega⟩ else base (BitVec.ofNat 32 g.val) prev (ix2 0 n) := by
  have hn := n.isLt
  unfold rowQ
  refine (put_at g 3 _ _ n).trans ?_
  rw [show ∀ s p, put (BitVec.ofNat 32 g.val) 2#32 s p (ix2 0 n) = _ from fun s p => put_at g 2 s p n,
    show ∀ s p, put (BitVec.ofNat 32 g.val) 1#32 s p (ix2 0 n) = _ from fun s p => put_at g 1 s p n,
    show ∀ s p, put (BitVec.ofNat 32 g.val) 0#32 s p (ix2 0 n) = _ from fun s p => put_at g 0 s p n, qs_at, qs_at, qs_at, qs_at]
  have key : ∀ h : Fin 4, n.val = 4 * g.val + h.val → (h = ⟨n.val % 4, by omega⟩ ∧ n.val / 4 = g.val) := fun h hh => ⟨Fin.ext (by show h.val = n.val % 4; omega), by omega⟩
  by_cases h3 : n.val = 4 * g.val + (3 : Fin 4).val
  · rw [if_pos h3, if_pos (key 3 h3).2, ← (key 3 h3).1]
  rw [if_neg h3]
  by_cases h2 : n.val = 4 * g.val + (2 : Fin 4).val
  · rw [if_pos h2, if_pos (key 2 h2).2, ← (key 2 h2).1]
  rw [if_neg h2]
  by_cases h1 : n.val = 4 * g.val + (1 : Fin 4).val
  · rw [if_pos h1, if_pos (key 1 h1).2, ← (key 1 h1).1]
  rw [if_neg h1]
  by_cases h0 : n.val = 4 * g.val + (0 : Fin 4).val
  · rw [if_pos h0, if_pos (key 0 h0).2, ← (key 0 h0).1]
  rw [if_neg h0, if_neg]
  change ¬ n.val = 4 * g.val + 3 at h3
  change ¬ n.val = 4 * g.val + 2 at h2
  change ¬ n.val = 4 * g.val + 1 at h1
  change ¬ n.val = 4 * g.val + 0 at h0
  omega

/-- Where a grid point stores the rows of its five query blocks. -/
abbrev offQ (i : grid0.Coords) (qb : Fin 5) : Fin 3 → Nat :=
  match qb with | 0 => k0_off2 i | 1 => k0_off7 i | 2 => k0_off12 i | 3 => k0_off17 i | 4 => k0_off22 i

section
variable (X0 : Vec Ideal S1x640x640 .bf16) (i : grid0.Coords) (g : BitVec 32) (prev : Fin 5 → FVec Ideal S1x1x32 .f32)
  (hb : ∀ qb a, offQ i qb a + S1x1x32.size a ≤ S5x2x32.size a)

def pcQ (qb : Fin 5) : View.Piece (Elt Ideal) S5x2x32 .f32 :=
  ⟨Rect.unit (offQ i qb) S1x1x32.size (hb qb), shapeCast S1x1x32 (rowQ X0 g (prev qb) qb) shapeCasts_S1x32_S1x1x32⟩

/-- The stores of the rows, the last first. -/
def LQ : Nat → Pcs S5x2x32 .f32
  | 0 => []
  | m + 1 => pcQ X0 i g prev hb (Fin.ofNat 5 m) :: LQ m

theorem pcQ_mem (m : Nat) (k : Nat) (h : k < m) : pcQ X0 i g prev hb (Fin.ofNat 5 k) ∈ LQ X0 i g prev hb m := by
  induction m with
  | zero => omega
  | succ m ih =>
    rcases Nat.lt_succ_iff_lt_or_eq.mp h with h | h
    · exact List.mem_cons_of_mem _ (ih h)
    · subst h; exact List.mem_cons_self

theorem mem_LQ (m : Nat) : ∀ p ∈ LQ X0 i g prev hb m, ∃ qb, p = pcQ X0 i g prev hb qb := by
  induction m with
  | zero => intro p hp; exact absurd hp List.not_mem_nil
  | succ m ih =>
    intro p hp
    rcases List.mem_cons.mp hp with h | h
    · exact ⟨_, h⟩
    · exact ih p h

theorem rq_mem (b : Fin 2) (hoff : ∀ qb, offQ i qb = ![qb.val, b.val, 0]) (qb q : Fin 5) (b' : Fin 2) (n : Fin 32)
    (h : (ix3 q b' n : S5x2x32.Idx) ∈ (Rect.unit (s := S5x2x32) (offQ i qb) S1x1x32.size (hb qb)).set) : q = qb ∧ b' = b := by
  have hm := Rect.mem_set_unit.mp h
  have h0 := hm 0; have h1 := hm 1
  rw [hoff qb] at h0 h1
  change qb.val ≤ q.val ∧ q.val < qb.val + 1 at h0
  change b.val ≤ b'.val ∧ b'.val < b.val + 1 at h1
  exact ⟨Fin.ext (by omega), Fin.ext (by omega)⟩

/-- What the stored rows leave: of another batch element, what was there; of this one, the rows. -/
theorem read_LQ {sig' : RefSig} {κ : Kind} {sp : Space} (v : View sig' κ sp S5x2x32 .f32) (f : v.ty.Contents (Elt Ideal)) (b : Fin 2)
    (hoff : ∀ qb, offQ i qb = ![qb.val, b.val, 0]) (q : Fin 5) (b' : Fin 2) (n : Fin 32) :
    v.read (Elt Ideal) (v.writes (Elt Ideal) f (LQ X0 i g prev hb 5)) (ix3 q b' n)
      = if b' = b then rowQ X0 g (prev q) q (ix2 0 n) else v.read (Elt Ideal) f (ix3 q b' n) := by
  by_cases hbb : b' = b
  · subst hbb
    rw [if_pos rfl]
    have eq : Fin.ofNat 5 q.val = q := Fin.ext (Nat.mod_eq_of_lt q.isLt)
    have hy : (pcQ X0 i g prev hb (Fin.ofNat 5 q.val)).1.emb (ix3 0 0 n : S1x1x32.Idx) = (ix3 q b' n : S5x2x32.Idx) := by
      have ho : offQ i (Fin.ofNat 5 q.val) = ![q.val, b'.val, 0] := by rw [hoff, eq]
      funext a
      refine Fin.ext ?_
      show offQ i (Fin.ofNat 5 q.val) a + 1 * ((ix3 0 0 n : S1x1x32.Idx) a).val = _
      rw [ho]
      fin_cases a
      · rfl
      · rfl
      · exact (Nat.zero_add _).trans (Nat.one_mul _)
    rw [View.read_writes_apply_eq_canon _ _ _ _ ⟨_, pcQ_mem X0 i g prev hb 5 q.val q.isLt, by
      rw [← hy]; exact (LoadRect.mem_set _).mpr fun a => ⟨((ix3 0 0 n : S1x1x32.Idx) a).val, ((ix3 0 0 n : S1x1x32.Idx) a).isLt, rfl⟩⟩]
    refine canon_upto (fun m => pcQ X0 i g prev hb (Fin.ofNat 5 m)) (LQ X0 i g prev hb) (fun _ => rfl) 5 q.val (ix3 0 0 n : S1x1x32.Idx) _ _ hy ?_ ?_ 5 le_rfl q.isLt
    · show shapeCast S1x1x32 (rowQ X0 g (prev (Fin.ofNat 5 q.val)) (Fin.ofNat 5 q.val)) shapeCasts_S1x32_S1x1x32 (ix3 0 0 n) = _
      rw [eq]
      generalize rowQ X0 g (prev q) q = R
      pointwise
    · intro k hk hm
      have := (rq_mem i hb b' hoff _ q b' n hm).1
      have := congrArg Fin.val this
      change q.val = k % 5 at this
      omega
  · rw [if_neg hbb]
    refine read_writes_other v f _ _ fun p hp hm => hbb ?_
    obtain ⟨qb, rfl⟩ := mem_LQ X0 i g prev hb 5 p hp
    exact (rq_mem i hb b hoff qb q b' n hm).2

end

/-- The run's stores of scales are the rows. -/
theorem tie5 (c : Dev nD) (i : grid0.Coords) (M0 : Memref sig .tc .vmem S1x640x640 .bf16) (M5 : Memref sig .tc .vmem S5x2x32 .f32)
    (f0 : Bf (F := Ideal) c M0) (f5 : Bf (F := Ideal) c M5) (hb : ∀ qb a, offQ i qb a + S1x1x32.size a ≤ S5x2x32.size a) :
    mainRun.sl.H5_5 c i M0 M5 f0 f5 (BitVec.ofNat 32 (i 1).val) heads (x0 c M0 f0) (x1 c M0 f0) (x2 c M0 f0) (x3 c M0 f0)
      = LQ (M0.view.read (Elt Ideal) f0) i (BitVec.ofNat 32 (i 1).val)
          (fun qb => M5.view.readAt (Elt Ideal) (Rect.unit (s := S5x2x32) (offQ i qb) S1x1x32.size (hb qb)).toLoadRect f5) hb 5 := rfl

end Cert.KernelIdeal.Model

end
-- ==== Proof.Out.lean ====
/- The stored output tiles read at an index, and the row of attention they hold: powers of two of scores scaled by the logarithm of two
   are the exponentials of the scores, and keys after the last query of a block weigh nothing. -/
module
public import proofs.«01_k».proof.Proof.Scores
@[expose] public section
set_option maxRecDepth 16384
noncomputable section
namespace Cert.KernelIdeal.Model
open Cert.KernelIdeal Cert.KernelIdeal.Gen Cert.KernelIdeal.Blocks Cert.Spec Idealize.ShloMosaic Idealize.ShloMosaic.TcCoe Idealize.SL.Sem

theorem tile3_at (u : FVec Ideal S640x128 .bf16) (o : Nat) (h : Shape.Slices S640x128 ![o, 0] S128x128) (a : Fin 1) (l c : Fin 128) (ho : o + c.val < 640) :
    shapeCast S1x128x128 (transpose S128x128 [1, 0] (extractStridedSlice S128x128 ![o, 0] u h) transposes_S128x128_p1_0_S128x128) shapeCasts_S128x128_S1x128x128 (ix3 a l c)
      = u (ix2 ⟨o + c.val, ho⟩ l) := by
  pointwise

theorem canon_L3 (u : Fin 5 → FVec Ideal S640x128 .bf16) (t c : Fin 640) :
    View.canon (L3 u 25) (ix3 0 t c) = u ⟨t.val / 128, by omega⟩ (ix2 c ⟨t.val % 128, by omega⟩) := by
  have ht := t.isLt; have hc := c.isLt
  have e1 : Fin.ofNat 5 ((5 * (t.val / 128) + c.val / 128) / 5) = ⟨t.val / 128, by omega⟩ := Fin.ext (by show (5 * (t.val / 128) + c.val / 128) / 5 % 5 = t.val / 128; omega)
  refine canon_upto (fun n => pc3 (u (Fin.ofNat 5 (n / 5))) (Fin.ofNat 5 (n / 5)) (Fin.ofNat 5 n)) (L3 u) (fun _ => rfl) 25 (5 * (t.val / 128) + c.val / 128)
    (ix3 0 ⟨t.val % 128, by omega⟩ ⟨c.val % 128, by omega⟩ : S1x128x128.Idx) _ _ ?_ ?_ ?_ 25 (le_refl _) (by omega)
  · funext a
    refine Fin.ext ?_
    fin_cases a
    · rfl
    · show 128 * ((5 * (t.val / 128) + c.val / 128) / 5 % 5) + 1 * (t.val % 128) = t.val
      omega
    · show 128 * ((5 * (t.val / 128) + c.val / 128) % 5) + 1 * (c.val % 128) = c.val
      omega
  · have ho : 128 * (Fin.ofNat 5 (5 * (t.val / 128) + c.val / 128)).val + c.val % 128 = c.val := by
      show 128 * ((5 * (t.val / 128) + c.val / 128) % 5) + c.val % 128 = c.val
      omega
    refine (tile3_at (u (Fin.ofNat 5 ((5 * (t.val / 128) + c.val / 128) / 5))) (128 * (Fin.ofNat 5 (5 * (t.val / 128) + c.val / 128)).val)
      ⟨rfl, fun a => by
        have := (Fin.ofNat 5 (5 * (t.val / 128) + c.val / 128)).isLt
        fin_cases a <;> simp <;> omega⟩ 0 ⟨t.val % 128, by omega⟩ ⟨c.val % 128, by omega⟩ (ho.trans_lt hc)).trans ?_
    rw [e1]
    exact congrArg (fun z => u ⟨t.val / 128, by omega⟩ (ix2 z ⟨t.val % 128, by omega⟩)) (Fin.ext ho)
  · intro k hk hm
    change (ix3 0 t c : S1x640x640.Idx) ∈ (r3 (Fin.ofNat 5 (k / 5)) (Fin.ofNat 5 k)).set at hm
    have hm := Rect.mem_set_unit.mp hm
    have h0 := hm 1; have h1 := hm 2
    change 128 * (k / 5 % 5) ≤ t.val ∧ t.val < 128 * (k / 5 % 5) + 128 at h0
    change 128 * (k % 5) ≤ c.val ∧ c.val < 128 * (k % 5) + 128 at h1
    omega

theorem exp2_mul (y : EReal) : Ideal.exp2 (((Real.log 2)⁻¹ : ℝ) * y) = Ideal.exp y := by
  have h2 : 0 < (Real.log 2)⁻¹ := inv_pos.mpr (Real.log_pos (by norm_num))
  induction y with
  | bot => rw [EReal.coe_mul_bot_of_pos h2]; rfl
  | top => rw [EReal.coe_mul_top_of_pos h2]; rfl
  | coe r =>
    rw [← EReal.coe_mul]
    show (((Real.rpow 2 ((Real.log 2)⁻¹ * r)) : ℝ) : EReal) = ((Real.exp r : ℝ) : EReal)
    congr 1
    show (2 : ℝ) ^ ((Real.log 2)⁻¹ * r) = Real.exp r
    rw [Real.rpow_def_of_pos (by norm_num), ← mul_assoc, mul_inv_cancel₀ (Real.log_pos (by norm_num)).ne', one_mul]

theorem mul_sub_pos {k : ℝ} (hk : 0 < k) (a b : EReal) : (k : EReal) * (a - b) = (k : EReal) * a - (k : EReal) * b := by
  rw [sub_eq_add_neg, sub_eq_add_neg, EReal.left_distrib_of_nonneg_of_ne_top (by exact_mod_cast hk.le) (EReal.coe_ne_top k), mul_neg]

theorem mul_mono {k : ℝ} (hk : 0 < k) {a b : EReal} (h : a ≤ b) : (k : EReal) * a ≤ (k : EReal) * b :=
  mul_le_mul_of_nonneg_left h (by exact_mod_cast hk.le)

theorem mul_iSup_pos {ι : Type} {k : ℝ} (hk : 0 < k) (f : ι → EReal) : ⨆ i, (k : EReal) * f i = (k : EReal) * ⨆ i, f i := by
  refine le_antisymm (iSup_le fun i => mul_mono hk (le_iSup f i)) ?_
  have h1 : ∀ x : EReal, (k : EReal) * (((k⁻¹ : ℝ) : EReal) * x) = x := fun x => by
    rw [← mul_assoc, ← EReal.coe_mul, mul_inv_cancel₀ hk.ne', EReal.coe_one, one_mul]
  have h2 : ∀ x : EReal, ((k⁻¹ : ℝ) : EReal) * ((k : EReal) * x) = x := fun x => by
    rw [← mul_assoc, ← EReal.coe_mul, inv_mul_cancel₀ hk.ne', EReal.coe_one, one_mul]
  rw [← h1 (⨆ i, (k : EReal) * f i)]
  refine mul_mono hk (iSup_le fun i => ?_)
  conv_lhs => rw [← h2 (f i)]
  exact mul_mono (inv_pos.mpr hk) (le_iSup (fun i => (k : EReal) * f i) i)

theorem sum_short (f : Nat → EReal) (n N : Nat) (h : n ≤ N) (hf : ∀ x, n ≤ x → f x = 0) : ∑ x : Fin n, f x.val = ∑ x : Fin N, f x.val := by
  rw [Fin.sum_univ_eq_sum_range f n, Fin.sum_univ_eq_sum_range f N]
  refine Finset.sum_subset (fun x hx => Finset.mem_range.mpr ((Finset.mem_range.mp hx).trans_le h)) fun x _ hx => hf x ?_
  exact not_lt.mp fun hh => hx (Finset.mem_range.mpr hh)

theorem sup_short (f : Nat → EReal) (n N : Nat) (h : n ≤ N) (hf : ∀ x, n ≤ x → f x = ⊥) : ⨆ x : Fin n, f x.val = ⨆ x : Fin N, f x.val := by
  refine le_antisymm (iSup_le fun x => le_iSup (fun x : Fin N => f x.val) ⟨x.val, x.isLt.trans_le h⟩) (iSup_le fun x => ?_)
  by_cases hx : x.val < n
  · exact le_iSup (fun x : Fin n => f x.val) ⟨x.val, hx⟩
  · rw [hf _ (not_lt.mp hx)]; exact bot_le

/-- A row of attention over the first `n` keys with powers of two is the softmax row over all the keys. -/
theorem mean2_soft (S V : Nat → EReal) (n N : Nat) (h : n ≤ N) (hS : ∀ x, n ≤ x → S x = ⊥) :
    mean2 (fun x : Fin n => (((Real.log 2)⁻¹ : ℝ) : EReal) * S x.val) (fun x => V x.val) = soft (fun x : Fin N => S x.val) (fun x => V x.val) := by
  have h2 : 0 < (Real.log 2)⁻¹ := inv_pos.mpr (Real.log_pos (by norm_num))
  have hw : ∀ x, Ideal.exp2 ((((Real.log 2)⁻¹ : ℝ) : EReal) * S x - ⨆ y : Fin n, (((Real.log 2)⁻¹ : ℝ) : EReal) * S y.val) = Ideal.exp (S x - ⨆ y : Fin N, S y.val) := fun x => by
    rw [mul_iSup_pos h2, sup_short S n N h hS, ← mul_sub_pos h2, exp2_mul]
  have h0 : ∀ x, n ≤ x → Ideal.exp (S x - ⨆ y : Fin N, S y.val) = 0 := fun x hx => by
    rw [hS x hx, sub_eq_add_neg, EReal.bot_add]; rfl
  unfold mean2 soft
  congr 1
  · refine Eq.trans (Finset.sum_congr rfl fun x _ => ?_) (sum_short (fun x => Ideal.exp (S x - ⨆ y : Fin N, S y.val) * V x) n N h fun x hx => ?_)
    · show V x.val * Ideal.exp2 _ = _
      rw [hw, mul_comm]
    · show Ideal.exp _ * _ = 0
      rw [h0 x hx, zero_mul]
  · exact Eq.trans (Finset.sum_congr rfl fun x _ => hw x.val) (sum_short (fun x => Ideal.exp (S x - ⨆ y : Fin N, S y.val)) n N h h0)

section
variable (X0 : Vec Ideal S1x640x640 .bf16) (C : Fin 640 → Fin 160 → BitVec 8) (K : Fin 10 → EReal)

/-- The masked score of a key for a query. -/
def rowS (qb : Fin 5) (h : Fin 4) (l : Fin 128) (x : Nat) : EReal :=
  if hx : x < 640 then
    if x ≤ 128 * qb.val + l.val then
      (∑ d : Fin 160, num (code (xh X0 qb h l d) (sh X0 qb h)) * num (C ⟨x, hx⟩ d)) * sh X0 qb h * K ⟨x / 64, by omega⟩ * (((Real.sqrt 160)⁻¹ : ℝ) : EReal)
    else ⊥
  else ⊥

theorem scoreK_eq (qb : Fin 5) (h : Fin 4) (l : Fin 128) (x : Nat) :
    scoreK X0 (fun s d => num (C s d)) (fun q => K q * (((Real.sqrt 160)⁻¹ * (Real.log 2)⁻¹ : ℝ) : EReal)) qb h x l = (((Real.log 2)⁻¹ : ℝ) : EReal) * rowS X0 C K qb h l x := by
  have h2 : 0 < (Real.log 2)⁻¹ := inv_pos.mpr (Real.log_pos (by norm_num))
  unfold scoreK rowS
  split_ifs
  · show _ * (K _ * _ * sh X0 qb h) = _
    rw [EReal.coe_mul, Finset.sum_congr rfl fun d _ => mul_comm (num (C _ d)) _]
    generalize (((Real.sqrt 160)⁻¹ : ℝ) : EReal) = a
    generalize (((Real.log 2)⁻¹ : ℝ) : EReal) = b
    ac_rfl
  · rw [EReal.coe_mul_bot_of_pos h2]
  · rw [EReal.coe_mul_bot_of_pos h2]

/-- One head's output row is the softmax row. -/
theorem head_row (M12 : Memref sig .tc .vmem S5x160x512 .bf16) (M13 : Memref sig .tc .vmem S2x640x256 .f32) (M14 : Memref sig .tc .vmem S2x640x256 .bf16)
    (i : grid0.Coords) (j : Fin 4) (hi : Offs i j) (X9 : Vec Ideal S640x640 .bf16) (X10 : Vec Ideal S4x640x256 .bf16) (X11 : Vec Ideal S4x16x128 .f32)
    (W : Fin 640 → Fin 160 → EReal)
    (hX9 : ∀ (d : Fin 160) (x : Fin 640), X9 (ix2 ⟨160 * j.val + d.val, by omega⟩ x) = W x d)
    (hX10 : ∀ (x : Fin 640) (d : Fin 160), X10 (ix3 j x ⟨d.val, by omega⟩) = num (C x d))
    (hX11 : ∀ (kb : Fin 10) (l : Fin 128), X11 (ix3 j ⟨kb.val, by omega⟩ l) = K kb * (((Real.sqrt 160)⁻¹ * (Real.log 2)⁻¹ : ℝ) : EReal))
    (Y : Fin 5 → Fin 4 → FVec Ideal S160x128 .bf16)
    (hY : ∀ (qb : Fin 5) (p : Fin 2), Pair M13 M14 i X9 qb p (tb i X0 M12 X10 X11 qb) (2 * qb.val + 1) (Y qb ⟨2 * p.val, by omega⟩) (Y qb ⟨2 * p.val + 1, by omega⟩))
    (qb : Fin 5) (h : Fin 4) (d : Fin 160) (l : Fin 128) :
    Y qb h (ix2 d l) = soft (fun x : Fin 640 => rowS X0 C K qb h l x.val) (fun x => W x d) := by
  have key : ∀ (p e : Fin 2), (if e = 0 then Y qb ⟨2 * p.val, by omega⟩ else Y qb ⟨2 * p.val + 1, by omega⟩) (ix2 d l)
      = soft (fun x : Fin 640 => rowS X0 C K qb ⟨2 * p.val + e.val, by omega⟩ l x.val) (fun x => W x d) := fun p e => by
    refine (Pair_at M13 M14 i j hi X9 qb p _ _ _ (hY qb p) (fun h x l => scoreK X0 (fun s d => num (C s d)) (fun q => K q * (((Real.sqrt 160)⁻¹ * (Real.log 2)⁻¹ : ℝ) : EReal)) qb h x l)
      (fun h kb hk r l => tb_at X0 M12 i j hi X10 X11 _ _ hX10 hX11 qb h kb hk r l) e d l).trans ?_
    refine Eq.trans ?_ ((mean2_soft (rowS X0 C K qb ⟨2 * p.val + e.val, by omega⟩ l) (fun x => if hx : x < 640 then W ⟨x, hx⟩ d else 0) (64 * (2 * qb.val + 1 + 1)) 640 (by omega) fun x hx => ?_).trans ?_)
    · congr 1
      · funext x
        exact scoreK_eq X0 C K qb _ l x.val
      · funext x
        have hx : x.val < 640 := by omega
        rw [hX9]
        show _ = if hx : x.val < 640 then W ⟨x.val, hx⟩ d else 0
        rw [dif_pos hx]
    · unfold rowS
      split_ifs
      · omega
      · rfl
      · rfl
    · congr 1
      funext x
      exact dif_pos x.isLt
  match h with
  | 0 => exact key 0 0
  | 1 => exact key 0 1
  | 2 => exact key 1 0
  | 3 => exact key 1 1

end

end Cert.KernelIdeal.Model

end
-- ==== Proof.Left.lean ====
/- What one grid point leaves: the prepared keys and values and the results it stores, read at an index. -/
module
public import proofs.«01_k».proof.Proof.Body
public import proofs.«01_k».proof.Proof.PrepAt
public import proofs.«01_k».proof.Proof.PrepTie
public import proofs.«01_k».proof.Proof.Qs
public import proofs.«01_k».proof.Proof.Out
@[expose] public section
set_option maxRecDepth 16384
set_option maxHeartbeats 2000000
noncomputable section
namespace Cert.KernelIdeal.Left
open Cert.KernelIdeal Cert.KernelIdeal.Gen Cert.KernelIdeal.Blocks Cert.KernelIdeal.Model Cert.KernelIdeal.Prep Cert.KernelIdeal.Body Cert.Spec
open Idealize.ShloMosaic Idealize.ShloMosaic.TcCoe Idealize.SL.Sem

theorem mem_rec {S : Shape} {e : EltTy} (pc : Nat → View.Piece (Elt Ideal) S e) (L : Nat → Pcs S e) (hs : ∀ m, L (m + 1) = pc m :: L m) :
    ∀ m k, k < m → pc k ∈ L m
  | 0, _, h => absurd h (Nat.not_lt_zero _)
  | m + 1, k, h => by
    rw [hs]
    rcases Nat.lt_succ_iff_lt_or_eq.mp h with h | h
    · exact List.mem_cons_of_mem _ (mem_rec pc L hs m k h)
    · subst h; exact List.mem_cons_self

/-- Every entry of the transposed block is stored. -/
theorem cover_L8 (X : Vec Ideal S1x640x640 .bf16) (c s : Fin 640) : ∃ p ∈ L8 X 5, (ix2 c s : S640x640.Idx) ∈ p.1.set := by
  have hc := c.isLt
  refine ⟨_, mem_rec (fun m => pc8 X (Fin.ofNat 5 m)) (L8 X) (fun _ => rfl) 5 (c.val / 128) (by omega), ?_⟩
  change (ix2 c s : S640x640.Idx) ∈ (r8 (Fin.ofNat 5 (c.val / 128))).set
  refine Rect.mem_set_unit.mpr fun a => ?_
  fin_cases a
  · show 128 * (c.val / 128 % 5) ≤ c.val ∧ c.val < 128 * (c.val / 128 % 5) + 128
    omega
  · show 0 ≤ s.val ∧ s.val < 0 + 640
    omega

/-- Every code of the keys is stored. -/
theorem cover_L6 (X : Vec Ideal S1x640x640 .bf16) (M8 : Memref sig .tc .vmem S640x640 .bf16) (j : Fin 4) (d : Fin 160) (s : Fin 640) :
    ∃ p ∈ L6 X M8 20, (ix4 0 j d s : S1x4x160x640.Idx) ∈ p.1.set := by
  have hs := s.isLt
  refine ⟨_, mem_rec (fun n => pc6 X M8 (Fin.ofNat 4 (n / 5)) (Fin.ofNat 5 n)) (L6 X M8) (fun _ => rfl) 20 (5 * j.val + s.val / 128) (by omega), ?_⟩
  change (ix4 0 j d s : S1x4x160x640.Idx) ∈ (r6 (Fin.ofNat 4 ((5 * j.val + s.val / 128) / 5)) (Fin.ofNat 5 (5 * j.val + s.val / 128))).set
  refine Rect.mem_set_unit.mpr fun a => ?_
  fin_cases a
  · show 0 ≤ 0 ∧ 0 < 0 + 1
    omega
  · show (5 * j.val + s.val / 128) / 5 % 4 ≤ j.val ∧ j.val < (5 * j.val + s.val / 128) / 5 % 4 + 1
    omega
  · show 0 ≤ d.val ∧ d.val < 0 + 160
    omega
  · show 128 * ((5 * j.val + s.val / 128) % 5) ≤ s.val ∧ s.val < 128 * ((5 * j.val + s.val / 128) % 5) + 128
    omega

/-- What the stored rows of key scales leave: the slab's four heads' scales, and at other heads what was there. -/
theorem read_L7 (X : Vec Ideal S1x640x640 .bf16) (M8 : Memref sig .tc .vmem S640x640 .bf16) (i : grid0.Coords)
    (hb : ∀ j : Fin 4, ∀ a, k0_off1 i (BitVec.ofNat 32 j.val) a + S1x1x10.size a ≤ S1x8x10.size a) (a : Nat) (ha : a + 4 ≤ 8)
    (ho : ∀ j : Fin 4, k0_off1 i (BitVec.ofNat 32 j.val) = ![0, a + j.val, 0])
    (M7 : Memref sig .tc .vmem S1x8x10 .f32) (f : M7.view.ty.Contents (Elt Ideal)) (r : Fin 8) (q : Fin 10) :
    (∀ j : Fin 4, r.val = a + j.val → M7.view.read (Elt Ideal) (M7.view.writes (Elt Ideal) f (L7 X M8 i hb 4)) (ix3 0 r q) = kss X j q)
    ∧ ((∀ j : Fin 4, r.val ≠ a + j.val) → M7.view.read (Elt Ideal) (M7.view.writes (Elt Ideal) f (L7 X M8 i hb 4)) (ix3 0 r q) = M7.view.read (Elt Ideal) f (ix3 0 r q)) := by
  have hm : ∀ j : Fin 4, (ix3 0 r q : S1x8x10.Idx) ∈ (Rect.unit (s := S1x8x10) (k0_off1 i (BitVec.ofNat 32 j.val)) S1x1x10.size (hb j)).set → r.val = a + j.val := by
    intro j h
    have h1 := Rect.mem_set_unit.mp h 1
    rw [ho j] at h1
    change a + j.val ≤ r.val ∧ r.val < a + j.val + 1 at h1
    omega
  refine ⟨fun j hj => ?_, fun hn => ?_⟩
  · have ej : Fin.ofNat 4 j.val = j := Fin.ext (Nat.mod_eq_of_lt j.isLt)
    have hy : (pc7 X M8 i hb (Fin.ofNat 4 j.val)).1.emb (ix3 0 0 q : S1x1x10.Idx) = (ix3 0 r q : S1x8x10.Idx) := by
      have ho' : k0_off1 i (BitVec.ofNat 32 (Fin.ofNat 4 j.val).val) = ![0, a + j.val, 0] := by rw [ho, ej]
      funext b
      refine Fin.ext ?_
      show k0_off1 i (BitVec.ofNat 32 (Fin.ofNat 4 j.val).val) b + 1 * ((ix3 0 0 q : S1x1x10.Idx) b).val = _
      rw [ho']
      fin_cases b
      · rfl
      · exact hj.symm
      · exact (Nat.zero_add _).trans (Nat.one_mul _)
    rw [View.read_writes_apply_eq_canon _ _ _ _ ⟨_, mem_rec (fun n => pc7 X M8 i hb (Fin.ofNat 4 n)) (L7 X M8 i hb) (fun _ => rfl) 4 j.val j.isLt, by
      rw [← hy]; exact rect_emb_mem _ _⟩]
    refine canon_upto (fun n => pc7 X M8 i hb (Fin.ofNat 4 n)) (L7 X M8 i hb) (fun _ => rfl) 4 j.val (ix3 0 0 q : S1x1x10.Idx) _ _ hy ?_ ?_ 4 le_rfl j.isLt
    · show shapeCast S1x1x10 (rowTo X M8 (Fin.ofNat 4 j.val) 5) shapeCasts_S1x10_S1x1x10 (ix3 0 0 q) = _
      rw [ej, uncast7]
      exact rowTo_at X M8 j 0 q 5 le_rfl (by omega)
    · intro k hk h
      have := hm _ h
      change r.val = a + k % 4 at this
      omega
  · refine read_writes_other M7.view f _ _ fun p hp h => ?_
    have : ∀ m, ∀ p ∈ L7 X M8 i hb m, ∃ j, p = pc7 X M8 i hb j := by
      intro m
      induction m with
      | zero => intro p hp; exact absurd hp List.not_mem_nil
      | succ m ih =>
        intro p hp
        rcases List.mem_cons.mp hp with h | h
        · exact ⟨_, h⟩
        · exact ih p h
    obtain ⟨j, rfl⟩ := this 4 p hp
    exact hn j (hm j h)

section Run

variable (c : Dev nD) (i : grid0.Coords) (E : Set ℕ)
  (M0 : Memref sig .tc .vmem S1x640x640 .bf16) (h0 : M0.IsWhole)
  (M1 : Memref sig .tc .vmem S1x640x640 .bf16) (h1 : M1.IsWhole)
  (M2 : Memref sig .tc .vmem S1x640x640 .bf16) (h2 : M2.IsWhole)
  (M3 : Memref sig .tc .vmem S1x640x640 .bf16) (h3 : M3.IsWhole)
  (M4 : Memref sig .tc .vmem S1x4x160x640 .i8) (h4 : M4.IsWhole)
  (M5 : Memref sig .tc .vmem S5x2x32 .f32) (h5 : M5.IsWhole)
  (M6 : Memref sig .tc .vmem S1x4x160x640 .i8) (h6 : M6.IsWhole)
  (M7 : Memref sig .tc .vmem S1x8x10 .f32) (h7 : M7.IsWhole)
  (M8 : Memref sig .tc .vmem S640x640 .bf16) (h8 : M8.IsWhole)
  (M9 : Memref sig .tc .vmem S640x640 .bf16) (h9 : M9.IsWhole)
  (M10 : Memref sig .tc .vmem S4x640x256 .bf16) (h10 : M10.IsWhole)
  (M11 : Memref sig .tc .vmem S4x16x128 .f32) (h11 : M11.IsWhole)
  (M12 : Memref sig .tc .vmem S5x160x512 .bf16) (h12 : M12.IsWhole)
  (M13 : Memref sig .tc .vmem S2x640x256 .f32) (h13 : M13.IsWhole)
  (M14 : Memref sig .tc .vmem S2x640x256 .bf16) (h14 : M14.IsWhole)
    (f0 : Bf (F := Ideal) c M0) (f1 : Bf (F := Ideal) c M1) (f2 : Bf (F := Ideal) c M2)
    (f5 : Bf (F := Ideal) c M5) (f6 : Bf (F := Ideal) c M6) (f7 : Bf (F := Ideal) c M7)
    (f8 : Bf (F := Ideal) c M8) (f9 : Bf (F := Ideal) c M9) (f10 : Bf (F := Ideal) c M10) (f11 : Bf (F := Ideal) c M11)
    (hcc : ¬ k0_cond2 i = 1#1 → ¬ Scalar.cmpi .ne (Scalar.extui (Scalar.cmpi .eq (BitVec.ofNat 32 (i 1).val) 0#32) : BitVec 32) 0#32 = 1#1)

theorem head_pos (h : k0_cond2 i = 1#1) : headRun c i E M0 h0 M1 h1 M2 h2 M3 h3 M4 h4 M5 h5 M6 h6 M7 h7 M8 h8 M9 h9 M10 h10 M11 h11 M12 h12 M13 h13 M14 h14 f0 f1 f2 f6 f7 f8 f9 f10 f11 hcc = prepRun c i E M0 h0 M1 h1 M2 h2 M3 h3 M4 h4 M5 h5 M6 h6 M7 h7 M8 h8 M9 h9 M10 h10 M11 h11 M12 h12 M13 h13 M14 h14 f0 f1 f2 f6 f7 f8 f9 f10 f11 h := dif_pos h

theorem head_neg (h : ¬ k0_cond2 i = 1#1) : (headRun c i E M0 h0 M1 h1 M2 h2 M3 h3 M4 h4 M5 h5 M6 h6 M7 h7 M8 h8 M9 h9 M10 h10 M11 h11 M12 h12 M13 h13 M14 h14 f0 f1 f2 f6 f7 f8 f9 f10 f11 hcc).1 = (f6, f7, f8, f9, f10, f11) := by
  unfold headRun
  rw [dif_neg h]
  rfl

/-- The prepared values: the value block transposed. -/
theorem left9 (h : k0_cond2 i = 1#1) (c' s : Fin 640) :
    M9.view.read (Elt Ideal) (headRun c i E M0 h0 M1 h1 M2 h2 M3 h3 M4 h4 M5 h5 M6 h6 M7 h7 M8 h8 M9 h9 M10 h10 M11 h11 M12 h12 M13 h13 M14 h14 f0 f1 f2 f6 f7 f8 f9 f10 f11 hcc).1.2.2.2.1 (ix2 c' s) = M2.view.read (Elt Ideal) f2 (ix3 0 s c') := by
  rw [head_pos c i E M0 h0 M1 h1 M2 h2 M3 h3 M4 h4 M5 h5 M6 h6 M7 h7 M8 h8 M9 h9 M10 h10 M11 h11 M12 h12 M13 h13 M14 h14 f0 f1 f2 f6 f7 f8 f9 f10 f11 hcc h]
  refine Eq.trans (View.read_writes_apply_eq_canon M9.view _ _ _ (Eq.mpr (congrArg (fun L => ∃ p ∈ L, _ ∈ p.1.set) (tie9 c M2 f2)) (cover_L8 (M2.view.read (Elt Ideal) f2) c' s))) ?_
  exact Eq.trans (congrFun (congrArg View.canon (tie9 c M2 f2)) _) (canon_L8 (M2.view.read (Elt Ideal) f2) c' s)

/-- The prepared codes of the keys. -/
theorem left10 (h : k0_cond2 i = 1#1) (j : Fin 4) (s : Fin 640) (d : Fin 160) :
    M10.view.read (Elt Ideal) (headRun c i E M0 h0 M1 h1 M2 h2 M3 h3 M4 h4 M5 h5 M6 h6 M7 h7 M8 h8 M9 h9 M10 h10 M11 h11 M12 h12 M13 h13 M14 h14 f0 f1 f2 f6 f7 f8 f9 f10 f11 hcc).1.2.2.2.2.1 (ix3 j s ⟨d.val, by omega⟩)
      = num (code (kx (M1.view.read (Elt Ideal) f1) j ⟨s.val / 64, by omega⟩ ⟨s.val % 64, by omega⟩ d) (kss (M1.view.read (Elt Ideal) f1) j ⟨s.val / 64, by omega⟩)) := by
  rw [head_pos c i E M0 h0 M1 h1 M2 h2 M3 h3 M4 h4 M5 h5 M6 h6 M7 h7 M8 h8 M9 h9 M10 h10 M11 h11 M12 h12 M13 h13 M14 h14 f0 f1 f2 f6 f7 f8 f9 f10 f11 hcc h]
  refine Eq.trans (View.read_writes_apply_eq_canon M10.view _ _ _ (Eq.mpr (congrArg (fun L => ∃ p ∈ L, _ ∈ p.1.set) (tie10 c M1 M8 f1)) ((canon_L10 (M1.view.read (Elt Ideal) f1) M8 j s d).1))) ?_
  exact Eq.trans (congrFun (congrArg View.canon (tie10 c M1 M8 f1)) _) ((canon_L10 (M1.view.read (Elt Ideal) f1) M8 j s d).2)

/-- The prepared scales of the keys. -/
theorem left11 (h : k0_cond2 i = 1#1) (j : Fin 4) (kb : Fin 10) (l : Fin 128) :
    M11.view.read (Elt Ideal) (headRun c i E M0 h0 M1 h1 M2 h2 M3 h3 M4 h4 M5 h5 M6 h6 M7 h7 M8 h8 M9 h9 M10 h10 M11 h11 M12 h12 M13 h13 M14 h14 f0 f1 f2 f6 f7 f8 f9 f10 f11 hcc).1.2.2.2.2.2 (ix3 j ⟨kb.val, by omega⟩ l)
      = View.canon (L11 (M1.view.read (Elt Ideal) f1) M8 40) (ix3 j ⟨kb.val, by omega⟩ l : S4x16x128.Idx) := by
  rw [head_pos c i E M0 h0 M1 h1 M2 h2 M3 h3 M4 h4 M5 h5 M6 h6 M7 h7 M8 h8 M9 h9 M10 h10 M11 h11 M12 h12 M13 h13 M14 h14 f0 f1 f2 f6 f7 f8 f9 f10 f11 hcc h]
  have e : ∃ f, (prepRun c i E M0 h0 M1 h1 M2 h2 M3 h3 M4 h4 M5 h5 M6 h6 M7 h7 M8 h8 M9 h9 M10 h10 M11 h11 M12 h12 M13 h13 M14 h14 f0 f1 f2 f6 f7 f8 f9 f10 f11 h).1.2.2.2.2.2 = M11.view.writes (Elt Ideal) f (L11 (M1.view.read (Elt Ideal) f1) M8 40) :=
    ⟨_, congrArg (M11.view.writes (Elt Ideal) _) (tie11 c M1 M8 f1)⟩
  obtain ⟨f, e⟩ := e
  rw [e]
  exact View.read_writes_apply_eq_canon M11.view _ (ix3 j ⟨kb.val, by omega⟩ l : S4x16x128.Idx) (L11 (M1.view.read (Elt Ideal) f1) M8 40) (canon_L11 _ M8 j kb l).1

/-- The codes of the keys given back. -/
theorem left6 (h : k0_cond2 i = 1#1) (j : Fin 4) (d : Fin 160) (s : Fin 640) :
    M6.view.read (Elt Ideal) (headRun c i E M0 h0 M1 h1 M2 h2 M3 h3 M4 h4 M5 h5 M6 h6 M7 h7 M8 h8 M9 h9 M10 h10 M11 h11 M12 h12 M13 h13 M14 h14 f0 f1 f2 f6 f7 f8 f9 f10 f11 hcc).1.1 (ix4 0 j d s)
      = code (kx (M1.view.read (Elt Ideal) f1) j ⟨s.val / 64, by omega⟩ ⟨s.val % 64, by omega⟩ d) (kss (M1.view.read (Elt Ideal) f1) j ⟨s.val / 64, by omega⟩) := by
  rw [head_pos c i E M0 h0 M1 h1 M2 h2 M3 h3 M4 h4 M5 h5 M6 h6 M7 h7 M8 h8 M9 h9 M10 h10 M11 h11 M12 h12 M13 h13 M14 h14 f0 f1 f2 f6 f7 f8 f9 f10 f11 hcc h]
  have e : ∃ f, (prepRun c i E M0 h0 M1 h1 M2 h2 M3 h3 M4 h4 M5 h5 M6 h6 M7 h7 M8 h8 M9 h9 M10 h10 M11 h11 M12 h12 M13 h13 M14 h14 f0 f1 f2 f6 f7 f8 f9 f10 f11 h).1.1 = M6.view.writes (Elt Ideal) f (L6 (M1.view.read (Elt Ideal) f1) M8 20) :=
    ⟨_, congrArg (M6.view.writes (Elt Ideal) _) (tie6 c M1 M8 f1)⟩
  obtain ⟨f, e⟩ := e
  rw [e]
  refine Eq.trans ?_ (canon_L6 (M1.view.read (Elt Ideal) f1) M8 j d s)
  exact View.read_writes_apply_eq_canon M6.view _ (ix4 0 j d s : S1x4x160x640.Idx) (L6 (M1.view.read (Elt Ideal) f1) M8 20) (cover_L6 _ M8 j d s)

/-- The scales of the keys given back are the stored rows over what was there. -/
theorem left7 (h : k0_cond2 i = 1#1) (hb : ∀ j : Fin 4, ∀ a, k0_off1 i (BitVec.ofNat 32 j.val) a + S1x1x10.size a ≤ S1x8x10.size a) :
    (headRun c i E M0 h0 M1 h1 M2 h2 M3 h3 M4 h4 M5 h5 M6 h6 M7 h7 M8 h8 M9 h9 M10 h10 M11 h11 M12 h12 M13 h13 M14 h14 f0 f1 f2 f6 f7 f8 f9 f10 f11 hcc).1.2.1 = M7.view.writes (Elt Ideal) f7 (L7 (M1.view.read (Elt Ideal) f1) M8 i hb 4) := by
  rw [head_pos c i E M0 h0 M1 h1 M2 h2 M3 h3 M4 h4 M5 h5 M6 h6 M7 h7 M8 h8 M9 h9 M10 h10 M11 h11 M12 h12 M13 h13 M14 h14 f0 f1 f2 f6 f7 f8 f9 f10 f11 hcc h]
  exact congrArg (M7.view.writes (Elt Ideal) f7) (tie7 c i h M1 M8 f1 hb)

/-- The rest of the point leaves the prepared buffers as they are. -/
theorem full_head : (fullRun c i E M0 h0 M1 h1 M2 h2 M3 h3 M4 h4 M5 h5 M6 h6 M7 h7 M8 h8 M9 h9 M10 h10 M11 h11 M12 h12 M13 h13 M14 h14 f0 f1 f2 f5 f6 f7 f8 f9 f10 f11 hcc).1.2 = (headRun c i E M0 h0 M1 h1 M2 h2 M3 h3 M4 h4 M5 h5 M6 h6 M7 h7 M8 h8 M9 h9 M10 h10 M11 h11 M12 h12 M13 h13 M14 h14 f0 f1 f2 f6 f7 f8 f9 f10 f11 hcc).1 := rfl

/-- The stored codes of the queries. -/
theorem left4 (h : Fin 4) (d : Fin 160) (s : Fin 640) :
    M4.view.read (Elt Ideal) (fullRun c i E M0 h0 M1 h1 M2 h2 M3 h3 M4 h4 M5 h5 M6 h6 M7 h7 M8 h8 M9 h9 M10 h10 M11 h11 M12 h12 M13 h13 M14 h14 f0 f1 f2 f5 f6 f7 f8 f9 f10 f11 hcc).1.1.2.1 (ix4 0 h d s)
      = code (xh (M0.view.read (Elt Ideal) f0) ⟨s.val / 128, by omega⟩ h ⟨s.val % 128, by omega⟩ d) (sh (M0.view.read (Elt Ideal) f0) ⟨s.val / 128, by omega⟩ h) := by
  have e : (⟨128 * (s.val / 128) + s.val % 128, by omega⟩ : Fin 640) = s := Fin.ext (by show 128 * (s.val / 128) + s.val % 128 = s.val; omega)
  refine Eq.trans (congrFun (View.read_writes_junk_eq_canon M4.view _) _) ?_
  refine Eq.trans (congrFun (congrArg View.canon (codes c M0 f0)) _) ?_
  refine Eq.trans ?_ (qc_at (M0.view.read (Elt Ideal) f0) ⟨s.val / 128, by omega⟩ h d ⟨s.val % 128, by omega⟩)
  refine Eq.trans ?_ (canon_L4 (M0.view.read (Elt Ideal) f0) ⟨s.val / 128, by omega⟩ h d ⟨s.val % 128, by omega⟩)
  exact congrArg (fun z => View.canon (L4 (M0.view.read (Elt Ideal) f0) 20) (ix4 0 h d z : S1x4x160x640.Idx)) e.symm

/-- The stored scales of the queries are the rows over what was there. -/
theorem left5 (hb : ∀ qb a, offQ i qb a + S1x1x32.size a ≤ S5x2x32.size a) :
    (fullRun c i E M0 h0 M1 h1 M2 h2 M3 h3 M4 h4 M5 h5 M6 h6 M7 h7 M8 h8 M9 h9 M10 h10 M11 h11 M12 h12 M13 h13 M14 h14 f0 f1 f2 f5 f6 f7 f8 f9 f10 f11 hcc).1.1.2.2 = M5.view.writes (Elt Ideal) f5 (LQ (M0.view.read (Elt Ideal) f0) i (BitVec.ofNat 32 (i 1).val)
      (fun qb => M5.view.readAt (Elt Ideal) (Rect.unit (s := S5x2x32) (offQ i qb) S1x1x32.size (hb qb)).toLoadRect f5) hb 5) :=
  congrArg (M5.view.writes (Elt Ideal) f5) (tie5 c i M0 M5 f0 f5 hb)

/-- The stored output: at a token and a lane, the weighted mean of the values under the softmax of the token's scores. -/
theorem left3 (C : Fin 640 → Fin 160 → BitVec 8) (K : Fin 10 → EReal) (W : Fin 640 → Fin 160 → EReal) (j : Fin 4) (hi : Offs i j)
    (hX9 : ∀ (d : Fin 160) (x : Fin 640), M9.view.read (Elt Ideal) (headRun c i E M0 h0 M1 h1 M2 h2 M3 h3 M4 h4 M5 h5 M6 h6 M7 h7 M8 h8 M9 h9 M10 h10 M11 h11 M12 h12 M13 h13 M14 h14 f0 f1 f2 f6 f7 f8 f9 f10 f11 hcc).1.2.2.2.1 (ix2 ⟨160 * j.val + d.val, by omega⟩ x) = W x d)
    (hX10 : ∀ (x : Fin 640) (d : Fin 160), M10.view.read (Elt Ideal) (headRun c i E M0 h0 M1 h1 M2 h2 M3 h3 M4 h4 M5 h5 M6 h6 M7 h7 M8 h8 M9 h9 M10 h10 M11 h11 M12 h12 M13 h13 M14 h14 f0 f1 f2 f6 f7 f8 f9 f10 f11 hcc).1.2.2.2.2.1 (ix3 j x ⟨d.val, by omega⟩) = num (C x d))
    (hX11 : ∀ (kb : Fin 10) (l : Fin 128), M11.view.read (Elt Ideal) (headRun c i E M0 h0 M1 h1 M2 h2 M3 h3 M4 h4 M5 h5 M6 h6 M7 h7 M8 h8 M9 h9 M10 h10 M11 h11 M12 h12 M13 h13 M14 h14 f0 f1 f2 f6 f7 f8 f9 f10 f11 hcc).1.2.2.2.2.2 (ix3 j ⟨kb.val, by omega⟩ l) = K kb * (((Real.sqrt 160)⁻¹ * (Real.log 2)⁻¹ : ℝ) : EReal))
    (t c' : Fin 640) :
    M3.view.read (Elt Ideal) (fullRun c i E M0 h0 M1 h1 M2 h2 M3 h3 M4 h4 M5 h5 M6 h6 M7 h7 M8 h8 M9 h9 M10 h10 M11 h11 M12 h12 M13 h13 M14 h14 f0 f1 f2 f5 f6 f7 f8 f9 f10 f11 hcc).1.1.1 (ix3 0 t c')
      = soft (fun x : Fin 640 => rowS (M0.view.read (Elt Ideal) f0) C K ⟨t.val / 128, by omega⟩ ⟨c'.val / 160, by omega⟩ ⟨t.val % 128, by omega⟩ x.val) (fun x => W x ⟨c'.val % 160, by omega⟩) := by
  have e : ∀ (qb : Fin 5) (h : Fin 4) (d : Fin 160) (l : Fin 128),
      Y c i M0 M9 M10 M11 M12 M13 M14 f0 (headRun c i E M0 h0 M1 h1 M2 h2 M3 h3 M4 h4 M5 h5 M6 h6 M7 h7 M8 h8 M9 h9 M10 h10 M11 h11 M12 h12 M13 h13 M14 h14 f0 f1 f2 f6 f7 f8 f9 f10 f11 hcc).1.2.2.2.1 (headRun c i E M0 h0 M1 h1 M2 h2 M3 h3 M4 h4 M5 h5 M6 h6 M7 h7 M8 h8 M9 h9 M10 h10 M11 h11 M12 h12 M13 h13 M14 h14 f0 f1 f2 f6 f7 f8 f9 f10 f11 hcc).1.2.2.2.2.1 (headRun c i E M0 h0 M1 h1 M2 h2 M3 h3 M4 h4 M5 h5 M6 h6 M7 h7 M8 h8 M9 h9 M10 h10 M11 h11 M12 h12 M13 h13 M14 h14 f0 f1 f2 f6 f7 f8 f9 f10 f11 hcc).1.2.2.2.2.2 qb h (ix2 d l)
        = soft (fun x : Fin 640 => rowS (M0.view.read (Elt Ideal) f0) C K qb h l x.val) (fun x => W x d) :=
    fun qb h d l => head_row (M0.view.read (Elt Ideal) f0) C K M12 M13 M14 i j hi _ _ _ W hX9 hX10 hX11 _
      (fun qb p => pairs c i M0 M9 M10 M11 M12 M13 M14 f0 _ _ _ qb p) qb h d l
  refine Eq.trans (congrFun (View.read_writes_junk_eq_canon M3.view _) _) ?_
  refine Eq.trans (congrFun (congrArg View.canon (tiles c i M0 M9 M10 M11 M12 M13 M14 f0 (headRun c i E M0 h0 M1 h1 M2 h2 M3 h3 M4 h4 M5 h5 M6 h6 M7 h7 M8 h8 M9 h9 M10 h10 M11 h11 M12 h12 M13 h13 M14 h14 f0 f1 f2 f6 f7 f8 f9 f10 f11 hcc).1.2.2.2.1 (headRun c i E M0 h0 M1 h1 M2 h2 M3 h3 M4 h4 M5 h5 M6 h6 M7 h7 M8 h8 M9 h9 M10 h10 M11 h11 M12 h12 M13 h13 M14 h14 f0 f1 f2 f6 f7 f8 f9 f10 f11 hcc).1.2.2.2.2.1 (headRun c i E M0 h0 M1 h1 M2 h2 M3 h3 M4 h4 M5 h5 M6 h6 M7 h7 M8 h8 M9 h9 M10 h10 M11 h11 M12 h12 M13 h13 M14 h14 f0 f1 f2 f6 f7 f8 f9 f10 f11 hcc).1.2.2.2.2.2)) _) ?_
  refine (canon_L3 _ t c').trans ?_
  refine (stackV_at (fun h => Y c i M0 M9 M10 M11 M12 M13 M14 f0 (headRun c i E M0 h0 M1 h1 M2 h2 M3 h3 M4 h4 M5 h5 M6 h6 M7 h7 M8 h8 M9 h9 M10 h10 M11 h11 M12 h12 M13 h13 M14 h14 f0 f1 f2 f6 f7 f8 f9 f10 f11 hcc).1.2.2.2.1 (headRun c i E M0 h0 M1 h1 M2 h2 M3 h3 M4 h4 M5 h5 M6 h6 M7 h7 M8 h8 M9 h9 M10 h10 M11 h11 M12 h12 M13 h13 M14 h14 f0 f1 f2 f6 f7 f8 f9 f10 f11 hcc).1.2.2.2.2.1 (headRun c i E M0 h0 M1 h1 M2 h2 M3 h3 M4 h4 M5 h5 M6 h6 M7 h7 M8 h8 M9 h9 M10 h10 M11 h11 M12 h12 M13 h13 M14 h14 f0 f1 f2 f6 f7 f8 f9 f10 f11 hcc).1.2.2.2.2.2 ⟨t.val / 128, by omega⟩ h) c' ⟨t.val % 128, by omega⟩).trans ?_
  exact e _ _ _ _

end Run

end Cert.KernelIdeal.Left

end
-- ==== Proof.RefPoint.lean ====
/- What the reference computes, index by index: its scales, codes and the attention it forms from them. -/
module
public import proofs.«01_k».proof.Proof.Spec
public import proofs.«01_k».proof.Proof.Gen.ReferenceIdeal.Value
@[expose] public section
set_option maxRecDepth 16384
noncomputable section
namespace Cert.ReferenceIdeal.Point
open Cert.ReferenceIdeal Cert.ReferenceIdeal.Gen Cert.Spec Idealize.ShloMosaic Idealize.ShloMosaic.TcCoe Idealize.SL.Sem

/-- The clip written with the bounds first is the code. -/
theorem clip_eq (v s : EReal) :
    FloatOps.fptosi (F := Ideal) (φ := .f32) 8 (min ((((127#32 : BitVec 32).toInt : ℝ) : EReal))
      (max ((((4294967169#32 : BitVec 32).toInt : ℝ) : EReal)) (Ideal.liftRound Ideal.roundHalfEven (Ideal.div v s)))) = code v s := by
  have h1 : (((127#32 : BitVec 32).toInt : ℝ) : EReal) = Ideal.ofBits .f32 0x42FE0000#32 := by
    rw [ofBits_127, show (127#32 : BitVec 32).toInt = 127 from by decide]; norm_cast
  have h2 : (((4294967169#32 : BitVec 32).toInt : ℝ) : EReal) = Ideal.ofBits .f32 0xC2FE0000#32 := by
    rw [ofBits_neg_127, show (4294967169#32 : BitVec 32).toInt = -127 from by decide]; norm_cast
  rw [h1, h2, min_comm, max_comm]; rfl

/-- Row `r`, lane `d` of query head `h` in tile `q` of batch `b`. -/
def xq (x : FVec Ideal S2x640x5120 .bf16) (b : Fin 2) (q : Fin 5) (h : Fin 32) (r : Fin 128) (d : Fin 160) : EReal :=
  x (ix3 b ⟨q.val * 128 + r.val, by omega⟩ ⟨h.val * 160 + d.val, by omega⟩)

theorem pay2_at (x : FVec Ideal S2x640x5120 .bf16) (b : Fin 2) (q : Fin 5) (r : Fin 128) (h : Fin 32) (d : Fin 160) :
    k0_pay2 (F := Ideal) x (ix5 b q r h d) = xq x b q h r d := by
  pointwise [k0_pay2, xq]

/-- A scale from the greatest magnitude, over a vector of magnitudes. -/
def sel3 (w : FVec Ideal S2x5x32 .f32) : FVec Ideal S2x5x32 .f32 :=
  select (cmpf .ogt w (broadcast S2x5x32 (Scalar.ofBits .f32 0x00000000#32)))
    (divf w (broadcast S2x5x32 (Scalar.ofBits .f32 0x42FE0000#32))) (broadcast S2x5x32 (Scalar.ofBits .f32 0x3F800000#32))

theorem sel3_at (w : FVec Ideal S2x5x32 .f32) (b : Fin 2) (q : Fin 5) (h : Fin 32) : sel3 w (ix3 b q h) = scl (w (ix3 b q h)) := by
  pointwise [sel3, scl]

/-- The query scales. -/
theorem pay3_at (x : FVec Ideal S2x640x5120 .bf16) (b : Fin 2) (q : Fin 5) (h : Fin 32) :
    k0_pay3 (F := Ideal) x (ix3 b q h) = scl (amax (xq x b q h)) := by
  have hm := max24 (absf (k0_pay2 (F := Ideal) x)) reduces_S2x5x128x32x160_S2x5x32 (.inl rfl) rfl b q h
  have ha : (⨆ r : Fin 128, ⨆ e : Fin 160, absf (k0_pay2 (F := Ideal) x) (ix5 b q r h e)) = amax (xq x b q h) := by
    refine iSup_congr fun r => iSup_congr fun e => ?_
    rw [← pay2_at]; rfl
  rw [ha] at hm
  have hs : k0_pay3 (F := Ideal) x = sel3 (multiReduction .maximumf [2, 4] S2x5x32 (absf (k0_pay2 (F := Ideal) x)) 0xFF800000#32
    reduces_S2x5x128x32x160_S2x5x32 (.inl rfl) rfl) := rfl
  rw [hs, sel3_at]
  exact congrArg scl hm

/-- The codes of laid-out queries at given scales. -/
def cod4 (w2 : FVec Ideal S2x5x128x32x160 .f32) (w3 : FVec Ideal S2x5x32 .f32) : IVec S2x640x32x160 8 :=
  have v19 : FVec Ideal S2x5x1x32x1 .f32 := shapeCast S2x5x1x32x1 w3 shapeCasts_S2x5x32_S2x5x1x32x1
  have v20 : FVec Ideal S2x5x128x32x160 .f32 := broadcastTo S2x5x128x32x160 v19 broadcasts_S2x5x1x32x1_S2x5x128x32x160
  have v21 : FVec Ideal S2x5x128x32x160 .f32 := divf w2 v20
  have v22 : FVec Ideal S2x5x128x32x160 .f32 := roundeven v21
  have v23 : Ideal .f32 := Scalar.sitofp .f32 4294967169#32
  have v24 : FVec Ideal S2x5x128x32x160 .f32 := broadcast S2x5x128x32x160 v23
  have v25 : FVec Ideal S2x5x128x32x160 .f32 := maximumf v24 v22
  have v26 : Ideal .f32 := Scalar.sitofp .f32 127#32
  have v27 : FVec Ideal S2x5x128x32x160 .f32 := broadcast S2x5x128x32x160 v26
  have v28 : FVec Ideal S2x5x128x32x160 .f32 := minimumf v27 v25
  have v29 : IVec S2x5x128x32x160 8 := fptosi 8 v28
  have v30 : IVec S2x640x32x160 8 := shapeCast S2x640x32x160 v29 shapeCasts_S2x5x128x32x160_S2x640x32x160
  v30

/-- The query codes from the laid-out queries and the scales. -/
theorem code4_at (w2 : FVec Ideal S2x5x128x32x160 .f32) (w3 : FVec Ideal S2x5x32 .f32) (b : Fin 2) (t : Fin 640) (h : Fin 32) (d : Fin 160) :
    cod4 w2 w3 (ix4 b t h d) = code (w2 (ix5 b ⟨t.val / 128, by omega⟩ ⟨t.val % 128, by omega⟩ h d)) (w3 (ix3 b ⟨t.val / 128, by omega⟩ h)) := by
  pointwise [cod4]
  exact clip_eq _ _

/-- The query codes. -/
theorem pay4_at (x : FVec Ideal S2x640x5120 .bf16) (b : Fin 2) (t : Fin 640) (h : Fin 32) (d : Fin 160) :
    k0_pay4 (F := Ideal) x (ix4 b t h d)
      = code (xq x b ⟨t.val / 128, by omega⟩ h ⟨t.val % 128, by omega⟩ d) (scl (amax (xq x b ⟨t.val / 128, by omega⟩ h))) := by
  have h4 : k0_pay4 (F := Ideal) x = cod4 (k0_pay2 (F := Ideal) x) (k0_pay3 (F := Ideal) x) := rfl
  rw [h4, code4_at, pay2_at, pay3_at]

/-- Row `r`, lane `d` of key head `h` in block `q` of batch `b`, less the mean of that lane over the batch's keys. -/
def xk (k : FVec Ideal S2x640x1280 .bf16) (b : Fin 2) (q : Fin 10) (h : Fin 8) (r : Fin 64) (d : Fin 160) : EReal :=
  k (ix3 b ⟨q.val * 64 + r.val, by omega⟩ ⟨h.val * 160 + d.val, by omega⟩)
    - Ideal.div (∑ t : Fin 640, k (ix3 b t ⟨h.val * 160 + d.val, by omega⟩)) (Ideal.ofBits .f32 0x44200000#32)

theorem pay5_at (x : FVec Ideal S2x640x1280 .bf16) (b : Fin 2) (t : Fin 10) (r : Fin 64) (h : Fin 8) (d : Fin 160) :
    k0_pay5 (F := Ideal) x (ix5 b t r h d) = xk x b t h r d := by
  pointwise [k0_pay5, xk]

/-- A scale from the greatest magnitude, over a vector of magnitudes. -/
def sel6 (w : FVec Ideal S2x10x8 .f32) : FVec Ideal S2x10x8 .f32 :=
  select (cmpf .ogt w (broadcast S2x10x8 (Scalar.ofBits .f32 0x00000000#32)))
    (divf w (broadcast S2x10x8 (Scalar.ofBits .f32 0x42FE0000#32))) (broadcast S2x10x8 (Scalar.ofBits .f32 0x3F800000#32))

theorem sel6_at (w : FVec Ideal S2x10x8 .f32) (b : Fin 2) (q : Fin 10) (h : Fin 8) : sel6 w (ix3 b q h) = scl (w (ix3 b q h)) := by
  pointwise [sel6, scl]

/-- The key scales. -/
theorem pay6_at (x : FVec Ideal S2x640x1280 .bf16) (b : Fin 2) (q : Fin 10) (h : Fin 8) :
    k0_pay6 (F := Ideal) x (ix3 b q h) = scl (amax (xk x b q h)) := by
  have hm := max24 (absf (k0_pay5 (F := Ideal) x)) reduces_S2x10x64x8x160_S2x10x8 (.inl rfl) rfl b q h
  have ha : (⨆ r : Fin 64, ⨆ e : Fin 160, absf (k0_pay5 (F := Ideal) x) (ix5 b q r h e)) = amax (xk x b q h) := by
    refine iSup_congr fun r => iSup_congr fun e => ?_
    rw [← pay5_at]; rfl
  rw [ha] at hm
  have hs : k0_pay6 (F := Ideal) x = sel6 (multiReduction .maximumf [2, 4] S2x10x8 (absf (k0_pay5 (F := Ideal) x)) 0xFF800000#32
    reduces_S2x10x64x8x160_S2x10x8 (.inl rfl) rfl) := rfl
  rw [hs, sel6_at]
  exact congrArg scl hm

theorem code7_at (w5 : FVec Ideal S2x10x64x8x160 .f32) (w6 : FVec Ideal S2x10x8 .f32) (b : Fin 2) (t : Fin 640) (h : Fin 8) (d : Fin 160) :
    k0_pay7 (F := Ideal) w5 w6 (ix4 b t h d) = code (w5 (ix5 b ⟨t.val / 64, by omega⟩ ⟨t.val % 64, by omega⟩ h d)) (w6 (ix3 b ⟨t.val / 64, by omega⟩ h)) := by
  pointwise [k0_pay7]
  exact clip_eq _ _

/-- The query scale, query code, key scale and key code of the reference. -/
def qsc (x : FVec Ideal S2x640x5120 .bf16) (b : Fin 2) (q : Fin 5) (h : Fin 32) : EReal := scl (amax (xq x b q h))
def qcd (x : FVec Ideal S2x640x5120 .bf16) (b : Fin 2) (q : Fin 5) (h : Fin 32) (r : Fin 128) (d : Fin 160) : BitVec 8 :=
  code (xq x b q h r d) (qsc x b q h)
def ksc (k : FVec Ideal S2x640x1280 .bf16) (b : Fin 2) (q : Fin 10) (h : Fin 8) : EReal := scl (amax (xk k b q h))
def kcd (k : FVec Ideal S2x640x1280 .bf16) (b : Fin 2) (q : Fin 10) (h : Fin 8) (r : Fin 64) (d : Fin 160) : BitVec 8 :=
  code (xk k b q h r d) (ksc k b q h)

/-- The named intermediate values are the payloads of the whole arguments. -/
theorem pay17_eq {F : FTy → Type} [FloatOps F] [Named F] (x : Vec F S2x640x5120 .bf16) (k v : Vec F S2x640x1280 .bf16) :
    k0_pay17 x k v = k0_pay3 x := by
  unfold k0_pay17; rw [View.ld_unit_zero (S := S2x640x5120) Value.hz0 _ x]

theorem pay18_eq {F : FTy → Type} [FloatOps F] [Named F] (x : Vec F S2x640x5120 .bf16) (k v : Vec F S2x640x1280 .bf16) :
    k0_pay18 x k v = k0_pay4 x := by
  unfold k0_pay18; rw [View.ld_unit_zero (S := S2x640x5120) Value.hz0 _ x]

theorem pay19_eq {F : FTy → Type} [FloatOps F] [Named F] (x : Vec F S2x640x5120 .bf16) (k v : Vec F S2x640x1280 .bf16) :
    k0_pay19 x k v = k0_pay5 k := by
  unfold k0_pay19; rw [View.ld_unit_zero (S := S2x640x1280) Value.hz1 _ k]

theorem pay20_eq {F : FTy → Type} [FloatOps F] [Named F] (x : Vec F S2x640x5120 .bf16) (k v : Vec F S2x640x1280 .bf16) :
    k0_pay20 x k v = k0_pay6 k := by
  unfold k0_pay20; rw [View.ld_unit_zero (S := S2x640x1280) Value.hz1 _ k]

variable (x : FVec Ideal S2x640x5120 .bf16) (k v : FVec Ideal S2x640x1280 .bf16)

/-- The reference's query codes. -/
theorem G4_at (b : Fin 2) (h : Fin 32) (d : Fin 160) (t : Fin 640) :
    Value.G4 (F := Ideal) x k v (ix4 b h d t) = qcd x b ⟨t.val / 128, by omega⟩ h ⟨t.val % 128, by omega⟩ d := by
  show k0_pay8 (k0_pay18 (F := Ideal) x k v) _ = _
  rw [pay18_eq]
  have h4 := pay4_at x b t h d
  revert h4
  generalize k0_pay4 (F := Ideal) x = w
  intro h4
  pointwise [k0_pay8]
  exact h4

/-- The reference's query scales. -/
theorem G5_at (q : Fin 5) (b : Fin 2) (h : Fin 32) : Value.G5 (F := Ideal) x k v (ix3 q b h) = qsc x b q h := by
  show k0_pay9 (k0_pay17 (F := Ideal) x k v) _ = _
  rw [pay17_eq]
  have h3 := pay3_at x b q h
  revert h3
  generalize k0_pay3 (F := Ideal) x = w
  intro h3
  pointwise [k0_pay9]
  exact h3

/-- The reference's key codes. -/
theorem G6_at (b : Fin 2) (h : Fin 8) (d : Fin 160) (t : Fin 640) :
    Value.G6 (F := Ideal) x k v (ix4 b h d t) = kcd k b ⟨t.val / 64, by omega⟩ h ⟨t.val % 64, by omega⟩ d := by
  show k0_pay10 (k0_pay19 (F := Ideal) x k v) (k0_pay20 (F := Ideal) x k v) _ = _
  rw [pay19_eq, pay20_eq]
  have h5 := pay5_at k b ⟨t.val / 64, by omega⟩ ⟨t.val % 64, by omega⟩ h d
  have h6 := pay6_at k b ⟨t.val / 64, by omega⟩ h
  have h7 := code7_at (k0_pay5 (F := Ideal) k) (k0_pay6 (F := Ideal) k) b t h d
  rw [h5, h6] at h7
  refine Eq.trans ?_ h7
  unfold k0_pay10
  generalize k0_pay7 (F := Ideal) _ _ = w
  pointwise

/-- The reference's key scales. -/
theorem G7_at (b : Fin 2) (h : Fin 8) (q : Fin 10) : Value.G7 (F := Ideal) x k v (ix3 b h q) = ksc k b q h := by
  show k0_pay11 (k0_pay20 (F := Ideal) x k v) _ = _
  rw [pay20_eq]
  have h3 := pay6_at k b q h
  revert h3
  generalize k0_pay6 (F := Ideal) k = w
  intro h3
  pointwise [k0_pay11]
  exact h3

/-- The attention of the reference from its operands. -/
theorem pay1_at (v64 : FVec Ideal S2x8x4x640x160 .bf16) (v66 v69 : FVec Ideal S2x8x640x160 .bf16)
    (v74 : FVec Ideal S2x8x4x640 .f32) (v78 : FVec Ideal S2x8x640 .f32) (b : Fin 2) (t : Fin 640) (c : Fin 5120) :
    k0_pay1 (F := Ideal) v64 v66 v69 v74 v78 (ix3 b t c) = soft
      (fun s : Fin 640 => if s.val ≤ t.val then
        (∑ d : Fin 160, v64 (ix5 b ⟨c.val / 640, by omega⟩ ⟨c.val / 160 % 4, by omega⟩ t d) * v66 (ix4 b ⟨c.val / 640, by omega⟩ s d))
          * v74 (ix4 b ⟨c.val / 640, by omega⟩ ⟨c.val / 160 % 4, by omega⟩ t) * v78 (ix3 b ⟨c.val / 640, by omega⟩ s)
          * (((Real.sqrt 160)⁻¹ : ℝ) : EReal) else ⊥)
      (fun s => v69 (ix4 b ⟨c.val / 640, by omega⟩ s ⟨c.val % 160, by omega⟩)) := by
  have hsel : ∀ (s : Fin 640) (a e : EReal), Scalar.select (IntOp.cmpi .sle (BitVec.ofNat 32 s.val) (BitVec.ofNat 32 t.val)) a e
      = if s.val ≤ t.val then a else e := by
    intro s a e
    have : (BitVec.ofNat 32 s.val).sle (BitVec.ofNat 32 t.val) = decide (s.val ≤ t.val) := by
      have h1 := s.isLt; have h2 := t.isLt
      rw [BitVec.sle_eq_decide]
      congr 1
      rw [BitVec.toInt_eq_toNat_of_lt (by rw [BitVec.toNat_ofNat, Nat.mod_eq_of_lt] <;> omega),
        BitVec.toInt_eq_toNat_of_lt (by rw [BitVec.toNat_ofNat, Nat.mod_eq_of_lt] <;> omega), BitVec.toNat_ofNat, BitVec.toNat_ofNat,
        Nat.mod_eq_of_lt (by omega), Nat.mod_eq_of_lt (by omega)]
      simp
    by_cases h : s.val ≤ t.val <;> simp [Scalar.select, IntOp.cmpi, this, h]
  pointwise [k0_pay1]
  simp only [hsel, ofBits_neg_inf, fold_max_eq]
  rfl

/-- The values, head by head. -/
theorem pay14_at (b : Fin 2) (h : Fin 8) (s : Fin 640) (d : Fin 160) :
    k0_pay14 (F := Ideal) v (ix4 b h s d) = v (ix3 b s ⟨h.val * 160 + d.val, by omega⟩) := by
  pointwise [k0_pay14]

theorem pay12_at (w : IVec S2x640x32x160 8) (b : Fin 2) (h : Fin 8) (g : Fin 4) (t : Fin 640) (d : Fin 160) :
    k0_pay12 (F := Ideal) w (ix5 b h g t d) = num (w (ix4 b t ⟨h.val * 4 + g.val, by omega⟩ d)) := by
  pointwise [k0_pay12]
  rfl

theorem pay13_at (w5 : FVec Ideal S2x10x64x8x160 .f32) (w6 : FVec Ideal S2x10x8 .f32) (b : Fin 2) (h : Fin 8) (t : Fin 640) (d : Fin 160) :
    k0_pay13 (F := Ideal) w5 w6 (ix4 b h t d) = num (k0_pay7 (F := Ideal) w5 w6 (ix4 b t h d)) := by
  unfold k0_pay13
  generalize k0_pay7 (F := Ideal) w5 w6 = w
  pointwise
  rfl

theorem pay15_at (w : FVec Ideal S2x5x32 .f32) (b : Fin 2) (h : Fin 8) (g : Fin 4) (t : Fin 640) :
    k0_pay15 (F := Ideal) w (ix4 b h g t) = w (ix3 b ⟨t.val / 128, by omega⟩ ⟨h.val * 4 + g.val, by omega⟩) := by
  pointwise [k0_pay15]

theorem pay16_at (w : FVec Ideal S2x10x8 .f32) (b : Fin 2) (h : Fin 8) (t : Fin 640) :
    k0_pay16 (F := Ideal) w (ix3 b h t) = w (ix3 b ⟨t.val / 64, by omega⟩ h) := by
  pointwise [k0_pay16]

/-- The score of query `t` and key `s` in the query head of number `h * 4 + g`: the product of the codes times both scales
    and `1 / √160`. -/
def score (b : Fin 2) (h : Fin 8) (g : Fin 4) (t s : Fin 640) : EReal :=
  (∑ d : Fin 160, num (qcd x b ⟨t.val / 128, by omega⟩ ⟨h.val * 4 + g.val, by omega⟩ ⟨t.val % 128, by omega⟩ d)
      * num (kcd k b ⟨s.val / 64, by omega⟩ h ⟨s.val % 64, by omega⟩ d))
    * qsc x b ⟨t.val / 128, by omega⟩ ⟨h.val * 4 + g.val, by omega⟩ * ksc k b ⟨s.val / 64, by omega⟩ h
    * (((Real.sqrt 160)⁻¹ : ℝ) : EReal)

/-- The causally masked score. -/
def masked (b : Fin 2) (h : Fin 8) (g : Fin 4) (t s : Fin 640) : EReal := if s.val ≤ t.val then score x k b h g t s else ⊥

/-- The reference's attention output. -/
theorem G3_at (b : Fin 2) (t : Fin 640) (c : Fin 5120) :
    Value.G3 (F := Ideal) x k v (ix3 b t c) = soft (masked x k b ⟨c.val / 640, by omega⟩ ⟨c.val / 160 % 4, by omega⟩ t)
      (fun s => v (ix3 b s ⟨c.val / 640 * 160 + c.val % 160, by omega⟩)) := by
  unfold Value.G3
  rw [pay17_eq, pay18_eq, pay19_eq, pay20_eq]
  have e4 := pay4_at x
  have e12 := pay12_at (k0_pay4 (F := Ideal) x)
  have e5 := pay5_at k
  have e6 := pay6_at k
  have e7 := code7_at (k0_pay5 (F := Ideal) k) (k0_pay6 (F := Ideal) k)
  have e13 := pay13_at (k0_pay5 (F := Ideal) k) (k0_pay6 (F := Ideal) k)
  have e14 := pay14_at v
  have e3 := pay3_at x
  have e15 := pay15_at (k0_pay3 (F := Ideal) x)
  have e16 := pay16_at (k0_pay6 (F := Ideal) k)
  simp only [e3, e4, e5, e6, e7] at e12 e13 e14 e15 e16
  rw [pay1_at]
  simp only [e12, e13, e14, e15, e16]
  rfl

end Cert.ReferenceIdeal.Point
-- ==== Proof.Same.lean ====
/- The equation: on a grid point's blocks the kernel's scales, codes and scores are the reference's at the point's batch element and heads. -/
module
public import proofs.«01_k».proof.Proof.RefPoint
public import proofs.«01_k».proof.Proof.Out
public import proofs.«01_k».proof.Proof.PrepAt
@[expose] public section
set_option maxRecDepth 16384
noncomputable section
namespace Cert.KernelIdeal.Same
open Cert.KernelIdeal.Model Cert.KernelIdeal.Prep Cert.ReferenceIdeal.Point Cert.Spec Idealize.ShloMosaic Idealize.ShloMosaic.TcCoe Idealize.SL.Sem

/-- A query block holds the columns of group `g` of batch element `b`. -/
def QIs (x : FVec Ideal Cert.ReferenceIdeal.S2x640x5120 .bf16) (b : Fin 2) (g : Fin 8) (X0 : Vec Ideal Cert.KernelIdeal.S1x640x640 .bf16) : Prop :=
  ∀ s c' : Fin 640, X0 (ix3 0 s c') = x (ix3 b s ⟨640 * g.val + c'.val, by omega⟩)

/-- A key or value block holds the columns of slab `sl` of batch element `b`. -/
def KIs (k : FVec Ideal Cert.ReferenceIdeal.S2x640x1280 .bf16) (b sl : Fin 2) (X1 : Vec Ideal Cert.KernelIdeal.S1x640x640 .bf16) : Prop :=
  ∀ s c' : Fin 640, X1 (ix3 0 s c') = k (ix3 b s ⟨640 * sl.val + c'.val, by omega⟩)

section Queries
variable (x : FVec Ideal Cert.ReferenceIdeal.S2x640x5120 .bf16) (b : Fin 2) (g : Fin 8) (X0 : Vec Ideal Cert.KernelIdeal.S1x640x640 .bf16)
  (hX : QIs x b g X0)

include hX

theorem xh_eq (qb : Fin 5) (h : Fin 4) (r : Fin 128) (d : Fin 160) : xh X0 qb h r d = xq x b qb ⟨g.val * 4 + h.val, by omega⟩ r d := by
  refine (hX _ _).trans ?_
  unfold xq
  refine congrArg (fun z => x (ix3 b _ z)) (Fin.ext ?_)
  show 640 * g.val + (h.val * 160 + d.val) = (g.val * 4 + h.val) * 160 + d.val
  omega

theorem sh_eq (qb : Fin 5) (h : Fin 4) : sh X0 qb h = qsc x b qb ⟨g.val * 4 + h.val, by omega⟩ :=
  congrArg (fun z => scl (amax z)) (funext fun r => funext fun d => xh_eq x b g X0 hX qb h r d)

theorem qcode_eq (qb : Fin 5) (h : Fin 4) (r : Fin 128) (d : Fin 160) :
    code (xh X0 qb h r d) (sh X0 qb h) = qcd x b qb ⟨g.val * 4 + h.val, by omega⟩ r d := by
  rw [xh_eq x b g X0 hX, sh_eq x b g X0 hX]; rfl

/-- The scores, causally masked. -/
theorem row_eq (k : FVec Ideal Cert.ReferenceIdeal.S2x640x1280 .bf16) (h : Fin 4) (t s : Fin 640) :
    rowS X0 (fun s d => kcd k b ⟨s.val / 64, by omega⟩ g ⟨s.val % 64, by omega⟩ d) (fun q => ksc k b q g)
        ⟨t.val / 128, by omega⟩ h ⟨t.val % 128, by omega⟩ s.val
      = masked x k b g h t s := by
  unfold rowS masked
  rw [dif_pos s.isLt]
  have e : (s.val ≤ 128 * (⟨t.val / 128, by omega⟩ : Fin 5).val + (⟨t.val % 128, by omega⟩ : Fin 128).val) ↔ s.val ≤ t.val := by
    show s.val ≤ 128 * (t.val / 128) + t.val % 128 ↔ _
    omega
  by_cases hs : s.val ≤ t.val
  · rw [if_pos (e.mpr hs), if_pos hs]
    unfold score
    rw [sh_eq x b g X0 hX]
    simp only [← sh_eq x b g X0 hX, qcode_eq x b g X0 hX]
  · rw [if_neg fun h' => hs (e.mp h'), if_neg hs]

end Queries

section Keys
variable (k : FVec Ideal Cert.ReferenceIdeal.S2x640x1280 .bf16) (b sl : Fin 2) (X1 : Vec Ideal Cert.KernelIdeal.S1x640x640 .bf16)
  (hX : KIs k b sl X1)

include hX

theorem kx_eq (j : Fin 4) (q : Fin 10) (r : Fin 64) (d : Fin 160) : kx X1 j q r d = xk k b q ⟨4 * sl.val + j.val, by omega⟩ r d := by
  have e : ∀ s : Fin 640, X1 (ix3 0 s ⟨160 * j.val + d.val, by omega⟩) = k (ix3 b s ⟨(4 * sl.val + j.val) * 160 + d.val, by omega⟩) := fun s => by
    refine (hX _ _).trans (congrArg (fun z => k (ix3 b s z)) (Fin.ext ?_))
    show 640 * sl.val + (160 * j.val + d.val) = (4 * sl.val + j.val) * 160 + d.val
    omega
  unfold kx xk
  rw [e]
  simp only [e]

theorem kss_eq (j : Fin 4) (q : Fin 10) : kss X1 j q = ksc k b q ⟨4 * sl.val + j.val, by omega⟩ :=
  congrArg (fun z => scl (amax z)) (funext fun r => funext fun d => kx_eq k b sl X1 hX j q r d)

theorem kcode_eq (j : Fin 4) (q : Fin 10) (r : Fin 64) (d : Fin 160) :
    code (kx X1 j q r d) (kss X1 j q) = kcd k b q ⟨4 * sl.val + j.val, by omega⟩ r d := by
  rw [kx_eq k b sl X1 hX, kss_eq k b sl X1 hX]; rfl

end Keys

end Cert.KernelIdeal.Same

end
-- ==== Proof.Where.lean ====
/- Where each grid point reads and writes. -/
module
public import proofs.«01_k».proof.Proof.Qs
public import proofs.«01_k».proof.Proof.Prep
@[expose] public section
set_option maxRecDepth 16384
noncomputable section
namespace Cert.KernelIdeal.Where
open Cert.KernelIdeal Cert.KernelIdeal.Gen Cert.KernelIdeal.Blocks Cert.KernelIdeal.Model Cert.Spec Idealize.ShloMosaic Idealize.ShloMosaic.TcCoe Idealize.SL.Sem

/-- There are sixteen grid points. -/
theorem lt16 (t : Fin grid0.N) : t.val < 16 := t.isLt

/-- The batch element of a grid point, its group of heads, the group's place among four, and the slab of four groups. -/
abbrev bt (t : Fin grid0.N) : Fin 2 := ⟨t.val / 8, by have := lt16 t; omega⟩
abbrev gt (t : Fin grid0.N) : Fin 8 := ⟨t.val % 8, by omega⟩
abbrev jt (t : Fin grid0.N) : Fin 4 := ⟨t.val % 4, by omega⟩
abbrev st (t : Fin grid0.N) : Fin 2 := ⟨t.val % 8 / 4, by omega⟩

theorem offs (t : Fin grid0.N) : Offs (grid0.coords t) (jt t) where
  k0 := (by decide +kernel : ∀ t : Fin grid0.N, k0_off3 (grid0.coords t) = ![(jt t).val, 0, 0]) t
  k1 := (by decide +kernel : ∀ t : Fin grid0.N, k0_off8 (grid0.coords t) = ![(jt t).val, 0, 0]) t
  k2 := (by decide +kernel : ∀ t : Fin grid0.N, k0_off13 (grid0.coords t) = ![(jt t).val, 0, 0]) t
  k3 := (by decide +kernel : ∀ t : Fin grid0.N, k0_off18 (grid0.coords t) = ![(jt t).val, 0, 0]) t
  k4 := (by decide +kernel : ∀ t : Fin grid0.N, k0_off23 (grid0.coords t) = ![(jt t).val, 0, 0]) t
  r0 := (by decide +kernel : ∀ t : Fin grid0.N, k0_off4 (grid0.coords t) = ![(jt t).val, 0, 0]) t
  r1 := (by decide +kernel : ∀ t : Fin grid0.N, k0_off5 (grid0.coords t) = ![(jt t).val, 1, 0]) t
  r2 := (by decide +kernel : ∀ t : Fin grid0.N, k0_off9 (grid0.coords t) = ![(jt t).val, 2, 0]) t
  r3 := (by decide +kernel : ∀ t : Fin grid0.N, k0_off10 (grid0.coords t) = ![(jt t).val, 3, 0]) t
  r4 := (by decide +kernel : ∀ t : Fin grid0.N, k0_off14 (grid0.coords t) = ![(jt t).val, 4, 0]) t
  r5 := (by decide +kernel : ∀ t : Fin grid0.N, k0_off15 (grid0.coords t) = ![(jt t).val, 5, 0]) t
  r6 := (by decide +kernel : ∀ t : Fin grid0.N, k0_off19 (grid0.coords t) = ![(jt t).val, 6, 0]) t
  r7 := (by decide +kernel : ∀ t : Fin grid0.N, k0_off20 (grid0.coords t) = ![(jt t).val, 7, 0]) t
  r8 := (by decide +kernel : ∀ t : Fin grid0.N, k0_off24 (grid0.coords t) = ![(jt t).val, 8, 0]) t
  r9 := (by decide +kernel : ∀ t : Fin grid0.N, k0_off25 (grid0.coords t) = ![(jt t).val, 9, 0]) t
  v0 := (by decide +kernel : ∀ t : Fin grid0.N, k0_off6 (grid0.coords t) = ![160 * (jt t).val, 0]) t
  v1 := (by decide +kernel : ∀ t : Fin grid0.N, k0_off11 (grid0.coords t) = ![160 * (jt t).val, 0]) t
  v2 := (by decide +kernel : ∀ t : Fin grid0.N, k0_off16 (grid0.coords t) = ![160 * (jt t).val, 0]) t
  v3 := (by decide +kernel : ∀ t : Fin grid0.N, k0_off21 (grid0.coords t) = ![160 * (jt t).val, 0]) t
  v4 := (by decide +kernel : ∀ t : Fin grid0.N, k0_off26 (grid0.coords t) = ![160 * (jt t).val, 0]) t

/-- The rows of query scales are those of the point's batch element. -/
theorem offQ_eq (t : Fin grid0.N) (qb : Fin 5) : offQ (grid0.coords t) qb = ![qb.val, (bt t).val, 0] :=
  (by decide +kernel : ∀ (t : Fin grid0.N) (qb : Fin 5), offQ (grid0.coords t) qb = ![qb.val, (bt t).val, 0]) t qb

theorem offQ_le (t : Fin grid0.N) (qb : Fin 5) (a : Fin 3) : offQ (grid0.coords t) qb a + S1x1x32.size a ≤ S5x2x32.size a :=
  (by decide +kernel : ∀ (t : Fin grid0.N) (qb : Fin 5) (a : Fin 3), offQ (grid0.coords t) qb a + S1x1x32.size a ≤ S5x2x32.size a) t qb a

/-- The rows of key scales are those of the slab's four heads. -/
theorem off1_eq (t : Fin grid0.N) (h : t.val % 4 = 0) (j : Fin 4) : k0_off1 (grid0.coords t) (BitVec.ofNat 32 j.val) = ![0, t.val % 8 + j.val, 0] :=
  (by decide +kernel : ∀ (t : Fin grid0.N) (_ : t.val % 4 = 0) (j : Fin 4), k0_off1 (grid0.coords t) (BitVec.ofNat 32 j.val) = ![0, t.val % 8 + j.val, 0]) t h j

theorem off1_le (t : Fin grid0.N) (h : t.val % 4 = 0) (j : Fin 4) (a : Fin 3) :
    k0_off1 (grid0.coords t) (BitVec.ofNat 32 j.val) a + S1x1x10.size a ≤ S1x8x10.size a :=
  (by decide +kernel : ∀ (t : Fin grid0.N) (_ : t.val % 4 = 0) (j : Fin 4) (a : Fin 3),
    k0_off1 (grid0.coords t) (BitVec.ofNat 32 j.val) a + S1x1x10.size a ≤ S1x8x10.size a) t h j a

/-- A point prepares keys and values iff it is the first of its four groups. -/
theorem cond_iff (t : Fin grid0.N) : k0_cond2 (grid0.coords t) = 1#1 ↔ t.val % 4 = 0 :=
  (by decide +kernel : ∀ t : Fin grid0.N, k0_cond2 (grid0.coords t) = 1#1 ↔ t.val % 4 = 0) t

theorem group_eq (t : Fin grid0.N) : ((grid0.coords t) 1).val = t.val % 8 :=
  (by decide +kernel : ∀ t : Fin grid0.N, ((grid0.coords t) 1).val = t.val % 8) t

end Cert.KernelIdeal.Where

end
-- ==== Proof.Keep.lean ====
/- What each grid point leaves, stated by the reference's scales, codes and scores. -/
module
public import proofs.«01_k».proof.Proof.RefPoint
public import proofs.«01_k».proof.Proof.Where
@[expose] public section
set_option maxRecDepth 16384
noncomputable section
namespace Cert.KernelIdeal.Point
open Cert.KernelIdeal Cert.KernelIdeal.Gen Cert.Spec Cert.KernelIdeal.Where Cert.ReferenceIdeal.Point
open Idealize.ShloMosaic Idealize.ShloMosaic.TcCoe Idealize.SL.Sem

section Props
variable (x : FVec Ideal S2x640x5120 .bf16) (k v : FVec Ideal S2x640x1280 .bf16) (t : Fin grid0.N)

/-- The values are prepared for the point's slab. -/
def K9 (X : S640x640.Idx → Elt Ideal .bf16) : Prop :=
  ∀ c' s : Fin 640, X (ix2 c' s) = v (ix3 (bt t) s ⟨640 * (st t).val + c'.val, by omega⟩)
/-- The codes of the keys are prepared for the point's slab. -/
def K10 (X : S4x640x256.Idx → Elt Ideal .bf16) : Prop :=
  ∀ (j : Fin 4) (s : Fin 640) (d : Fin 160), X (ix3 j s ⟨d.val, by omega⟩)
    = num (kcd k (bt t) ⟨s.val / 64, by omega⟩ ⟨4 * (st t).val + j.val, by omega⟩ ⟨s.val % 64, by omega⟩ d)
/-- The scales of the keys are prepared for the point's slab. -/
def K11 (X : S4x16x128.Idx → Elt Ideal .f32) : Prop :=
  ∀ (j : Fin 4) (kb : Fin 10) (l : Fin 128), X (ix3 j ⟨kb.val, by omega⟩ l)
    = ksc k (bt t) kb ⟨4 * (st t).val + j.val, by omega⟩ * (((Real.sqrt 160)⁻¹ * (Real.log 2)⁻¹ : ℝ) : EReal)
/-- The attention output of the point's four query heads. -/
def R3 (X : S1x640x640.Idx → Elt Ideal .bf16) : Prop :=
  ∀ s c' : Fin 640, X (ix3 0 s c') = soft (masked x k (bt t) (gt t) ⟨c'.val / 160, by omega⟩ s)
    (fun s' => v (ix3 (bt t) s' ⟨160 * (gt t).val + c'.val % 160, by omega⟩))
/-- The codes of the point's queries. -/
def R4 (X : S1x4x160x640.Idx → Elt Ideal .i8) : Prop :=
  ∀ (h : Fin 4) (d : Fin 160) (s : Fin 640), X (ix4 0 h d s)
    = qcd x (bt t) ⟨s.val / 128, by omega⟩ ⟨(gt t).val * 4 + h.val, by omega⟩ ⟨s.val % 128, by omega⟩ d
/-- The scales of the queries of this point and the points before it. -/
def R5 (X : S5x2x32.Idx → Elt Ideal .f32) : Prop :=
  ∀ (q : Fin 5) (b : Fin 2) (n : Fin 32), (b.val < (bt t).val ∨ (b.val = (bt t).val ∧ n.val / 4 ≤ (gt t).val)) → X (ix3 q b n) = qsc x b q n
/-- The codes of the slab's keys. -/
def R6 (X : S1x4x160x640.Idx → Elt Ideal .i8) : Prop :=
  ∀ (j : Fin 4) (d : Fin 160) (s : Fin 640), X (ix4 0 j d s)
    = kcd k (bt t) ⟨s.val / 64, by omega⟩ ⟨4 * (st t).val + j.val, by omega⟩ ⟨s.val % 64, by omega⟩ d
/-- The scales of the keys of this slab and the one before it. -/
def R7 (X : S1x8x10.Idx → Elt Ideal .f32) : Prop :=
  ∀ (r : Fin 8) (q : Fin 10), r.val < 4 * (st t).val + 4 → X (ix3 0 r q) = ksc k (bt t) q r

/-- The prepared buffers of one slab stay right through its four points. -/
theorem same_slab (p : Fin grid0.N) (hp : t.val = p.val + 1) (h : t.val % 4 ≠ 0) : bt p = bt t ∧ st p = st t :=
  ⟨Fin.ext (by show p.val / 8 = t.val / 8; omega), Fin.ext (by show p.val % 8 / 4 = t.val % 8 / 4; omega)⟩

/-- What is stated of a slab at one point is stated of it at the next point of the slab. -/
theorem slab (P : Fin 2 → Fin 2 → Prop) (p : Fin grid0.N) (hp : t.val = p.val + 1) (h : t.val % 4 ≠ 0) (H : P (bt p) (st p)) : P (bt t) (st t) := by
  obtain ⟨e1, e2⟩ := same_slab t p hp h
  rw [e1, e2] at H
  exact H

variable {v k}

theorem K9.next {X : S640x640.Idx → Elt Ideal .bf16} (p : Fin grid0.N) (hp : t.val = p.val + 1) (h : t.val % 4 ≠ 0) (H : K9 v p X) : K9 v t X :=
  slab t (fun b sl => ∀ c' s : Fin 640, X (ix2 c' s) = v (ix3 b s ⟨640 * sl.val + c'.val, by omega⟩)) p hp h H

theorem K10.next {X : S4x640x256.Idx → Elt Ideal .bf16} (p : Fin grid0.N) (hp : t.val = p.val + 1) (h : t.val % 4 ≠ 0) (H : K10 k p X) : K10 k t X :=
  slab t (fun b sl => ∀ (j : Fin 4) (s : Fin 640) (d : Fin 160), X (ix3 j s ⟨d.val, by omega⟩)
    = num (kcd k b ⟨s.val / 64, by omega⟩ ⟨4 * sl.val + j.val, by omega⟩ ⟨s.val % 64, by omega⟩ d)) p hp h H

theorem K11.next {X : S4x16x128.Idx → Elt Ideal .f32} (p : Fin grid0.N) (hp : t.val = p.val + 1) (h : t.val % 4 ≠ 0) (H : K11 k p X) : K11 k t X :=
  slab t (fun b sl => ∀ (j : Fin 4) (kb : Fin 10) (l : Fin 128), X (ix3 j ⟨kb.val, by omega⟩ l)
    = ksc k b kb ⟨4 * sl.val + j.val, by omega⟩ * (((Real.sqrt 160)⁻¹ * (Real.log 2)⁻¹ : ℝ) : EReal)) p hp h H

theorem R6.next {X : S1x4x160x640.Idx → Elt Ideal .i8} (p : Fin grid0.N) (hp : t.val = p.val + 1) (h : t.val % 4 ≠ 0) (H : R6 k p X) : R6 k t X :=
  slab t (fun b sl => ∀ (j : Fin 4) (d : Fin 160) (s : Fin 640), X (ix4 0 j d s)
    = kcd k b ⟨s.val / 64, by omega⟩ ⟨4 * sl.val + j.val, by omega⟩ ⟨s.val % 64, by omega⟩ d) p hp h H

end Props

end Cert.KernelIdeal.Point

end
-- ==== Proof.Point.lean ====
/- What a grid point keeps: from its blocks and what the point before it left, the point leaves the reference's values. -/
module
public import proofs.«01_k».proof.Proof.Left
public import proofs.«01_k».proof.Proof.Same
public import proofs.«01_k».proof.Proof.Keep
@[expose] public section
set_option maxRecDepth 16384
noncomputable section
namespace Cert.KernelIdeal.Point
open Cert.KernelIdeal Cert.KernelIdeal.Gen Cert.KernelIdeal.Blocks Cert.KernelIdeal.Model Cert.KernelIdeal.Prep Cert.KernelIdeal.Body Cert.Spec
open Cert.KernelIdeal.Left Cert.KernelIdeal.Same Cert.KernelIdeal.Where Cert.ReferenceIdeal.Point
open Idealize.ShloMosaic Idealize.ShloMosaic.TcCoe Idealize.SL.Sem

section Run
variable (x : FVec Ideal S2x640x5120 .bf16) (k v : FVec Ideal S2x640x1280 .bf16) (t : Fin grid0.N)
variable (c : Dev nD) (E : Set ℕ)
  (M0 : Memref sig .tc .vmem S1x640x640 .bf16) (h0 : M0.IsWhole)
  (M1 : Memref sig .tc .vmem S1x640x640 .bf16) (h1 : M1.IsWhole)
  (M2 : Memref sig .tc .vmem S1x640x640 .bf16) (h2 : M2.IsWhole)
  (M3 : Memref sig .tc .vmem S1x640x640 .bf16) (h3 : M3.IsWhole)
  (M4 : Memref sig .tc .vmem S1x4x160x640 .i8) (h4 : M4.IsWhole)
  (M5 : Memref sig .tc .vmem S5x2x32 .f32) (h5 : M5.IsWhole)
  (M6 : Memref sig .tc .vmem S1x4x160x640 .i8) (h6 : M6.IsWhole)
  (M7 : Memref sig .tc .vmem S1x8x10 .f32) (h7 : M7.IsWhole)
  (M8 : Memref sig .tc .vmem S640x640 .bf16) (h8 : M8.IsWhole)
  (M9 : Memref sig .tc .vmem S640x640 .bf16) (h9 : M9.IsWhole)
  (M10 : Memref sig .tc .vmem S4x640x256 .bf16) (h10 : M10.IsWhole)
  (M11 : Memref sig .tc .vmem S4x16x128 .f32) (h11 : M11.IsWhole)
  (M12 : Memref sig .tc .vmem S5x160x512 .bf16) (h12 : M12.IsWhole)
  (M13 : Memref sig .tc .vmem S2x640x256 .f32) (h13 : M13.IsWhole)
  (M14 : Memref sig .tc .vmem S2x640x256 .bf16) (h14 : M14.IsWhole)
    (f0 : Bf (F := Ideal) c M0) (f1 : Bf (F := Ideal) c M1) (f2 : Bf (F := Ideal) c M2)
    (f5 : Bf (F := Ideal) c M5) (f6 : Bf (F := Ideal) c M6) (f7 : Bf (F := Ideal) c M7)
    (f8 : Bf (F := Ideal) c M8) (f9 : Bf (F := Ideal) c M9) (f10 : Bf (F := Ideal) c M10) (f11 : Bf (F := Ideal) c M11)
    (hcc : ¬ k0_cond2 (grid0.coords t) = 1#1 → ¬ Scalar.cmpi .ne (Scalar.extui (Scalar.cmpi .eq (BitVec.ofNat 32 (grid0.coords t 1).val) 0#32) : BitVec 32) 0#32 = 1#1)

  (hX0 : QIs x (bt t) (gt t) (M0.view.read (Elt Ideal) f0))
  (hX1 : KIs k (bt t) (st t) (M1.view.read (Elt Ideal) f1))
  (hX2 : KIs v (bt t) (st t) (M2.view.read (Elt Ideal) f2))

include hX2 in
theorem keep9 (hI : t.val % 4 ≠ 0 → ∀ p : Fin grid0.N, t.val = p.val + 1 → K9 v p (M9.view.read (Elt Ideal) f9)) :
    K9 v t (M9.view.read (Elt Ideal) (headRun c (grid0.coords t) E M0 h0 M1 h1 M2 h2 M3 h3 M4 h4 M5 h5 M6 h6 M7 h7 M8 h8 M9 h9 M10 h10 M11 h11 M12 h12 M13 h13 M14 h14 f0 f1 f2 f6 f7 f8 f9 f10 f11 hcc).1.2.2.2.1) := by
  intro c' s
  by_cases h : t.val % 4 = 0
  · exact (left9 c (grid0.coords t) E M0 h0 M1 h1 M2 h2 M3 h3 M4 h4 M5 h5 M6 h6 M7 h7 M8 h8 M9 h9 M10 h10 M11 h11 M12 h12 M13 h13 M14 h14 f0 f1 f2 f6 f7 f8 f9 f10 f11 hcc ((cond_iff t).mpr h) c' s).trans (hX2 s c')
  · rw [head_neg c (grid0.coords t) E M0 h0 M1 h1 M2 h2 M3 h3 M4 h4 M5 h5 M6 h6 M7 h7 M8 h8 M9 h9 M10 h10 M11 h11 M12 h12 M13 h13 M14 h14 f0 f1 f2 f6 f7 f8 f9 f10 f11 hcc (fun h' => h ((cond_iff t).mp h'))]
    exact K9.next t ⟨t.val - 1, by have := lt16 t; show _ < 16; omega⟩ (by show t.val = t.val - 1 + 1; omega) h (hI h _ (by show t.val = t.val - 1 + 1; omega)) c' s

include hX1 in
theorem keep10 (hI : t.val % 4 ≠ 0 → ∀ p : Fin grid0.N, t.val = p.val + 1 → K10 k p (M10.view.read (Elt Ideal) f10)) :
    K10 k t (M10.view.read (Elt Ideal) (headRun c (grid0.coords t) E M0 h0 M1 h1 M2 h2 M3 h3 M4 h4 M5 h5 M6 h6 M7 h7 M8 h8 M9 h9 M10 h10 M11 h11 M12 h12 M13 h13 M14 h14 f0 f1 f2 f6 f7 f8 f9 f10 f11 hcc).1.2.2.2.2.1) := by
  intro j s d
  by_cases h : t.val % 4 = 0
  · exact (left10 c (grid0.coords t) E M0 h0 M1 h1 M2 h2 M3 h3 M4 h4 M5 h5 M6 h6 M7 h7 M8 h8 M9 h9 M10 h10 M11 h11 M12 h12 M13 h13 M14 h14 f0 f1 f2 f6 f7 f8 f9 f10 f11 hcc ((cond_iff t).mpr h) j s d).trans (congrArg num (kcode_eq k (bt t) (st t) _ hX1 j _ _ d))
  · rw [head_neg c (grid0.coords t) E M0 h0 M1 h1 M2 h2 M3 h3 M4 h4 M5 h5 M6 h6 M7 h7 M8 h8 M9 h9 M10 h10 M11 h11 M12 h12 M13 h13 M14 h14 f0 f1 f2 f6 f7 f8 f9 f10 f11 hcc (fun h' => h ((cond_iff t).mp h'))]
    exact K10.next t ⟨t.val - 1, by have := lt16 t; show _ < 16; omega⟩ (by show t.val = t.val - 1 + 1; omega) h (hI h _ (by show t.val = t.val - 1 + 1; omega)) j s d

include hX1 in
theorem keep11 (hI : t.val % 4 ≠ 0 → ∀ p : Fin grid0.N, t.val = p.val + 1 → K11 k p (M11.view.read (Elt Ideal) f11)) :
    K11 k t (M11.view.read (Elt Ideal) (headRun c (grid0.coords t) E M0 h0 M1 h1 M2 h2 M3 h3 M4 h4 M5 h5 M6 h6 M7 h7 M8 h8 M9 h9 M10 h10 M11 h11 M12 h12 M13 h13 M14 h14 f0 f1 f2 f6 f7 f8 f9 f10 f11 hcc).1.2.2.2.2.2) := by
  intro j kb l
  by_cases h : t.val % 4 = 0
  · refine (left11 c (grid0.coords t) E M0 h0 M1 h1 M2 h2 M3 h3 M4 h4 M5 h5 M6 h6 M7 h7 M8 h8 M9 h9 M10 h10 M11 h11 M12 h12 M13 h13 M14 h14 f0 f1 f2 f6 f7 f8 f9 f10 f11 hcc ((cond_iff t).mpr h) j kb l).trans ((canon_L11 _ M8 j kb l).2.trans ?_)
    rw [kss_eq k (bt t) (st t) _ hX1 j kb]
  · rw [head_neg c (grid0.coords t) E M0 h0 M1 h1 M2 h2 M3 h3 M4 h4 M5 h5 M6 h6 M7 h7 M8 h8 M9 h9 M10 h10 M11 h11 M12 h12 M13 h13 M14 h14 f0 f1 f2 f6 f7 f8 f9 f10 f11 hcc (fun h' => h ((cond_iff t).mp h'))]
    exact K11.next t ⟨t.val - 1, by have := lt16 t; show _ < 16; omega⟩ (by show t.val = t.val - 1 + 1; omega) h (hI h _ (by show t.val = t.val - 1 + 1; omega)) j kb l

include hX1 in
theorem keep6 (hI : t.val % 4 ≠ 0 → ∀ p : Fin grid0.N, t.val = p.val + 1 → R6 k p (M6.view.read (Elt Ideal) f6)) :
    R6 k t (M6.view.read (Elt Ideal) (headRun c (grid0.coords t) E M0 h0 M1 h1 M2 h2 M3 h3 M4 h4 M5 h5 M6 h6 M7 h7 M8 h8 M9 h9 M10 h10 M11 h11 M12 h12 M13 h13 M14 h14 f0 f1 f2 f6 f7 f8 f9 f10 f11 hcc).1.1) := by
  intro j d s
  by_cases h : t.val % 4 = 0
  · exact (left6 c (grid0.coords t) E M0 h0 M1 h1 M2 h2 M3 h3 M4 h4 M5 h5 M6 h6 M7 h7 M8 h8 M9 h9 M10 h10 M11 h11 M12 h12 M13 h13 M14 h14 f0 f1 f2 f6 f7 f8 f9 f10 f11 hcc ((cond_iff t).mpr h) j d s).trans (kcode_eq k (bt t) (st t) _ hX1 j _ _ d)
  · rw [head_neg c (grid0.coords t) E M0 h0 M1 h1 M2 h2 M3 h3 M4 h4 M5 h5 M6 h6 M7 h7 M8 h8 M9 h9 M10 h10 M11 h11 M12 h12 M13 h13 M14 h14 f0 f1 f2 f6 f7 f8 f9 f10 f11 hcc (fun h' => h ((cond_iff t).mp h'))]
    exact R6.next t ⟨t.val - 1, by have := lt16 t; show _ < 16; omega⟩ (by show t.val = t.val - 1 + 1; omega) h (hI h _ (by show t.val = t.val - 1 + 1; omega)) j d s

include hX1 in
theorem keep7 (hI : t.val % 8 ≠ 0 → ∀ p : Fin grid0.N, t.val = p.val + 1 → R7 k p (M7.view.read (Elt Ideal) f7)) :
    R7 k t (M7.view.read (Elt Ideal) (headRun c (grid0.coords t) E M0 h0 M1 h1 M2 h2 M3 h3 M4 h4 M5 h5 M6 h6 M7 h7 M8 h8 M9 h9 M10 h10 M11 h11 M12 h12 M13 h13 M14 h14 f0 f1 f2 f6 f7 f8 f9 f10 f11 hcc).1.2.1) := by
  intro r q hr
  change r.val < 4 * (t.val % 8 / 4) + 4 at hr
  have old : t.val % 8 ≠ 0 → r.val < 4 * ((t.val - 1) % 8 / 4) + 4 → M7.view.read (Elt Ideal) f7 (ix3 0 r q) = ksc k (bt t) q r := by
    intro h hr'
    have hp := hI h ⟨t.val - 1, by have := lt16 t; show _ < 16; omega⟩ (by show t.val = t.val - 1 + 1; omega) r q hr'
    rw [show bt ⟨t.val - 1, by have := lt16 t; show _ < 16; omega⟩ = bt t from Fin.ext (by show (t.val - 1) / 8 = t.val / 8; omega)] at hp
    exact hp
  by_cases h : t.val % 4 = 0
  · rw [left7 c (grid0.coords t) E M0 h0 M1 h1 M2 h2 M3 h3 M4 h4 M5 h5 M6 h6 M7 h7 M8 h8 M9 h9 M10 h10 M11 h11 M12 h12 M13 h13 M14 h14 f0 f1 f2 f6 f7 f8 f9 f10 f11 hcc ((cond_iff t).mpr h) (off1_le t h)]
    have L := read_L7 (M1.view.read (Elt Ideal) f1) M8 (grid0.coords t) (off1_le t h) (t.val % 8) (by omega) (off1_eq t h) M7 f7 r q
    by_cases hn : r.val < t.val % 8
    · rw [L.2 fun j => by omega]
      exact old (by omega) (by omega)
    · refine (L.1 ⟨r.val - t.val % 8, by omega⟩ (by show r.val = t.val % 8 + (r.val - t.val % 8); omega)).trans ((kss_eq k (bt t) (st t) _ hX1 _ q).trans ?_)
      refine congrArg (ksc k (bt t) q) (Fin.ext ?_)
      show 4 * (t.val % 8 / 4) + (r.val - t.val % 8) = r.val
      omega
  · rw [head_neg c (grid0.coords t) E M0 h0 M1 h1 M2 h2 M3 h3 M4 h4 M5 h5 M6 h6 M7 h7 M8 h8 M9 h9 M10 h10 M11 h11 M12 h12 M13 h13 M14 h14 f0 f1 f2 f6 f7 f8 f9 f10 f11 hcc (fun h' => h ((cond_iff t).mp h'))]
    exact old (by omega) (by omega)

include hX0 in
theorem keep4 : R4 x t (M4.view.read (Elt Ideal) (fullRun c (grid0.coords t) E M0 h0 M1 h1 M2 h2 M3 h3 M4 h4 M5 h5 M6 h6 M7 h7 M8 h8 M9 h9 M10 h10 M11 h11 M12 h12 M13 h13 M14 h14 f0 f1 f2 f5 f6 f7 f8 f9 f10 f11 hcc).1.1.2.1) := fun h d s =>
  (left4 c (grid0.coords t) E M0 h0 M1 h1 M2 h2 M3 h3 M4 h4 M5 h5 M6 h6 M7 h7 M8 h8 M9 h9 M10 h10 M11 h11 M12 h12 M13 h13 M14 h14 f0 f1 f2 f5 f6 f7 f8 f9 f10 f11 hcc h d s).trans (qcode_eq x (bt t) (gt t) _ hX0 _ h _ d)

include hX0 in
theorem keep5 (hI : ∀ p : Fin grid0.N, t.val = p.val + 1 → R5 x p (M5.view.read (Elt Ideal) f5)) :
    R5 x t (M5.view.read (Elt Ideal) (fullRun c (grid0.coords t) E M0 h0 M1 h1 M2 h2 M3 h3 M4 h4 M5 h5 M6 h6 M7 h7 M8 h8 M9 h9 M10 h10 M11 h11 M12 h12 M13 h13 M14 h14 f0 f1 f2 f5 f6 f7 f8 f9 f10 f11 hcc).1.1.2.2) := by
  intro q b n hbn
  change b.val < t.val / 8 ∨ (b.val = t.val / 8 ∧ n.val / 4 ≤ t.val % 8) at hbn
  rw [left5 c (grid0.coords t) E M0 h0 M1 h1 M2 h2 M3 h3 M4 h4 M5 h5 M6 h6 M7 h7 M8 h8 M9 h9 M10 h10 M11 h11 M12 h12 M13 h13 M14 h14 f0 f1 f2 f5 f6 f7 f8 f9 f10 f11 hcc (offQ_le t), read_LQ _ (grid0.coords t) _ _ (offQ_le t) M5.view f5 (bt t) (offQ_eq t) q b n]
  have ht := lt16 t
  have old : 0 < t.val → (b.val < (t.val - 1) / 8 ∨ (b.val = (t.val - 1) / 8 ∧ n.val / 4 ≤ (t.val - 1) % 8)) →
      M5.view.read (Elt Ideal) f5 (ix3 q b n) = qsc x b q n := fun h0 h' =>
    hI ⟨t.val - 1, by show _ < 16; omega⟩ (by show t.val = t.val - 1 + 1; omega) q b n h'
  by_cases hb : b = bt t
  · rw [if_pos hb]
    have hbv : b.val = t.val / 8 := congrArg Fin.val hb
    have eg : BitVec.ofNat 32 ((grid0.coords t) 1).val = BitVec.ofNat 32 (gt t).val := by rw [group_eq]
    rw [eg, rowQ_at]
    by_cases hn : n.val / 4 = (gt t).val
    · rw [if_pos hn, sh_eq x (bt t) (gt t) _ hX0, hb]
      refine congrArg (qsc x (bt t) q) (Fin.ext ?_)
      show t.val % 8 * 4 + n.val % 4 = n.val
      change n.val / 4 = t.val % 8 at hn
      omega
    · rw [if_neg hn]
      change ¬ n.val / 4 = t.val % 8 at hn
      have hg : gt t ≠ 0 := fun h' => by
        have : t.val % 8 = 0 := congrArg Fin.val h'
        omega
      have hg' : t.val % 8 ≠ 0 := fun h' => hg (Fin.ext h')
      rw [base_at (gt t) _ n hg]
      refine Eq.trans ?_ (old (by omega) (by omega))
      show M5.view.read (Elt Ideal) f5 ((Rect.unit (s := S5x2x32) (offQ (grid0.coords t) q) S1x1x32.size (offQ_le t q)).toLoadRect.idx (ix3 0 0 n : S1x1x32.Idx)) = _
      refine congrArg _ (funext fun a => Fin.ext ?_)
      show offQ (grid0.coords t) q a + 1 * ((ix3 0 0 n : S1x1x32.Idx) a).val = _
      rw [offQ_eq t q]
      fin_cases a
      · rfl
      · exact hbv.symm
      · exact (Nat.zero_add _).trans (Nat.one_mul _)
  · rw [if_neg hb]
    have hbv : b.val ≠ t.val / 8 := fun h' => hb (Fin.ext h')
    exact old (by omega) (by omega)

include hX0 in
theorem keep3 (hK9 : K9 v t (M9.view.read (Elt Ideal) (headRun c (grid0.coords t) E M0 h0 M1 h1 M2 h2 M3 h3 M4 h4 M5 h5 M6 h6 M7 h7 M8 h8 M9 h9 M10 h10 M11 h11 M12 h12 M13 h13 M14 h14 f0 f1 f2 f6 f7 f8 f9 f10 f11 hcc).1.2.2.2.1))
    (hK10 : K10 k t (M10.view.read (Elt Ideal) (headRun c (grid0.coords t) E M0 h0 M1 h1 M2 h2 M3 h3 M4 h4 M5 h5 M6 h6 M7 h7 M8 h8 M9 h9 M10 h10 M11 h11 M12 h12 M13 h13 M14 h14 f0 f1 f2 f6 f7 f8 f9 f10 f11 hcc).1.2.2.2.2.1))
    (hK11 : K11 k t (M11.view.read (Elt Ideal) (headRun c (grid0.coords t) E M0 h0 M1 h1 M2 h2 M3 h3 M4 h4 M5 h5 M6 h6 M7 h7 M8 h8 M9 h9 M10 h10 M11 h11 M12 h12 M13 h13 M14 h14 f0 f1 f2 f6 f7 f8 f9 f10 f11 hcc).1.2.2.2.2.2)) :
    R3 x k v t (M3.view.read (Elt Ideal) (fullRun c (grid0.coords t) E M0 h0 M1 h1 M2 h2 M3 h3 M4 h4 M5 h5 M6 h6 M7 h7 M8 h8 M9 h9 M10 h10 M11 h11 M12 h12 M13 h13 M14 h14 f0 f1 f2 f5 f6 f7 f8 f9 f10 f11 hcc).1.1.1) := by
  intro s c'
  have eg : (⟨4 * (st t).val + (jt t).val, by omega⟩ : Fin 8) = gt t := Fin.ext (by show 4 * (t.val % 8 / 4) + t.val % 4 = t.val % 8; omega)
  refine (left3 c (grid0.coords t) E M0 h0 M1 h1 M2 h2 M3 h3 M4 h4 M5 h5 M6 h6 M7 h7 M8 h8 M9 h9 M10 h10 M11 h11 M12 h12 M13 h13 M14 h14 f0 f1 f2 f5 f6 f7 f8 f9 f10 f11 hcc (fun s d => kcd k (bt t) ⟨s.val / 64, by omega⟩ (gt t) ⟨s.val % 64, by omega⟩ d) (fun q => ksc k (bt t) q (gt t))
    (fun s' d => v (ix3 (bt t) s' ⟨160 * (gt t).val + d.val, by omega⟩)) (jt t) (offs t) ?_ ?_ ?_ s c').trans ?_
  · intro d s'
    refine (hK9 _ s').trans (congrArg (fun z => v (ix3 (bt t) s' z)) (Fin.ext ?_))
    show 640 * (t.val % 8 / 4) + (160 * (t.val % 4) + d.val) = 160 * (t.val % 8) + d.val
    omega
  · intro s' d
    refine (hK10 (jt t) s' d).trans ?_
    rw [eg]
  · intro kb l
    refine (hK11 (jt t) kb l).trans ?_
    rw [eg]
  · refine congrArg (fun z => soft z _) (funext fun s' => ?_)
    exact row_eq x (bt t) (gt t) _ hX0 k ⟨c'.val / 160, by omega⟩ s s'

end Run

end Cert.KernelIdeal.Point

end
-- ==== Proof.Blk.lean ====
/- The blocks a grid point is given, at their places in the arguments. -/
module
public import proofs.«01_k».proof.Proof.Where
public import proofs.«01_k».proof.Proof.Body
public import Idealize.ShloMosaic.Lib.Pipeline.ValueKit
@[expose] public section
set_option maxRecDepth 16384
noncomputable section
namespace Cert.KernelIdeal.Where
open Cert.KernelIdeal Cert.KernelIdeal.Gen Cert.KernelIdeal.Blocks Cert.KernelIdeal.Model Cert.KernelIdeal.Body Cert.Spec
open Idealize.ShloMosaic Idealize.ShloMosaic.TcCoe Idealize.SL.Sem

variable (m : (ℓ : Loc nD τ sig) → Buf (Elt Ideal) ℓ) (c : Dev nD)

/-- The three arguments. -/
def ax : FVec Ideal S2x640x5120 .bf16 := m ((c : Thread nD τ).loc main_arg0)
def ak : FVec Ideal S2x640x1280 .bf16 := m ((c : Thread nD τ).loc main_arg1)
def av : FVec Ideal S2x640x1280 .bf16 := m ((c : Thread nD τ).loc main_arg2)

theorem i0 : ∀ t : Fin grid0.N, win0_0.index t = ![t.val / 8, 0, t.val % 8] := by decide +kernel
theorem i1 : ∀ t : Fin grid0.N, win0_1.index t = ![t.val / 8, 0, t.val % 8 / 4] := by decide +kernel
theorem i2 : ∀ t : Fin grid0.N, win0_2.index t = ![t.val / 8, 0, t.val % 8 / 4] := by decide +kernel

/-- The query block. -/
theorem blk0 (t : Fin cfg0.N) (s c' : Fin 640) :
    iblk m c 0 t (ix3 0 s c' : S1x640x640.Idx) = ax m c (ix3 (bt t) s ⟨640 * (gt t).val + c'.val, by omega⟩) := by
  unfold ax
  blk_ext [iblk, V, i0]

/-- The key block. -/
theorem blk1 (t : Fin cfg0.N) (s c' : Fin 640) :
    iblk m c 1 t (ix3 0 s c' : S1x640x640.Idx) = ak m c (ix3 (bt t) s ⟨640 * (st t).val + c'.val, by omega⟩) := by
  unfold ak
  blk_ext [iblk, V, i1]

/-- The value block. -/
theorem blk2 (t : Fin cfg0.N) (s c' : Fin 640) :
    iblk m c 2 t (ix3 0 s c' : S1x640x640.Idx) = av m c (ix3 (bt t) s ⟨640 * (st t).val + c'.val, by omega⟩) := by
  unfold av
  blk_ext [iblk, V, i2]

end Cert.KernelIdeal.Where

end
-- ==== Proof.Arrays.lean ====
/- The result arrays: whole arrays assembled from blocks that hold the reference's values at their places are the reference's results. -/
module
public import proofs.«01_k».proof.Proof.Keep
public import proofs.«01_k».proof.Proof.Gen.KernelIdeal.Frame
public import Idealize.ShloMosaic.Lib.Pipeline.ValueKit
@[expose] public section
set_option maxRecDepth 16384
noncomputable section
namespace Cert.KernelIdeal.Arrays
open Cert.KernelIdeal Cert.KernelIdeal.Gen Cert.KernelIdeal.Where Cert.KernelIdeal.Point Cert.Spec Cert.ReferenceIdeal.Point
open Idealize.ShloMosaic Idealize.ShloMosaic.TcCoe Idealize.SL.Sem
open Idealize.ShloMosaic.Pipeline (Dat RDat Cfg Window)

theorem o3 : ∀ t : Fin grid0.N, win0_3.index t = ![t.val / 8, 0, t.val % 8] := by decide +kernel
theorem o4 : ∀ t : Fin grid0.N, win0_4.index t = ![t.val / 8, t.val % 8, 0, 0] := by decide +kernel
theorem o5 : ∀ t : Fin grid0.N, win0_5.index t = ![0, 0, 0] := by decide +kernel
theorem o6 : ∀ t : Fin grid0.N, win0_6.index t = ![t.val / 8, t.val % 8 / 4, 0, 0] := by decide +kernel
theorem o7 : ∀ t : Fin grid0.N, win0_7.index t = ![t.val / 8, 0, 0] := by decide +kernel

variable (x : FVec Ideal S2x640x5120 .bf16) (k v : FVec Ideal S2x640x1280 .bf16) (c : Dev nD)
  (dat : Dat τ (Elt Ideal) Unit ℕ (UR sig nD τ) ℕ cfg0 c)

/-- An index of a block of one batch element, at its coordinates. -/
theorem idx3 (y : S1x640x640.Idx) : ∃ s c' : Fin 640, y = ix3 0 s c' := ⟨y 1, y 2, by
  funext a
  fin_cases a
  · exact Fin.ext (by have := (y 0).isLt; change (y 0).val < 1 at this; show (y 0).val = 0; omega)
  · rfl
  · rfl⟩

theorem idx7 (y : S1x8x10.Idx) : ∃ (r : Fin 8) (q : Fin 10), y = ix3 0 r q := ⟨y 1, y 2, by
  funext a
  fin_cases a
  · exact Fin.ext (by have := (y 0).isLt; change (y 0).val < 1 at this; show (y 0).val = 0; omega)
  · rfl
  · rfl⟩

theorem idx4 (y : S1x4x160x640.Idx) : ∃ (h : Fin 4) (d : Fin 160) (s : Fin 640), y = ix4 0 h d s := ⟨y 1, y 2, y 3, by
  funext a
  fin_cases a
  · exact Fin.ext (by have := (y 0).isLt; change (y 0).val < 1 at this; show (y 0).val = 0; omega)
  · rfl
  · rfl
  · rfl⟩

theorem idx5 (y : S5x2x32.Idx) : ∃ (q : Fin 5) (b : Fin 2) (n : Fin 32), y = ix3 q b n := ⟨y 0, y 1, y 2, by
  funext a
  fin_cases a <;> rfl⟩

/-- The attention output. -/
theorem arr3 (h : ∀ t : Fin cfg0.N, (cfg0.win 3).flush t = true → R3 x k v t (dat.after 3 t)) :
    dat.arrAt 3 cfg0.N = Cert.ReferenceIdeal.Value.G3 (F := Ideal) x k v := by
  refine dat.arrAt_eq_of_covers 3 _ (by decide +kernel) fun t hf y => ?_
  blk_simp
  obtain ⟨s, c', rfl⟩ := idx3 y
  refine (h t hf s c').trans ?_
  have e : (win0_3.blk t).view.emb (ix3 0 s c' : S1x640x640.Idx) = (ix3 (bt t) s ⟨640 * (gt t).val + c'.val, by omega⟩ : S2x640x5120.Idx) := by
    blk_ext [o3]
  refine Eq.trans ?_ (congrArg (Cert.ReferenceIdeal.Value.G3 (F := Ideal) x k v) e).symm
  refine Eq.trans ?_ (G3_at x k v (bt t) s ⟨640 * (gt t).val + c'.val, by omega⟩).symm
  have e1 : (⟨(640 * (gt t).val + c'.val) / 640, by omega⟩ : Fin 8) = gt t := Fin.ext (by show (640 * (t.val % 8) + c'.val) / 640 = t.val % 8; omega)
  have e2 : (⟨(640 * (gt t).val + c'.val) / 160 % 4, by omega⟩ : Fin 4) = ⟨c'.val / 160, by omega⟩ :=
    Fin.ext (by show (640 * (t.val % 8) + c'.val) / 160 % 4 = c'.val / 160; omega)
  have e3 : (⟨(640 * (gt t).val + c'.val) / 640 * 160 + (640 * (gt t).val + c'.val) % 160, by omega⟩ : Fin 1280) = ⟨160 * (gt t).val + c'.val % 160, by omega⟩ :=
    Fin.ext (by show (640 * (t.val % 8) + c'.val) / 640 * 160 + (640 * (t.val % 8) + c'.val) % 160 = 160 * (t.val % 8) + c'.val % 160; omega)
  show _ = soft (masked x k (bt t) ⟨(640 * (gt t).val + c'.val) / 640, _⟩ ⟨(640 * (gt t).val + c'.val) / 160 % 4, _⟩ s)
    (fun s => v (ix3 (bt t) s ⟨(640 * (gt t).val + c'.val) / 640 * 160 + (640 * (gt t).val + c'.val) % 160, _⟩))
  rw [e1, e2, e3]

/-- The codes of the queries. -/
theorem arr4 (h : ∀ t : Fin cfg0.N, (cfg0.win 4).flush t = true → R4 x t (dat.after 4 t)) :
    dat.arrAt 4 cfg0.N = Cert.ReferenceIdeal.Value.G4 (F := Ideal) x k v := by
  refine dat.arrAt_eq_of_covers 4 _ (by decide +kernel) fun t hf y => ?_
  blk_simp
  obtain ⟨h', d, s, rfl⟩ := idx4 y
  refine (h t hf h' d s).trans ?_
  have e : (win0_4.blk t).view.emb (ix4 0 h' d s : S1x4x160x640.Idx) = (ix4 (bt t) ⟨(gt t).val * 4 + h'.val, by omega⟩ d s : S2x32x160x640.Idx) := by
    blk_ext [o4]
  refine Eq.trans ?_ (congrArg (Cert.ReferenceIdeal.Value.G4 (F := Ideal) x k v) e).symm
  exact (G4_at x k v (bt t) ⟨(gt t).val * 4 + h'.val, by omega⟩ d s).symm

/-- The scales of the queries. -/
theorem arr5 (h : ∀ t : Fin cfg0.N, (cfg0.win 5).flush t = true → R5 x t (dat.after 5 t)) :
    dat.arrAt 5 cfg0.N = Cert.ReferenceIdeal.Value.G5 (F := Ideal) x k v := by
  refine dat.arrAt_eq_of_covers 5 _ (by decide +kernel) fun t hf y => ?_
  have ht : t.val = 15 := by
    have := (flush0_5 t).mp hf
    have := lt16 t
    omega
  blk_simp
  obtain ⟨q, b, n, rfl⟩ := idx5 y
  refine (h t hf q b n (by show b.val < t.val / 8 ∨ (b.val = t.val / 8 ∧ n.val / 4 ≤ t.val % 8); omega)).trans ?_
  have e : (win0_5.blk t).view.emb (ix3 q b n : S5x2x32.Idx) = (ix3 q b n : S5x2x32.Idx) := by
    blk_ext [o5]
  refine Eq.trans ?_ (congrArg (Cert.ReferenceIdeal.Value.G5 (F := Ideal) x k v) e).symm
  exact (G5_at x k v q b n).symm

/-- The codes of the keys. -/
theorem arr6 (h : ∀ t : Fin cfg0.N, (cfg0.win 6).flush t = true → R6 k t (dat.after 6 t)) :
    dat.arrAt 6 cfg0.N = Cert.ReferenceIdeal.Value.G6 (F := Ideal) x k v := by
  refine dat.arrAt_eq_of_covers 6 _ (by decide +kernel) fun t hf y => ?_
  blk_simp
  obtain ⟨j, d, s, rfl⟩ := idx4 y
  refine (h t hf j d s).trans ?_
  have e : (win0_6.blk t).view.emb (ix4 0 j d s : S1x4x160x640.Idx) = (ix4 (bt t) ⟨4 * (st t).val + j.val, by omega⟩ d s : S2x8x160x640.Idx) := by
    blk_ext [o6]
  refine Eq.trans ?_ (congrArg (Cert.ReferenceIdeal.Value.G6 (F := Ideal) x k v) e).symm
  exact (G6_at x k v (bt t) ⟨4 * (st t).val + j.val, by omega⟩ d s).symm

/-- The scales of the keys. -/
theorem arr7 (h : ∀ t : Fin cfg0.N, (cfg0.win 7).flush t = true → R7 k t (dat.after 7 t)) :
    dat.arrAt 7 cfg0.N = Cert.ReferenceIdeal.Value.G7 (F := Ideal) x k v := by
  refine dat.arrAt_eq_of_covers 7 _ (by decide +kernel) fun t hf y => ?_
  have ht := (flush0_7 t).mp hf
  blk_simp
  obtain ⟨r, q, rfl⟩ := idx7 y
  refine (h t hf r q (by show r.val < 4 * (t.val % 8 / 4) + 4; omega)).trans ?_
  have e : (win0_7.blk t).view.emb (ix3 0 r q : S1x8x10.Idx) = (ix3 (bt t) r q : S2x8x10.Idx) := by
    blk_ext [o7]
  refine Eq.trans ?_ (congrArg (Cert.ReferenceIdeal.Value.G7 (F := Ideal) x k v) e).symm
  exact (G7_at x k v (bt t) r q).symm

end Cert.KernelIdeal.Arrays

end
-- ==== Proof.Run.lean ====
/- A whole run: what every grid point keeps makes the five result arrays the reference's. -/
module
public import proofs.«01_k».proof.Proof.Point
public import proofs.«01_k».proof.Proof.Blk
public import proofs.«01_k».proof.Proof.Arrays
public import Idealize.ShloMosaic.Lib.Pipeline.ArrRel
@[expose] public section
set_option maxRecDepth 16384
noncomputable section
namespace Cert.KernelIdeal.Run
open Cert.KernelIdeal Cert.KernelIdeal.Gen Cert.KernelIdeal.Blocks Cert.KernelIdeal.Body Cert.KernelIdeal.Where Cert.KernelIdeal.Point Cert.KernelIdeal.Left
open Cert.KernelIdeal.Same Cert.KernelIdeal.Arrays
open Idealize.ShloMosaic Idealize.ShloMosaic.TcCoe Idealize.SL.Sem
open Idealize.ShloMosaic.Pipeline (Dat RDat Cfg Window)

variable (m : (ℓ : Loc nD τ sig) → Buf (Elt Ideal) ℓ) (ρ : Dev nD → PrngReg)

/-- What a grid point leaves in the staging buffers of the five results. -/
def Rl (c : Dev nD) (w : Fin cfg0.W) (t : Fin cfg0.N) : ((cfg0.win w).block.Idx → Elt Ideal (cfg0.win w).elt) → Prop :=
  match w with
  | 3 => fun X => R3 (ax m c) (ak m c) (av m c) t X
  | 4 => fun X => R4 (ax m c) t X
  | 5 => fun X => R5 (ax m c) t X
  | 6 => fun X => R6 (ak m c) t X
  | 7 => fun X => R7 (ak m c) t X
  | _ => fun _ => True

/-- What the prepared buffers hold between the points. -/
def I (c : Dev nD) (u : Fin (cfg0.N + 1)) (f9 : Bf (F := Ideal) c (Memref.whole cc0_scratch1)) (f10 : Bf (F := Ideal) c (Memref.whole cc0_scratch2))
    (f11 : Bf (F := Ideal) c (Memref.whole cc0_scratch3)) : Prop :=
  ∀ p : Fin grid0.N, u.val = p.val + 1 →
    K9 (av m c) p ((Memref.whole cc0_scratch1).view.read (Elt Ideal) f9)
    ∧ K10 (ak m c) p ((Memref.whole cc0_scratch2).view.read (Elt Ideal) f10)
    ∧ K11 (ak m c) p ((Memref.whole cc0_scratch3).view.read (Elt Ideal) f11)

/-- What a result's staging buffer holds at a point that follows one without a write-back is what that one left. -/
theorem left_before (c : Dev nD) (w : Fin cfg0.W) (hw : isRes w = true) (hf : ∀ t, (cfg0.win w).fetch t = false) (t p : Fin cfg0.N)
    (hp : t.val = p.val + 1) (hfl : ¬ (cfg0.win w).flush p = true) (X) (h : (rdats m (I m) (Rl m) c).Finds w t X) : Rl m c w p X := by
  have e : (⟨t.val - 1, Nat.lt_of_le_of_lt (Nat.sub_le _ _) t.isLt⟩ : Fin cfg0.N) = p := Fin.ext (by show t.val - 1 = p.val; omega)
  have h' := ((rdats m (I m) (Rl m) c).finds_of_pos (hf t) (by omega) X).mp h
  rw [e] at h'
  exact Dat.toRRel_leaves _ hw (h'.resolve_left hfl)

theorem fetch5 : ∀ t : Fin cfg0.N, (cfg0.win 5).fetch t = false := by decide +kernel
theorem fetch6 : ∀ t : Fin cfg0.N, (cfg0.win 6).fetch t = false := by decide +kernel
theorem fetch7 : ∀ t : Fin cfg0.N, (cfg0.win 7).fetch t = false := by decide +kernel

set_option maxHeartbeats 4000000 in
/-- Every point keeps the predicates. -/
theorem step (c : Dev nD) (t : Fin cfg0.N) : Step m (I m) (Rl m) c t := by
  intro f0 f1 f2 f5 f6 f7 f8 f9 f10 f11 hf0 hf1 hf2 hI hF5 hF6 hF7
  have ht := lt16 t
  have hX0 : QIs (ax m c) (bt t) (gt t) ((win0_0.stage (cfg0.slots t 0)).view.read (Elt Ideal) f0) :=
    fun s c' => (congrFun hf0 _).trans (blk0 m c t s c')
  have hX1 : KIs (ak m c) (bt t) (st t) ((win0_1.stage (cfg0.slots t 1)).view.read (Elt Ideal) f1) :=
    fun s c' => (congrFun hf1 _).trans (blk1 m c t s c')
  have hX2 : KIs (av m c) (bt t) (st t) ((win0_2.stage (cfg0.slots t 2)).view.read (Elt Ideal) f2) :=
    fun s c' => (congrFun hf2 _).trans (blk2 m c t s c')
  have e : (runAt c t f0 f1 f2 f5 f6 f7 f8 f9 f10 f11).1.2 = (headRun (F := Ideal) c (grid0.coords t) Set.univ (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) f0 f1 f2 f6 f7 f8 f9 f10 f11 (cond1_of_cond2 t)).1 :=
    full_head c (grid0.coords t) Set.univ (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) f0 f1 f2 f5 f6 f7 f8 f9 f10 f11 (cond1_of_cond2 t)
  have k9 := keep9 (av m c) t c Set.univ (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) f0 f1 f2 f6 f7 f8 f9 f10 f11 (cond1_of_cond2 t) hX2 (fun _ p hp => (hI p hp).1)
  have k10 := keep10 (ak m c) t c Set.univ (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) f0 f1 f2 f6 f7 f8 f9 f10 f11 (cond1_of_cond2 t) hX1 (fun _ p hp => (hI p hp).2.1)
  have k11 := keep11 (ak m c) t c Set.univ (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) f0 f1 f2 f6 f7 f8 f9 f10 f11 (cond1_of_cond2 t) hX1 (fun _ p hp => (hI p hp).2.2)
  have k6 := keep6 (ak m c) t c Set.univ (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) f0 f1 f2 f6 f7 f8 f9 f10 f11 (cond1_of_cond2 t) hX1 (fun h p hp => left_before m c 6 (by decide) fetch6 t p hp
    (fun h' => by have := (flush0_6 p).mp h'; omega) _ hF6)
  have k7 := keep7 (ak m c) t c Set.univ (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) f0 f1 f2 f6 f7 f8 f9 f10 f11 (cond1_of_cond2 t) hX1 (fun h p hp => left_before m c 7 (by decide) fetch7 t p hp
    (fun h' => by have := (flush0_7 p).mp h'; omega) _ hF7)
  have k4 := keep4 (ax m c) t c Set.univ (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) f0 f1 f2 f5 f6 f7 f8 f9 f10 f11 (cond1_of_cond2 t) hX0
  have k5 := keep5 (ax m c) t c Set.univ (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) f0 f1 f2 f5 f6 f7 f8 f9 f10 f11 (cond1_of_cond2 t) hX0 (fun p hp => left_before m c 5 (by decide) fetch5 t p hp
    (fun h' => by have := (flush0_5 p).mp h'; omega) _ hF5)
  have k3 := keep3 (ax m c) (ak m c) (av m c) t c Set.univ (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) f0 f1 f2 f5 f6 f7 f8 f9 f10 f11 (cond1_of_cond2 t) hX0 k9 k10 k11
  refine ⟨k3, k4, k5, ?_, ?_, fun p hp => ?_⟩
  · exact (congrArg (fun z => R6 (ak m c) t ((win0_6.stage (cfg0.slots t 6)).view.read (Elt Ideal) z.1)) e).mpr k6
  · exact (congrArg (fun z => R7 (ak m c) t ((win0_7.stage (cfg0.slots t 7)).view.read (Elt Ideal) z.2.1)) e).mpr k7
  · have ep : p = t := Fin.ext (by change t.val + 1 = p.val + 1 at hp; omega)
    subst ep
    exact ⟨(congrArg (fun z => K9 (av m c) p ((Memref.whole cc0_scratch1).view.read (Elt Ideal) z.2.2.2.1)) e).mpr k9,
      (congrArg (fun z => K10 (ak m c) p ((Memref.whole cc0_scratch2).view.read (Elt Ideal) z.2.2.2.2.1)) e).mpr k10,
      (congrArg (fun z => K11 (ak m c) p ((Memref.whole cc0_scratch3).view.read (Elt Ideal) z.2.2.2.2.2)) e).mpr k11⟩

/-- THE RUN: every execution ends with the five result arrays equal to the reference's values of the arguments, and the arguments unchanged. -/
theorem run : θ_run defs (onTc (τ := τ) (main (F := Ideal))) ⟨m, fun _ => 0, ρ⟩ fun r => ∀ c : Dev nD,
      r.2.mem ((c.tc : Thread nD τ).loc main_v0_0) = Cert.ReferenceIdeal.Value.G3 (F := Ideal) (ax m c) (ak m c) (av m c)
      ∧ r.2.mem ((c.tc : Thread nD τ).loc main_v0_1) = Cert.ReferenceIdeal.Value.G4 (F := Ideal) (ax m c) (ak m c) (av m c)
      ∧ r.2.mem ((c.tc : Thread nD τ).loc main_v0_2) = Cert.ReferenceIdeal.Value.G5 (F := Ideal) (ax m c) (ak m c) (av m c)
      ∧ r.2.mem ((c.tc : Thread nD τ).loc main_v0_3) = Cert.ReferenceIdeal.Value.G6 (F := Ideal) (ax m c) (ak m c) (av m c)
      ∧ r.2.mem ((c.tc : Thread nD τ).loc main_v0_4) = Cert.ReferenceIdeal.Value.G7 (F := Ideal) (ax m c) (ak m c) (av m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) := by
  refine (θ_run defs _ _).mono (fun r h c => ?_) (run_of_step m ρ (I m) (Rl m) (step m)
    (fun c f9 f10 f11 p hp => absurd hp (by show ¬ 0 = p.val + 1; omega)))
  obtain ⟨after, hL, hA⟩ := h.1.exists_exact c
  have R : ∀ w : Fin cfg0.W, isRes w = true → ∀ t : Fin cfg0.N, (cfg0.win w).flush t = true → Rl m c w t (after w t) :=
    fun w hw t hf => Dat.toRRel_leaves _ hw (hL w t hf)
  exact ⟨(hA 3).trans (arr3 (ax m c) (ak m c) (av m c) c ((rdats m (I m) (Rl m) c).withAfter after) (R 3 (by decide))),
    (hA 4).trans (arr4 (ax m c) (ak m c) (av m c) c ((rdats m (I m) (Rl m) c).withAfter after) (R 4 (by decide))),
    (hA 5).trans (arr5 (ax m c) (ak m c) (av m c) c ((rdats m (I m) (Rl m) c).withAfter after) (R 5 (by decide))),
    (hA 6).trans (arr6 (ax m c) (ak m c) (av m c) c ((rdats m (I m) (Rl m) c).withAfter after) (R 6 (by decide))),
    (hA 7).trans (arr7 (ax m c) (ak m c) (av m c) c ((rdats m (I m) (Rl m) c).withAfter after) (R 7 (by decide))),
    h.1.arr_in c 0 rfl, h.1.arr_in c 1 rfl, h.1.arr_in c 2 rfl⟩

end Cert.KernelIdeal.Run

end
-- ==== Proof.lean ====
/- The certificate's claims, assembled. -/
module

public import proofs.«01_k».proof.Defs
public import proofs.«01_k».proof.Proof.Frames
public import proofs.«01_k».proof.Proof.Run
public import proofs.«01_k».proof.Proof.Gen.ReferenceIdeal.Value
public import Idealize.ShloMosaic.Adequacy
public import Idealize.ShloMosaic.Init

@[expose] public section

noncomputable section

namespace Cert.Proof

open Idealize.ShloMosaic Idealize.SL.Sem

/-- The kernel and the reference, over the extended reals and from the same arguments, end with equal results: all five arrays. -/
theorem algebraic : @Cert.algebraic_KernelIdeal_ReferenceIdeal Cert.KernelIdeal.Gen.facts Cert.ReferenceIdeal.Gen.facts := by
  intro m g m' g' _ hag
  refine ⟨_, _, _, _, _, Cert.KernelIdeal.Run.run m g, (θ_run _ _ _).mono (fun r h c => ?_) (Cert.ReferenceIdeal.Value.run (F := Ideal) m' g')⟩
  obtain ⟨a0, a1, a2⟩ := hag c
  have e0 : m' ((c.tc : Thread Cert.ReferenceIdeal.nD Cert.ReferenceIdeal.τ).loc Cert.ReferenceIdeal.main_arg0) = Cert.KernelIdeal.Where.ax m c := a0
  have e1 : m' ((c.tc : Thread Cert.ReferenceIdeal.nD Cert.ReferenceIdeal.τ).loc Cert.ReferenceIdeal.main_arg1) = Cert.KernelIdeal.Where.ak m c := a1
  have e2 : m' ((c.tc : Thread Cert.ReferenceIdeal.nD Cert.ReferenceIdeal.τ).loc Cert.ReferenceIdeal.main_arg2) = Cert.KernelIdeal.Where.av m c := a2
  have h' := h c
  refine ⟨h'.1.trans ?_, h'.2.1.trans ?_, h'.2.2.1.trans ?_, h'.2.2.2.1.trans ?_, h'.2.2.2.2.1.trans ?_, h'.2.2.2.2.2⟩ <;> rw [e0, e1, e2]

theorem claim : Cert.Claim := ⟨Cert.Kernel.Gen.facts, Cert.KernelIdeal.Gen.facts, Cert.ReferenceIdeal.Gen.facts,
  quiescent_Kernel, quiescent_KernelIdeal, quiescent_ReferenceIdeal, preserves, algebraic⟩

end Cert.Proof

end
